-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_logits [hPre_finite_logits : Cert.Pre_finite_logits.Facts] (m : (ℓ : Loc Cert.CtxIdeal.nD Cert.CtxIdeal.τ Cert.CtxIdeal.sig) → Buf (Elt Ideal) ℓ) : Prop :=
  ∀ c : Dev Cert.CtxIdeal.nD,
    (Cert.Pre_finite_logits.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))).1 = (fun _ => 1#1)
    ∧ (Cert.Pre_finite_logits.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))).2.1 = (fun _ => 1#1)
    ∧ (Cert.Pre_finite_logits.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))).2.2.1 = (fun _ => 1#1)
    ∧ (Cert.Pre_finite_logits.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))).2.2.2 = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_logits [hPre_finite_logits : Cert.Pre_finite_logits.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_logits.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5))).1 = (fun _ => 1#1)
    ∧ (Cert.Pre_finite_logits.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5))).2.1 = (fun _ => 1#1)
    ∧ (Cert.Pre_finite_logits.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5))).2.2.1 = (fun _ => 1#1)
    ∧ (Cert.Pre_finite_logits.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5))).2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Qg (m : (ℓ : Loc Cert.Qg.nD Cert.Qg.τ Cert.Qg.sig) → Buf (Elt Bits) ℓ) : Prop :=
  True

def Pre_QgIdeal (m : (ℓ : Loc Cert.QgIdeal.nD Cert.QgIdeal.τ Cert.QgIdeal.sig) → Buf (Elt Ideal) ℓ) : Prop :=
  True

def Pre_QgRefIdeal (m : (ℓ : Loc Cert.QgRefIdeal.nD Cert.QgRefIdeal.τ Cert.QgRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ r.2.sem = fun _ => 0)

def quiescent_CtxIdeal_pre_finite_logits [hCtxIdeal : Cert.CtxIdeal.Facts] [hPre_finite_logits : Cert.Pre_finite_logits.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_logits m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5))
      ∧ r.2.sem = fun _ => 0)

def quiescent_CtxRefIdeal_pre_finite_logits [hCtxRefIdeal : Cert.CtxRefIdeal.Facts] [hPre_finite_logits : Cert.Pre_finite_logits.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_logits m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Qg [hQg : Cert.Qg.Facts] : Prop :=
  ∀ (m : (ℓ : Loc Cert.Qg.nD Cert.Qg.τ Cert.Qg.sig) → Buf (Elt Bits) ℓ) (g : Dev Cert.Qg.nD → PrngReg), Pre_Qg m →
    θ_run (Cert.Qg.defs (F := Bits)) (onTc (τ := Cert.Qg.τ) (Cert.Qg.main (F := Bits))) ⟨m, fun _ => 0, g⟩ (fun r => (∀ c : Dev Cert.Qg.nD,
      r.2.mem ((c.tc : Thread Cert.Qg.nD Cert.Qg.τ).loc Cert.Qg.main_arg0) = m ((c.tc : Thread Cert.Qg.nD Cert.Qg.τ).loc Cert.Qg.main_arg0)
      ∧ r.2.mem ((c.tc : Thread Cert.Qg.nD Cert.Qg.τ).loc Cert.Qg.main_arg1) = m ((c.tc : Thread Cert.Qg.nD Cert.Qg.τ).loc Cert.Qg.main_arg1)
      ∧ r.2.mem ((c.tc : Thread Cert.Qg.nD Cert.Qg.τ).loc Cert.Qg.main_arg2) = m ((c.tc : Thread Cert.Qg.nD Cert.Qg.τ).loc Cert.Qg.main_arg2))
      ∧ r.2.sem = fun _ => 0)

def quiescent_QgIdeal [hQgIdeal : Cert.QgIdeal.Facts] : Prop :=
  ∀ (m : (ℓ : Loc Cert.QgIdeal.nD Cert.QgIdeal.τ Cert.QgIdeal.sig) → Buf (Elt Ideal) ℓ) (g : Dev Cert.QgIdeal.nD → PrngReg), Pre_QgIdeal m →
    θ_run (Cert.QgIdeal.defs (F := Ideal)) (onTc (τ := Cert.QgIdeal.τ) (Cert.QgIdeal.main (F := Ideal))) ⟨m, fun _ => 0, g⟩ (fun r => (∀ c : Dev Cert.QgIdeal.nD,
      r.2.mem ((c.tc : Thread Cert.QgIdeal.nD Cert.QgIdeal.τ).loc Cert.QgIdeal.main_arg0) = m ((c.tc : Thread Cert.QgIdeal.nD Cert.QgIdeal.τ).loc Cert.QgIdeal.main_arg0)
      ∧ r.2.mem ((c.tc : Thread Cert.QgIdeal.nD Cert.QgIdeal.τ).loc Cert.QgIdeal.main_arg1) = m ((c.tc : Thread Cert.QgIdeal.nD Cert.QgIdeal.τ).loc Cert.QgIdeal.main_arg1)
      ∧ r.2.mem ((c.tc : Thread Cert.QgIdeal.nD Cert.QgIdeal.τ).loc Cert.QgIdeal.main_arg2) = m ((c.tc : Thread Cert.QgIdeal.nD Cert.QgIdeal.τ).loc Cert.QgIdeal.main_arg2))
      ∧ r.2.sem = fun _ => 0)

def quiescent_QgRefIdeal [hQgRefIdeal : Cert.QgRefIdeal.Facts] : Prop :=
  ∀ (m : (ℓ : Loc Cert.QgRefIdeal.nD Cert.QgRefIdeal.τ Cert.QgRefIdeal.sig) → Buf (Elt Ideal) ℓ) (g : Dev Cert.QgRefIdeal.nD → PrngReg), Pre_QgRefIdeal m →
    θ_run (Cert.QgRefIdeal.defs (F := Ideal)) (onTc (τ := Cert.QgRefIdeal.τ) (Cert.QgRefIdeal.main (F := Ideal))) ⟨m, fun _ => 0, g⟩ (fun r => (∀ c : Dev Cert.QgRefIdeal.nD,
      r.2.mem ((c.tc : Thread Cert.QgRefIdeal.nD Cert.QgRefIdeal.τ).loc Cert.QgRefIdeal.main_arg0) = m ((c.tc : Thread Cert.QgRefIdeal.nD Cert.QgRefIdeal.τ).loc Cert.QgRefIdeal.main_arg0)
      ∧ r.2.mem ((c.tc : Thread Cert.QgRefIdeal.nD Cert.QgRefIdeal.τ).loc Cert.QgRefIdeal.main_arg1) = m ((c.tc : Thread Cert.QgRefIdeal.nD Cert.QgRefIdeal.τ).loc Cert.QgRefIdeal.main_arg1)
      ∧ r.2.mem ((c.tc : Thread Cert.QgRefIdeal.nD Cert.QgRefIdeal.τ).loc Cert.QgRefIdeal.main_arg2) = m ((c.tc : Thread Cert.QgRefIdeal.nD Cert.QgRefIdeal.τ).loc Cert.QgRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3)
      ∧ r.2.mem ((c.tc : Thread Cert.Prenorm.nD Cert.Prenorm.τ).loc Cert.Prenorm.main_arg4) = m ((c.tc : Thread Cert.Prenorm.nD Cert.Prenorm.τ).loc Cert.Prenorm.main_arg4)
      ∧ r.2.mem ((c.tc : Thread Cert.Prenorm.nD Cert.Prenorm.τ).loc Cert.Prenorm.main_arg5) = m ((c.tc : Thread Cert.Prenorm.nD Cert.Prenorm.τ).loc Cert.Prenorm.main_arg5))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
      ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4)
      ∧ r.2.mem ((c.tc : Thread Cert.PrenormIdeal.nD Cert.PrenormIdeal.τ).loc Cert.PrenormIdeal.main_arg5) = m ((c.tc : Thread Cert.PrenormIdeal.nD Cert.PrenormIdeal.τ).loc Cert.PrenormIdeal.main_arg5))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3)
      ∧ r.2.mem ((c.tc : Thread Cert.PrenormRefIdeal.nD Cert.PrenormRefIdeal.τ).loc Cert.PrenormRefIdeal.main_arg4) = m ((c.tc : Thread Cert.PrenormRefIdeal.nD Cert.PrenormRefIdeal.τ).loc Cert.PrenormRefIdeal.main_arg4)
      ∧ r.2.mem ((c.tc : Thread Cert.PrenormRefIdeal.nD Cert.PrenormRefIdeal.τ).loc Cert.PrenormRefIdeal.main_arg5) = m ((c.tc : Thread Cert.PrenormRefIdeal.nD Cert.PrenormRefIdeal.τ).loc Cert.PrenormRefIdeal.main_arg5))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def preserves_Ctx_CtxIdeal : Prop :=
  IdealRules.named_const.Statement Cert.CtxIdeal.κ "log2e" .f32 0x3FB8AA3B#32 (((Real.log 2)⁻¹ : ℝ) : EReal)
  ∧ IdealRules.named_const.Statement Cert.CtxIdeal.κ "logit_scale" .f32 0x3E0293EE#32 (((Real.log 2)⁻¹ * (Real.sqrt 128)⁻¹ : ℝ) : EReal)

def algebraic_CtxIdeal_CtxRefIdeal_pre_finite_logits [hCtxIdeal : Cert.CtxIdeal.Facts] [hCtxRefIdeal : Cert.CtxRefIdeal.Facts] [hPre_finite_logits : Cert.Pre_finite_logits.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_logits m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v62) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)) (v2 : (c : Dev Cert.ProjIdeal.nD) → Buf (Elt Ideal) ((c.tc : Thread Cert.ProjIdeal.nD Cert.ProjIdeal.τ).loc Cert.ProjIdeal.main_v1_2)) (v3 : (c : Dev Cert.ProjIdeal.nD) → Buf (Elt Ideal) ((c.tc : Thread Cert.ProjIdeal.nD Cert.ProjIdeal.τ).loc Cert.ProjIdeal.main_v1_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_v1_2) = v2 c
          ∧ r.2.mem ((c.tc : Thread Cert.ProjIdeal.nD Cert.ProjIdeal.τ).loc Cert.ProjIdeal.main_v1_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_v4) = v1 c
          ∧ r.2.mem ((c.tc : Thread Cert.ProjRefIdeal.nD Cert.ProjRefIdeal.τ).loc Cert.ProjRefIdeal.main_v5) = v2 c
          ∧ r.2.mem ((c.tc : Thread Cert.ProjRefIdeal.nD Cert.ProjRefIdeal.τ).loc Cert.ProjRefIdeal.main_v7) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Qg_QgIdeal : Prop :=
  True

def algebraic_QgIdeal_QgRefIdeal [hQgIdeal : Cert.QgIdeal.Facts] [hQgRefIdeal : Cert.QgRefIdeal.Facts] : Prop :=
  ∀ (m : (ℓ : Loc Cert.QgIdeal.nD Cert.QgIdeal.τ Cert.QgIdeal.sig) → Buf (Elt Ideal) ℓ) (g : Dev Cert.QgIdeal.nD → PrngReg)
    (m' : (ℓ : Loc Cert.QgRefIdeal.nD Cert.QgRefIdeal.τ Cert.QgRefIdeal.sig) → Buf (Elt Ideal) ℓ) (g' : Dev Cert.QgRefIdeal.nD → PrngReg), Pre_QgIdeal m →
    (∀ c : Dev Cert.QgIdeal.nD,
      m' ((c.tc : Thread Cert.QgRefIdeal.nD Cert.QgRefIdeal.τ).loc Cert.QgRefIdeal.main_arg0) = m ((c.tc : Thread Cert.QgIdeal.nD Cert.QgIdeal.τ).loc Cert.QgIdeal.main_arg0)
      ∧ m' ((c.tc : Thread Cert.QgRefIdeal.nD Cert.QgRefIdeal.τ).loc Cert.QgRefIdeal.main_arg1) = m ((c.tc : Thread Cert.QgIdeal.nD Cert.QgIdeal.τ).loc Cert.QgIdeal.main_arg1)
      ∧ m' ((c.tc : Thread Cert.QgRefIdeal.nD Cert.QgRefIdeal.τ).loc Cert.QgRefIdeal.main_arg2) = m ((c.tc : Thread Cert.QgIdeal.nD Cert.QgIdeal.τ).loc Cert.QgIdeal.main_arg2)) →
    ∃ (v0 : (c : Dev Cert.QgIdeal.nD) → Buf (Elt Ideal) ((c.tc : Thread Cert.QgIdeal.nD Cert.QgIdeal.τ).loc Cert.QgIdeal.main_v0_0)) (v1 : (c : Dev Cert.QgIdeal.nD) → Buf (Elt Ideal) ((c.tc : Thread Cert.QgIdeal.nD Cert.QgIdeal.τ).loc Cert.QgIdeal.main_v0_1)),
      θ_run (Cert.QgIdeal.defs (F := Ideal)) (onTc (τ := Cert.QgIdeal.τ) (Cert.QgIdeal.main (F := Ideal))) ⟨m, fun _ => 0, g⟩ (fun r => ∀ c : Dev Cert.QgIdeal.nD,
          r.2.mem ((c.tc : Thread Cert.QgIdeal.nD Cert.QgIdeal.τ).loc Cert.QgIdeal.main_v0_0) = v0 c
          ∧ r.2.mem ((c.tc : Thread Cert.QgIdeal.nD Cert.QgIdeal.τ).loc Cert.QgIdeal.main_v0_1) = v1 c
          ∧ r.2.mem ((c.tc : Thread Cert.QgIdeal.nD Cert.QgIdeal.τ).loc Cert.QgIdeal.main_arg0) = m ((c.tc : Thread Cert.QgIdeal.nD Cert.QgIdeal.τ).loc Cert.QgIdeal.main_arg0)
          ∧ r.2.mem ((c.tc : Thread Cert.QgIdeal.nD Cert.QgIdeal.τ).loc Cert.QgIdeal.main_arg1) = m ((c.tc : Thread Cert.QgIdeal.nD Cert.QgIdeal.τ).loc Cert.QgIdeal.main_arg1)
          ∧ r.2.mem ((c.tc : Thread Cert.QgIdeal.nD Cert.QgIdeal.τ).loc Cert.QgIdeal.main_arg2) = m ((c.tc : Thread Cert.QgIdeal.nD Cert.QgIdeal.τ).loc Cert.QgIdeal.main_arg2))
      ∧ θ_run (Cert.QgRefIdeal.defs (F := Ideal)) (onTc (τ := Cert.QgRefIdeal.τ) (Cert.QgRefIdeal.main (F := Ideal))) ⟨m', fun _ => 0, g'⟩ (fun r => ∀ c : Dev Cert.QgRefIdeal.nD,
          r.2.mem ((c.tc : Thread Cert.QgRefIdeal.nD Cert.QgRefIdeal.τ).loc Cert.QgRefIdeal.main_v7) = v0 c
          ∧ r.2.mem ((c.tc : Thread Cert.QgRefIdeal.nD Cert.QgRefIdeal.τ).loc Cert.QgRefIdeal.main_v8) = v1 c
          ∧ r.2.mem ((c.tc : Thread Cert.QgRefIdeal.nD Cert.QgRefIdeal.τ).loc Cert.QgRefIdeal.main_arg0) = m' ((c.tc : Thread Cert.QgRefIdeal.nD Cert.QgRefIdeal.τ).loc Cert.QgRefIdeal.main_arg0)
          ∧ r.2.mem ((c.tc : Thread Cert.QgRefIdeal.nD Cert.QgRefIdeal.τ).loc Cert.QgRefIdeal.main_arg1) = m' ((c.tc : Thread Cert.QgRefIdeal.nD Cert.QgRefIdeal.τ).loc Cert.QgRefIdeal.main_arg1)
          ∧ r.2.mem ((c.tc : Thread Cert.QgRefIdeal.nD Cert.QgRefIdeal.τ).loc Cert.QgRefIdeal.main_arg2) = m' ((c.tc : Thread Cert.QgRefIdeal.nD Cert.QgRefIdeal.τ).loc Cert.QgRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v16) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)
      ∧ m' ((c.tc : Thread Cert.PrenormRefIdeal.nD Cert.PrenormRefIdeal.τ).loc Cert.PrenormRefIdeal.main_arg4) = m ((c.tc : Thread Cert.PrenormIdeal.nD Cert.PrenormIdeal.τ).loc Cert.PrenormIdeal.main_arg4)
      ∧ m' ((c.tc : Thread Cert.PrenormRefIdeal.nD Cert.PrenormRefIdeal.τ).loc Cert.PrenormRefIdeal.main_arg5) = m ((c.tc : Thread Cert.PrenormIdeal.nD Cert.PrenormIdeal.τ).loc Cert.PrenormIdeal.main_arg5)) →
    ∃ (v0 : (c : Dev Cert.PrenormIdeal.nD) → Buf (Elt Ideal) ((c.tc : Thread Cert.PrenormIdeal.nD Cert.PrenormIdeal.τ).loc Cert.PrenormIdeal.main_v1_0)) (v1 : (c : Dev Cert.PrenormIdeal.nD) → Buf (Elt Ideal) ((c.tc : Thread Cert.PrenormIdeal.nD Cert.PrenormIdeal.τ).loc Cert.PrenormIdeal.main_v1_1)) (v2 : (c : Dev Cert.PrenormIdeal.nD) → Buf (Elt Ideal) ((c.tc : Thread Cert.PrenormIdeal.nD Cert.PrenormIdeal.τ).loc Cert.PrenormIdeal.main_v1_2)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v1_0) = v0 c
          ∧ r.2.mem ((c.tc : Thread Cert.PrenormIdeal.nD Cert.PrenormIdeal.τ).loc Cert.PrenormIdeal.main_v1_1) = v1 c
          ∧ r.2.mem ((c.tc : Thread Cert.PrenormIdeal.nD Cert.PrenormIdeal.τ).loc Cert.PrenormIdeal.main_v1_2) = v2 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
          ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4)
          ∧ r.2.mem ((c.tc : Thread Cert.PrenormIdeal.nD Cert.PrenormIdeal.τ).loc Cert.PrenormIdeal.main_arg5) = m ((c.tc : Thread Cert.PrenormIdeal.nD Cert.PrenormIdeal.τ).loc Cert.PrenormIdeal.main_arg5))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v9) = v0 c
          ∧ r.2.mem ((c.tc : Thread Cert.PrenormRefIdeal.nD Cert.PrenormRefIdeal.τ).loc Cert.PrenormRefIdeal.main_v20) = v1 c
          ∧ r.2.mem ((c.tc : Thread Cert.PrenormRefIdeal.nD Cert.PrenormRefIdeal.τ).loc Cert.PrenormRefIdeal.main_v22) = v2 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3)
          ∧ r.2.mem ((c.tc : Thread Cert.PrenormRefIdeal.nD Cert.PrenormRefIdeal.τ).loc Cert.PrenormRefIdeal.main_arg4) = m' ((c.tc : Thread Cert.PrenormRefIdeal.nD Cert.PrenormRefIdeal.τ).loc Cert.PrenormRefIdeal.main_arg4)
          ∧ r.2.mem ((c.tc : Thread Cert.PrenormRefIdeal.nD Cert.PrenormRefIdeal.τ).loc Cert.PrenormRefIdeal.main_arg5) = m' ((c.tc : Thread Cert.PrenormRefIdeal.nD Cert.PrenormRefIdeal.τ).loc Cert.PrenormRefIdeal.main_arg5))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0_0)) (v1 : (c : Dev Cert.KvIdeal.nD) → Buf (Elt Ideal) ((c.tc : Thread Cert.KvIdeal.nD Cert.KvIdeal.τ).loc Cert.KvIdeal.main_v0_1)) (v2 : (c : Dev Cert.KvIdeal.nD) → Buf (Elt Ideal) ((c.tc : Thread Cert.KvIdeal.nD Cert.KvIdeal.τ).loc Cert.KvIdeal.main_v0_2)) (v3 : (c : Dev Cert.KvIdeal.nD) → Buf (Elt Ideal) ((c.tc : Thread Cert.KvIdeal.nD Cert.KvIdeal.τ).loc Cert.KvIdeal.main_v0_3)) (v4 : (c : Dev Cert.KvIdeal.nD) → Buf (Elt Ideal) ((c.tc : Thread Cert.KvIdeal.nD Cert.KvIdeal.τ).loc Cert.KvIdeal.main_v0_4)) (v5 : (c : Dev Cert.KvIdeal.nD) → Buf (Elt Ideal) ((c.tc : Thread Cert.KvIdeal.nD Cert.KvIdeal.τ).loc Cert.KvIdeal.main_v0_5)) (v6 : (c : Dev Cert.KvIdeal.nD) → Buf (Elt Ideal) ((c.tc : Thread Cert.KvIdeal.nD Cert.KvIdeal.τ).loc Cert.KvIdeal.main_v0_6)) (v7 : (c : Dev Cert.KvIdeal.nD) → Buf (Elt Ideal) ((c.tc : Thread Cert.KvIdeal.nD Cert.KvIdeal.τ).loc Cert.KvIdeal.main_v0_7)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0_0) = v0 c
          ∧ r.2.mem ((c.tc : Thread Cert.KvIdeal.nD Cert.KvIdeal.τ).loc Cert.KvIdeal.main_v0_1) = v1 c
          ∧ r.2.mem ((c.tc : Thread Cert.KvIdeal.nD Cert.KvIdeal.τ).loc Cert.KvIdeal.main_v0_2) = v2 c
          ∧ r.2.mem ((c.tc : Thread Cert.KvIdeal.nD Cert.KvIdeal.τ).loc Cert.KvIdeal.main_v0_3) = v3 c
          ∧ r.2.mem ((c.tc : Thread Cert.KvIdeal.nD Cert.KvIdeal.τ).loc Cert.KvIdeal.main_v0_4) = v4 c
          ∧ r.2.mem ((c.tc : Thread Cert.KvIdeal.nD Cert.KvIdeal.τ).loc Cert.KvIdeal.main_v0_5) = v5 c
          ∧ r.2.mem ((c.tc : Thread Cert.KvIdeal.nD Cert.KvIdeal.τ).loc Cert.KvIdeal.main_v0_6) = v6 c
          ∧ r.2.mem ((c.tc : Thread Cert.KvIdeal.nD Cert.KvIdeal.τ).loc Cert.KvIdeal.main_v0_7) = v7 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v7) = v0 c
          ∧ r.2.mem ((c.tc : Thread Cert.KvRefIdeal.nD Cert.KvRefIdeal.τ).loc Cert.KvRefIdeal.main_v8) = v1 c
          ∧ r.2.mem ((c.tc : Thread Cert.KvRefIdeal.nD Cert.KvRefIdeal.τ).loc Cert.KvRefIdeal.main_v9) = v2 c
          ∧ r.2.mem ((c.tc : Thread Cert.KvRefIdeal.nD Cert.KvRefIdeal.τ).loc Cert.KvRefIdeal.main_v10) = v3 c
          ∧ r.2.mem ((c.tc : Thread Cert.KvRefIdeal.nD Cert.KvRefIdeal.τ).loc Cert.KvRefIdeal.main_v11) = v4 c
          ∧ r.2.mem ((c.tc : Thread Cert.KvRefIdeal.nD Cert.KvRefIdeal.τ).loc Cert.KvRefIdeal.main_v12) = v5 c
          ∧ r.2.mem ((c.tc : Thread Cert.KvRefIdeal.nD Cert.KvRefIdeal.τ).loc Cert.KvRefIdeal.main_v13) = v6 c
          ∧ r.2.mem ((c.tc : Thread Cert.KvRefIdeal.nD Cert.KvRefIdeal.τ).loc Cert.KvRefIdeal.main_v14) = v7 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v22) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def Claim : Prop :=
  ∃ (hCtx : Cert.Ctx.Facts) (hCtxIdeal : Cert.CtxIdeal.Facts) (hCtxRefIdeal : Cert.CtxRefIdeal.Facts) (hProj : Cert.Proj.Facts) (hProjIdeal : Cert.ProjIdeal.Facts) (hProjRefIdeal : Cert.ProjRefIdeal.Facts) (hQg : Cert.Qg.Facts) (hQgIdeal : Cert.QgIdeal.Facts) (hQgRefIdeal : Cert.QgRefIdeal.Facts) (hPost : Cert.Post.Facts) (hPostIdeal : Cert.PostIdeal.Facts) (hPostRefIdeal : Cert.PostRefIdeal.Facts) (hPrenorm : Cert.Prenorm.Facts) (hPrenormIdeal : Cert.PrenormIdeal.Facts) (hPrenormRefIdeal : Cert.PrenormRefIdeal.Facts) (hKv : Cert.Kv.Facts) (hKvIdeal : Cert.KvIdeal.Facts) (hKvRefIdeal : Cert.KvRefIdeal.Facts) (hNorm : Cert.Norm.Facts) (hNormIdeal : Cert.NormIdeal.Facts) (hNormRefIdeal : Cert.NormRefIdeal.Facts) (hPre_finite_logits : Cert.Pre_finite_logits.Facts),
    quiescent_Ctx (hCtx := hCtx)
    ∧ quiescent_CtxIdeal (hCtxIdeal := hCtxIdeal)
    ∧ quiescent_CtxIdeal_pre_finite_logits (hCtxIdeal := hCtxIdeal) (hPre_finite_logits := hPre_finite_logits)
    ∧ quiescent_CtxRefIdeal (hCtxRefIdeal := hCtxRefIdeal)
    ∧ quiescent_CtxRefIdeal_pre_finite_logits (hCtxRefIdeal := hCtxRefIdeal) (hPre_finite_logits := hPre_finite_logits)
    ∧ quiescent_Proj (hProj := hProj)
    ∧ quiescent_ProjIdeal (hProjIdeal := hProjIdeal)
    ∧ quiescent_ProjRefIdeal (hProjRefIdeal := hProjRefIdeal)
    ∧ quiescent_Qg (hQg := hQg)
    ∧ quiescent_QgIdeal (hQgIdeal := hQgIdeal)
    ∧ quiescent_QgRefIdeal (hQgRefIdeal := hQgRefIdeal)
    ∧ quiescent_Post (hPost := hPost)
    ∧ quiescent_PostIdeal (hPostIdeal := hPostIdeal)
    ∧ quiescent_PostRefIdeal (hPostRefIdeal := hPostRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Kv (hKv := hKv)
    ∧ quiescent_KvIdeal (hKvIdeal := hKvIdeal)
    ∧ quiescent_KvRefIdeal (hKvRefIdeal := hKvRefIdeal)
    ∧ quiescent_Norm (hNorm := hNorm)
    ∧ quiescent_NormIdeal (hNormIdeal := hNormIdeal)
    ∧ quiescent_NormRefIdeal (hNormRefIdeal := hNormRefIdeal)
    ∧ preserves_Ctx_CtxIdeal
    ∧ algebraic_CtxIdeal_CtxRefIdeal_pre_finite_logits (hCtxIdeal := hCtxIdeal) (hCtxRefIdeal := hCtxRefIdeal) (hPre_finite_logits := hPre_finite_logits)
    ∧ preserves_Proj_ProjIdeal
    ∧ algebraic_ProjIdeal_ProjRefIdeal (hProjIdeal := hProjIdeal) (hProjRefIdeal := hProjRefIdeal)
    ∧ preserves_Qg_QgIdeal
    ∧ algebraic_QgIdeal_QgRefIdeal (hQgIdeal := hQgIdeal) (hQgRefIdeal := hQgRefIdeal)
    ∧ preserves_Post_PostIdeal
    ∧ algebraic_PostIdeal_PostRefIdeal (hPostIdeal := hPostIdeal) (hPostRefIdeal := hPostRefIdeal)
    ∧ preserves_Prenorm_PrenormIdeal
    ∧ algebraic_PrenormIdeal_PrenormRefIdeal (hPrenormIdeal := hPrenormIdeal) (hPrenormRefIdeal := hPrenormRefIdeal)
    ∧ preserves_Kv_KvIdeal
    ∧ algebraic_KvIdeal_KvRefIdeal (hKvIdeal := hKvIdeal) (hKvRefIdeal := hKvRefIdeal)
    ∧ preserves_Norm_NormIdeal
    ∧ algebraic_NormIdeal_NormRefIdeal (hNormIdeal := hNormIdeal) (hNormRefIdeal := hNormRefIdeal)
-- ==== Pre_finite_logits.lean ====
abbrev S16 : Shape := ⟨1, ![16]⟩
abbrev S8192x8192 : Shape := ⟨2, ![8192, 8192]⟩
abbrev S8192x512 : Shape := ⟨2, ![8192, 512]⟩
abbrev S8192x2048 : Shape := ⟨2, ![8192, 2048]⟩
abbrev S_ : Shape := ⟨0, ![]⟩
abbrev S8192x4096 : Shape := ⟨2, ![8192, 4096]⟩

class Facts : Prop where
  bcast_S_S16 : S_.BroadcastsInDim S16 (![] : Fin 0 → Fin S16.rank)
  slices_S8192x8192_S8192x4096_0_0 : S8192x8192.Slices ![0, 0] S8192x4096
  bitsLt_bf16_f32 : FTy.bits .bf16 < FTy.bits .f32
  bcast_S_S8192x4096 : S_.BroadcastsInDim S8192x4096 (![] : Fin 0 → Fin S8192x4096.rank)
  bcast_S_S8192x512 : S_.BroadcastsInDim S8192x512 (![] : Fin 0 → Fin S8192x512.rank)
  bcast_S_S8192x2048 : S_.BroadcastsInDim S8192x2048 (![] : Fin 0 → Fin S8192x2048.rank)

variable [Facts]

def fn {F : FTy → Type} [FloatOps F] (main_arg0 : FVec F S16 .f32) (main_arg1 : FVec F S8192x8192 .bf16) (main_arg2 : FVec F S8192x512 .bf16) (main_arg3 : FVec F S8192x512 .bf16) (main_arg4 : FVec F S8192x2048 .bf16) (main_arg5 : FVec F S8192x2048 .bf16) : IVec S16 1 × IVec S8192x4096 1 × IVec S8192x512 1 × IVec S8192x2048 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_v3 : FVec F S8192x4096 .bf16 := (extractStridedSlice S8192x4096 ![0, 0] · slices_S8192x8192_S8192x4096_0_0) main_arg1
  let main_v4 : FVec F S8192x4096 .f32 := (extf .f32 · bitsLt_bf16_f32) main_v3
  let main_v5 : FVec F S8192x4096 .f32 := Host.absf main_v4
  let main_cst_0 : FVec F S_ .f32 := constant S_ .f32 0x7F800000#32
  let main_v6 : FVec F S8192x4096 .f32 := broadcastInDim S8192x4096 ![] bcast_S_S8192x4096 main_cst_0
  let main_v7 : IVec S8192x4096 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8192x2048 .f32 := (extf .f32 · bitsLt_bf16_f32) main_arg4
  let main_v13 : FVec F S8192x2048 .f32 := Host.absf main_v12
  let main_cst_2 : FVec F S_ .f32 := constant S_ .f32 0x7F800000#32
  let main_v14 : FVec F S8192x2048 .f32 := broadcastInDim S8192x2048 ![] bcast_S_S8192x2048 main_cst_2
  let main_v15 : IVec S8192x2048 1 := cmpf .olt main_v13 main_v14
  (main_v2, main_v7, main_v11, main_v15)
-- ==== Ctx.lean ====
abbrev S16 : Shape := ⟨1, ![16]⟩
abbrev S8192x8192 : Shape := ⟨2, ![8192, 8192]⟩
abbrev S8192x512 : Shape := ⟨2, ![8192, 512]⟩
abbrev S8192x2048 : Shape := ⟨2, ![8192, 2048]⟩
abbrev S8192x4096 : Shape := ⟨2, ![8192, 4096]⟩
abbrev S256x8192 : Shape := ⟨2, ![256, 8192]⟩
abbrev S256x512 : Shape := ⟨2, ![256, 512]⟩
abbrev S256x2048 : Shape := ⟨2, ![256, 2048]⟩
abbrev S256x4096 : Shape := ⟨2, ![256, 4096]⟩
abbrev S1024x256 : Shape := ⟨2, ![1024, 256]⟩
abbrev S256x128 : Shape := ⟨2, ![256, 128]⟩
abbrev S1024x128 : Shape := ⟨2, ![1024, 128]⟩
abbrev S1 : Shape := ⟨1, ![1]⟩
abbrev S256x1 : Shape := ⟨2, ![256, 1]⟩
abbrev S1024x1 : Shape := ⟨2, ![1024, 1]⟩
abbrev S1024 : Shape := ⟨1, ![1024]⟩
abbrev S256x256 : Shape := ⟨2, ![256, 256]⟩

abbrev nBuf : Space → Nat
  | .hbm => 7
  | .vmem => 14
  | .smem => 1
  | _ => 0

abbrev bufTy : (tb : Table) → Fin (tcTables nBuf tb) → BufTy
  | .hbm, ⟨0, _⟩ => ⟨S16, .f32⟩
  | .hbm, ⟨1, _⟩ => ⟨S8192x8192, .bf16⟩
  | .hbm, ⟨2, _⟩ => ⟨S8192x512, .bf16⟩
  | .hbm, ⟨3, _⟩ => ⟨S8192x512, .bf16⟩
  | .hbm, ⟨4, _⟩ => ⟨S8192x2048, .bf16⟩
  | .hbm, ⟨5, _⟩ => ⟨S8192x2048, .bf16⟩
  | .hbm, ⟨6, _⟩ => ⟨S8192x4096, .bf16⟩
  | .local _ .vmem, ⟨0, _⟩ => ⟨S256x8192, .bf16⟩
  | .local _ .vmem, ⟨1, _⟩ => ⟨S256x8192, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x4096, .bf16⟩
  | .local _ .vmem, ⟨11, _⟩ => ⟨S256x4096, .bf16⟩
  | .local _ .vmem, ⟨12, _⟩ => ⟨S1024x256, .f32⟩
  | .local _ .vmem, ⟨13, _⟩ => ⟨S1024x256, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CtxIdeal.lean ====
variable {F : FTy → Type} [FloatOps F] [Named F]
def κ : String → Option EReal := fun
  | "log2e" => some (((Real.log 2)⁻¹ : ℝ) : EReal)
  | "logit_scale" => some (((Real.log 2)⁻¹ * (Real.sqrt 128)⁻¹ : ℝ) : EReal)
  | _ => none
-- ==== CtxRefIdeal.lean ====
abbrev S16 : Shape := ⟨1, ![16]⟩
abbrev S8192x8192 : Shape := ⟨2, ![8192, 8192]⟩
abbrev S8192x512 : Shape := ⟨2, ![8192, 512]⟩
abbrev S8192x2048 : Shape := ⟨2, ![8192, 2048]⟩
abbrev S8192x4096 : Shape := ⟨2, ![8192, 4096]⟩
abbrev S32x256x16x128 : Shape := ⟨4, ![32, 256, 16, 128]⟩
abbrev S32x256x4x128 : Shape := ⟨4, ![32, 256, 4, 128]⟩
abbrev S32x256x4x4x128 : Shape := ⟨5, ![32, 256, 4, 4, 128]⟩
abbrev S32x4x256x256x4 : Shape := ⟨5, ![32, 4, 256, 256, 4]⟩
abbrev S32x4x4x256x256 : Shape := ⟨5, ![32, 4, 4, 256, 256]⟩
abbrev S_ : Shape := ⟨0, ![]⟩
abbrev S4x4x1x1 : Shape := ⟨4, ![4, 4, 1, 1]⟩
abbrev S32x4x4x256x1 : Shape := ⟨5, ![32, 4, 4, 256, 1]⟩
abbrev S32x4x4x256x257 : Shape := ⟨5, ![32, 4, 4, 256, 257]⟩
abbrev S32x4x4x256 : Shape := ⟨4, ![32, 4, 4, 256]⟩
abbrev S32x4x128x4x256 : Shape := ⟨5, ![32, 4, 128, 4, 256]⟩
abbrev S32x256x2048 : Shape := ⟨3, ![32, 256, 2048]⟩
abbrev S32x256x16x1x128 : Shape := ⟨5, ![32, 256, 16, 1, 128]⟩
abbrev S32x16x256x256x1 : Shape := ⟨5, ![32, 16, 256, 256, 1]⟩
abbrev S32x16x1x256x256 : Shape := ⟨5, ![32, 16, 1, 256, 256]⟩
abbrev S32x16x1x256 : Shape := ⟨4, ![32, 16, 1, 256]⟩
abbrev S32x16x1x256x1 : Shape := ⟨5, ![32, 16, 1, 256, 1]⟩
abbrev S32x16x128x1x256 : Shape := ⟨5, ![32, 16, 128, 1, 256]⟩
abbrev S32x256x4096 : Shape := ⟨3, ![32, 256, 4096]⟩

abbrev nBuf : Space → Nat
  | .hbm => 85
  | .vmem => 0
  | .smem => 0
  | _ => 0

abbrev bufTy : (tb : Table) → Fin (tcTables nBuf tb) → BufTy
  | .hbm, ⟨0, _⟩ => ⟨S16, .f32⟩
  | .hbm, ⟨1, _⟩ => ⟨S8192x8192, .bf16⟩
  | .hbm, ⟨2, _⟩ => ⟨S8192x512, .bf16⟩
  | .hbm, ⟨3, _⟩ => ⟨S8192x512, .bf16⟩
  | .hbm, ⟨4, _⟩ => ⟨S8192x2048, .bf16⟩
  | .hbm, ⟨5, _⟩ => ⟨S8192x2048, .bf16⟩
  | .hbm, ⟨6, _⟩ => ⟨S8192x8192, .f32⟩
  | .hbm, ⟨7, _⟩ => ⟨S8192x512, .f32⟩
  | .hbm, ⟨8, _⟩ => ⟨S8192x512, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x4096, .f32⟩
  | .hbm, ⟨14, _⟩ => ⟨S32x256x16x128, .f32⟩
  | .hbm, ⟨15, _⟩ => ⟨S32x256x4x128, .f32⟩
  | .hbm, ⟨16, _⟩ => ⟨S32x256x4x128, .f32⟩
  | .hbm, ⟨17, _⟩ => ⟨S32x256x4x4x128, .f32⟩
  | .hbm, ⟨18, _⟩ => ⟨S32x4x256x256x4, .f32⟩
  | .hbm, ⟨19, _⟩ => ⟨S32x4x4x256x256, .f32⟩
  | .hbm, ⟨20, _⟩ => ⟨S_, .f32⟩
  | .hbm, ⟨21, _⟩ => ⟨S_, .f32⟩
  | .hbm, ⟨22, _⟩ => ⟨S32x4x4x256x256, .f32⟩
  | .hbm, ⟨23, _⟩ => ⟨S32x4x4x256x256, .f32⟩
  | .hbm, ⟨24, _⟩ => ⟨S4x4x1x1, .f32⟩
  | .hbm, ⟨25, _⟩ => ⟨S32x4x4x256x1, .f32⟩
  | .hbm, ⟨26, _⟩ => ⟨S32x4x4x256x257, .f32⟩
  | .hbm, ⟨27, _⟩ => ⟨S_, .f32⟩
  | .hbm, ⟨28, _⟩ => ⟨S32x4x4x256, .f32⟩
  | .hbm, ⟨29, _⟩ => ⟨S_, .f32⟩
  | .hbm, ⟨30, _⟩ => ⟨S32x4x4x256, .f32⟩
  | .hbm, ⟨31, _⟩ => ⟨S32x4x4x256, .f32⟩
  | .hbm, ⟨32, _⟩ => ⟨S32x4x4x256x1, .f32⟩
  | .hbm, ⟨33, _⟩ => ⟨S32x4x4x256x257, .f32⟩
  | .hbm, ⟨34, _⟩ => ⟨S32x4x4x256x257, .f32⟩
  | .hbm, ⟨35, _⟩ => ⟨S32x4x4x256x257, .f32⟩
  | .hbm, ⟨36, _⟩ => ⟨S_, .f32⟩
  | .hbm, ⟨37, _⟩ => ⟨S32x4x4x256, .f32⟩
  | .hbm, ⟨38, _⟩ => ⟨S32x4x4x256x1, .f32⟩
  | .hbm, ⟨39, _⟩ => ⟨S32x4x4x256x257, .f32⟩
  | .hbm, ⟨40, _⟩ => ⟨S32x4x4x256x257, .f32⟩
  | .hbm, ⟨41, _⟩ => ⟨S32x4x4x256x256, .f32⟩
  | .hbm, ⟨42, _⟩ => ⟨S32x4x128x4x256, .f32⟩
  | .hbm, ⟨43, _⟩ => ⟨S32x256x4x4x128, .f32⟩
  | .hbm, ⟨44, _⟩ => ⟨S32x256x2048, .f32⟩
  | .hbm, ⟨45, _⟩ => ⟨S32x256x16x128, .f32⟩
  | .hbm, ⟨46, _⟩ => ⟨S32x256x16x128, .f32⟩
  | .hbm, ⟨47, _⟩ => ⟨S32x256x16x128, .f32⟩
  | .hbm, ⟨48, _⟩ => ⟨S32x256x16x1x128, .f32⟩
  | .hbm, ⟨49, _⟩ => ⟨S32x16x256x256x1, .f32⟩
  | .hbm, ⟨50, _⟩ => ⟨S32x16x1x256x256, .f32⟩
  | .hbm, ⟨51, _⟩ => ⟨S_, .f32⟩
  | .hbm, ⟨52, _⟩ => ⟨S_, .f32⟩
  | .hbm, ⟨53, _⟩ => ⟨S32x16x1x256x256, .f32⟩
  | .hbm, ⟨54, _⟩ => ⟨S32x16x1x256x256, .f32⟩
  | .hbm, ⟨55, _⟩ => ⟨S_, .f32⟩
  | .hbm, ⟨56, _⟩ => ⟨S32x16x1x256, .f32⟩
  | .hbm, ⟨57, _⟩ => ⟨S_, .f32⟩
  | .hbm, ⟨58, _⟩ => ⟨S32x16x1x256, .f32⟩
  | .hbm, ⟨59, _⟩ => ⟨S32x16x1x256, .f32⟩
  | .hbm, ⟨60, _⟩ => ⟨S32x16x1x256x1, .f32⟩
  | .hbm, ⟨61, _⟩ => ⟨S32x16x1x256x256, .f32⟩
  | .hbm, ⟨62, _⟩ => ⟨S32x16x1x256x256, .f32⟩
  | .hbm, ⟨63, _⟩ => ⟨S32x16x1x256x256, .f32⟩
  | .hbm, ⟨64, _⟩ => ⟨S_, .f32⟩
  | .hbm, ⟨65, _⟩ => ⟨S32x16x1x256, .f32⟩
  | .hbm, ⟨66, _⟩ => ⟨S32x16x1x256x1, .f32⟩
  | .hbm, ⟨67, _⟩ => ⟨S32x16x1x256x256, .f32⟩
  | .hbm, ⟨68, _⟩ => ⟨S32x16x1x256x256, .f32⟩
  | .hbm, ⟨69, _⟩ => ⟨S32x16x128x1x256, .f32⟩
  | .hbm, ⟨70, _⟩ => ⟨S32x256x16x1x128, .f32⟩
  | .hbm, ⟨71, _⟩ => ⟨S32x256x2048, .f32⟩
  | .hbm, ⟨72, _⟩ => ⟨S32x256x4096, .f32⟩
  | .hbm, ⟨73, _⟩ => ⟨S8192x4096, .f32⟩
  | .hbm, ⟨74, _⟩ => ⟨S8192x4096, .f32⟩
  | .hbm, ⟨75, _⟩ => ⟨S8192x4096, .f32⟩
  | .hbm, ⟨76, _⟩ => ⟨S_, .f32⟩
  | .hbm, ⟨77, _⟩ => ⟨S8192x4096, .f32⟩
  | .hbm, ⟨78, _⟩ => ⟨S8192x4096, .f32⟩
  | .hbm, ⟨79, _⟩ => ⟨S_, .f32⟩
  | .hbm, ⟨80, _⟩ => ⟨S8192x4096, .f32⟩
  | .hbm, ⟨81, _⟩ => ⟨S8192x4096, .f32⟩
  | .hbm, ⟨82, _⟩ => ⟨S8192x4096, .f32⟩
  | .hbm, ⟨83, _⟩ => ⟨S8192x4096, .f32⟩
  | .hbm, ⟨84, _⟩ => ⟨S8192x4096, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Proj.lean ====
abbrev S8192x4096 : Shape := ⟨2, ![8192, 4096]⟩
abbrev S4096x13312 : Shape := ⟨2, ![4096, 13312]⟩
abbrev S4096x4096 : Shape := ⟨2, ![4096, 4096]⟩
abbrev S4x1024x1024 : Shape := ⟨3, ![4, 1024, 1024]⟩
abbrev S4096x1024 : Shape := ⟨2, ![4096, 1024]⟩
abbrev S8192x13312 : Shape := ⟨2, ![8192, 13312]⟩
abbrev S1024x4096 : Shape := ⟨2, ![1024, 4096]⟩
abbrev S64x4096 : Shape := ⟨2, ![64, 4096]⟩
abbrev S64x1024 : Shape := ⟨2, ![64, 1024]⟩
abbrev S1024x1024 : Shape := ⟨2, ![1024, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S4096x13312, .bf16⟩
  | .hbm, ⟨2, _⟩ => ⟨S4096x4096, .f32⟩
  | .hbm, ⟨3, _⟩ => ⟨S4096x4096, .f32⟩
  | .hbm, ⟨4, _⟩ => ⟨S4x1024x1024, .f32⟩
  | .hbm, ⟨5, _⟩ => ⟨S4096x1024, .f32⟩
  | .hbm, ⟨6, _⟩ => ⟨S8192x13312, .bf16⟩
  | .hbm, ⟨7, _⟩ => ⟨S4096x4096, .bf16⟩
  | .hbm, ⟨8, _⟩ => ⟨S4096x4096, .bf16⟩
  | .hbm, ⟨9, _⟩ => ⟨S4096x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x1024, .f32⟩
  | .local _ .vmem, ⟨9, _⟩ => ⟨S64x1024, .f32⟩
  | .local _ .vmem, ⟨10, _⟩ => ⟨S1024x1024, .bf16⟩
  | .local _ .vmem, ⟨11, _⟩ => ⟨S1024x1024, .bf16⟩
  | .local _ .vmem, ⟨12, _⟩ => ⟨S64x4096, .bf16⟩
  | .local _ .vmem, ⟨13, _⟩ => ⟨S64x4096, .bf16⟩
  | .local _ .vmem, ⟨14, _⟩ => ⟨S64x4096, .bf16⟩
  | .local _ .vmem, ⟨15, _⟩ => ⟨S64x4096, .bf16⟩
  | .local _ .vmem, ⟨16, _⟩ => ⟨S64x1024, .bf16⟩
  | .local _ .vmem, ⟨17, _⟩ => ⟨S64x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjRefIdeal.lean ====
abbrev S8192x4096 : Shape := ⟨2, ![8192, 4096]⟩
abbrev S4096x13312 : Shape := ⟨2, ![4096, 13312]⟩
abbrev S4096x4096 : Shape := ⟨2, ![4096, 4096]⟩
abbrev S4x1024x1024 : Shape := ⟨3, ![4, 1024, 1024]⟩
abbrev S8192x13312 : Shape := ⟨2, ![8192, 13312]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x13312, .bf16⟩
  | .hbm, ⟨2, _⟩ => ⟨S4096x4096, .f32⟩
  | .hbm, ⟨3, _⟩ => ⟨S4096x4096, .f32⟩
  | .hbm, ⟨4, _⟩ => ⟨S4x1024x1024, .f32⟩
  | .hbm, ⟨5, _⟩ => ⟨S8192x4096, .f32⟩
  | .hbm, ⟨6, _⟩ => ⟨S4096x13312, .f32⟩
  | .hbm, ⟨7, _⟩ => ⟨S8192x13312, .f32⟩
  | .hbm, ⟨8, _⟩ => ⟨S8192x13312, .bf16⟩
  | .hbm, ⟨9, _⟩ => ⟨S4096x4096, .bf16⟩
  | .hbm, ⟨10, _⟩ => ⟨S4096x4096, .bf16⟩
  | .hbm, ⟨11, _⟩ => ⟨S4096x1024, .f32⟩
  | .hbm, ⟨12, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Qg.lean ====
abbrev S8192x4096 : Shape := ⟨2, ![8192, 4096]⟩
abbrev S4096x13312 : Shape := ⟨2, ![4096, 13312]⟩
abbrev S4096x8192 : Shape := ⟨2, ![4096, 8192]⟩
abbrev S8192x8192 : Shape := ⟨2, ![8192, 8192]⟩
abbrev S1024x4096 : Shape := ⟨2, ![1024, 4096]⟩
abbrev S4096x1024 : Shape := ⟨2, ![4096, 1024]⟩
abbrev S64x8192 : Shape := ⟨2, ![64, 8192]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x13312, .bf16⟩
  | .hbm, ⟨2, _⟩ => ⟨S4096x8192, .f32⟩
  | .hbm, ⟨3, _⟩ => ⟨S8192x8192, .bf16⟩
  | .hbm, ⟨4, _⟩ => ⟨S4096x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S64x8192, .f32⟩
  | .local _ .vmem, ⟨5, _⟩ => ⟨S64x8192, .f32⟩
  | .local _ .vmem, ⟨6, _⟩ => ⟨S1024x1024, .bf16⟩
  | .local _ .vmem, ⟨7, _⟩ => ⟨S1024x1024, .bf16⟩
  | .local _ .vmem, ⟨8, _⟩ => ⟨S64x8192, .bf16⟩
  | .local _ .vmem, ⟨9, _⟩ => ⟨S64x8192, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c1_i32 : BitVec 32 := 1#32
  let c0_i32 : BitVec 32 := 0#32
  let v1 : BitVec 32 := Scalar.select v0 c1_i32 c0_i32
  let c4_i32 : BitVec 32 := 4#32
  let v2 : BitVec 1 := Scalar.cmpi .sge arg0 c4_i32
  let c5_i32 : BitVec 32 := 5#32
  let v3 : BitVec 32 := Scalar.select v2 c5_i32 v1
  let v4 : BitVec 32 := Scalar.addi arg0 v3
  let c0_i32_0 : BitVec 32 := 0#32
  let c0_i32_1 : BitVec 32 := 0#32
  ![c0_i32_0.toNat, v4.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QgRefIdeal.lean ====
abbrev S8192x4096 : Shape := ⟨2, ![8192, 4096]⟩
abbrev S4096x13312 : Shape := ⟨2, ![4096, 13312]⟩
abbrev S4096x8192 : Shape := ⟨2, ![4096, 8192]⟩
abbrev S8192x13312 : Shape := ⟨2, ![8192, 13312]⟩
abbrev S8192x2048 : Shape := ⟨2, ![8192, 2048]⟩
abbrev S8192x8192 : Shape := ⟨2, ![8192, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x13312, .bf16⟩
  | .hbm, ⟨2, _⟩ => ⟨S4096x8192, .f32⟩
  | .hbm, ⟨3, _⟩ => ⟨S8192x4096, .f32⟩
  | .hbm, ⟨4, _⟩ => ⟨S4096x13312, .f32⟩
  | .hbm, ⟨5, _⟩ => ⟨S8192x13312, .f32⟩
  | .hbm, ⟨6, _⟩ => ⟨S8192x2048, .f32⟩
  | .hbm, ⟨7, _⟩ => ⟨S8192x2048, .f32⟩
  | .hbm, ⟨8, _⟩ => ⟨S8192x4096, .f32⟩
  | .hbm, ⟨9, _⟩ => ⟨S8192x8192, .f32⟩
  | .hbm, ⟨10, _⟩ => ⟨S8192x8192, .bf16⟩
  | .hbm, ⟨11, _⟩ => ⟨S4096x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Post.lean ====
abbrev S8192x4096 : Shape := ⟨2, ![8192, 4096]⟩
abbrev S4x8192x1 : Shape := ⟨3, ![4, 8192, 1]⟩
abbrev S4096x8192 : Shape := ⟨2, ![4096, 8192]⟩
abbrev S16x1x8192 : Shape := ⟨3, ![16, 1, 8192]⟩
abbrev S8192x8192 : Shape := ⟨2, ![8192, 8192]⟩
abbrev S1024x4096 : Shape := ⟨2, ![1024, 4096]⟩
abbrev S4096x1024 : Shape := ⟨2, ![4096, 1024]⟩
abbrev S4x1024x1 : Shape := ⟨3, ![4, 1024, 1]⟩
abbrev S1x1x1024 : Shape := ⟨3, ![1, 1, 1024]⟩
abbrev S1024x1024 : Shape := ⟨2, ![1024, 1024]⟩
abbrev S1x1024x1 : Shape := ⟨3, ![1, 1024, 1]⟩
abbrev S1024x1 : Shape := ⟨2, ![1024, 1]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4x8192x1, .f32⟩
  | .hbm, ⟨2, _⟩ => ⟨S4096x8192, .bf16⟩
  | .hbm, ⟨3, _⟩ => ⟨S16x1x8192, .f32⟩
  | .hbm, ⟨4, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S4x1024x1, .f32⟩
  | .local _ .vmem, ⟨5, _⟩ => ⟨S4x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  ![v17.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PostRefIdeal.lean ====
abbrev S8192x4096 : Shape := ⟨2, ![8192, 4096]⟩
abbrev S4x8192x1 : Shape := ⟨3, ![4, 8192, 1]⟩
abbrev S4096x8192 : Shape := ⟨2, ![4096, 8192]⟩
abbrev S16x1x8192 : Shape := ⟨3, ![16, 1, 8192]⟩
abbrev S_ : Shape := ⟨0, ![]⟩
abbrev S8192x1 : Shape := ⟨2, ![8192, 1]⟩
abbrev S8192x8192 : Shape := ⟨2, ![8192, 8192]⟩
abbrev S8x1024x8192 : Shape := ⟨3, ![8, 1024, 8192]⟩
abbrev S8x1x8192 : Shape := ⟨3, ![8, 1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x8192x1, .f32⟩
  | .hbm, ⟨2, _⟩ => ⟨S4096x8192, .bf16⟩
  | .hbm, ⟨3, _⟩ => ⟨S16x1x8192, .f32⟩
  | .hbm, ⟨4, _⟩ => ⟨S_, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x4096, .f32⟩
  | .hbm, ⟨10, _⟩ => ⟨S4096x8192, .f32⟩
  | .hbm, ⟨11, _⟩ => ⟨S8192x8192, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S8x1024x8192, .f32⟩
  | .hbm, ⟨19, _⟩ => ⟨S8x1x8192, .f32⟩
  | .hbm, ⟨20, _⟩ => ⟨S8x1024x8192, .f32⟩
  | .hbm, ⟨21, _⟩ => ⟨S8x1024x8192, .f32⟩
  | .hbm, ⟨22, _⟩ => ⟨S8192x8192, .f32⟩
  | .hbm, ⟨23, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Prenorm.lean ====
abbrev S8192x4096 : Shape := ⟨2, ![8192, 4096]⟩
abbrev S4096x4096 : Shape := ⟨2, ![4096, 4096]⟩
abbrev S16x1x12288 : Shape := ⟨3, ![16, 1, 12288]⟩
abbrev S4096 : Shape := ⟨1, ![4096]⟩
abbrev S1x4096 : Shape := ⟨2, ![1, 4096]⟩
abbrev S4x8192x1 : Shape := ⟨3, ![4, 8192, 1]⟩
abbrev S512x2048 : Shape := ⟨2, ![512, 2048]⟩
abbrev S4096x1024 : Shape := ⟨2, ![4096, 1024]⟩
abbrev S512x1024 : Shape := ⟨2, ![512, 1024]⟩
abbrev S1x1x1024 : Shape := ⟨3, ![1, 1, 1024]⟩
abbrev S1x1024 : Shape := ⟨2, ![1, 1024]⟩
abbrev S1x512x1 : Shape := ⟨3, ![1, 512, 1]⟩
abbrev S2048x1024 : Shape := ⟨2, ![2048, 1024]⟩
abbrev S512 : Shape := ⟨1, ![512]⟩
abbrev S512x1 : Shape := ⟨2, ![512, 1]⟩

abbrev nBuf : Space → Nat
  | .hbm => 10
  | .vmem => 20
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S16x1x12288, .f32⟩
  | .hbm, ⟨4, _⟩ => ⟨S4096, .f32⟩
  | .hbm, ⟨5, _⟩ => ⟨S16x1x12288, .f32⟩
  | .hbm, ⟨6, _⟩ => ⟨S1x4096, .f32⟩
  | .hbm, ⟨7, _⟩ => ⟨S8192x4096, .f32⟩
  | .hbm, ⟨8, _⟩ => ⟨S8192x4096, .bf16⟩
  | .hbm, ⟨9, _⟩ => ⟨S4x8192x1, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x512x1, .f32⟩
  | .local _ .vmem, ⟨19, _⟩ => ⟨S1x512x1, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c8_i32_0 : BitVec 32 := 8#32
  let c0_i32 : BitVec 32 := 0#32
  let c0_i32_1 : BitVec 32 := 0#32
  ![c8_i32_0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c8_i32 : BitVec 32 := 8#32
  let c0_i32 : BitVec 32 := 0#32
  let c0_i32_0 : BitVec 32 := 0#32
  ![c8_i32.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PrenormRefIdeal.lean ====
abbrev S8192x4096 : Shape := ⟨2, ![8192, 4096]⟩
abbrev S4096x4096 : Shape := ⟨2, ![4096, 4096]⟩
abbrev S16x1x12288 : Shape := ⟨3, ![16, 1, 12288]⟩
abbrev S4096 : Shape := ⟨1, ![4096]⟩
abbrev S1x1x4096 : Shape := ⟨3, ![1, 1, 4096]⟩
abbrev S1x4096 : Shape := ⟨2, ![1, 4096]⟩
abbrev S_ : Shape := ⟨0, ![]⟩
abbrev S8192x4x1024 : Shape := ⟨3, ![8192, 4, 1024]⟩
abbrev S8192x4 : Shape := ⟨2, ![8192, 4]⟩
abbrev S4x8192 : Shape := ⟨2, ![4, 8192]⟩
abbrev S4x8192x1 : Shape := ⟨3, ![4, 8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S16x1x12288, .f32⟩
  | .hbm, ⟨4, _⟩ => ⟨S4096, .f32⟩
  | .hbm, ⟨5, _⟩ => ⟨S16x1x12288, .f32⟩
  | .hbm, ⟨6, _⟩ => ⟨S1x1x4096, .f32⟩
  | .hbm, ⟨7, _⟩ => ⟨S1x4096, .f32⟩
  | .hbm, ⟨8, _⟩ => ⟨S1x1x4096, .f32⟩
  | .hbm, ⟨9, _⟩ => ⟨S1x4096, .f32⟩
  | .hbm, ⟨10, _⟩ => ⟨S8192x4096, .f32⟩
  | .hbm, ⟨11, _⟩ => ⟨S4096x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4x1024, .f32⟩
  | .hbm, ⟨26, _⟩ => ⟨S_, .f32⟩
  | .hbm, ⟨27, _⟩ => ⟨S8192x4, .f32⟩
  | .hbm, ⟨28, _⟩ => ⟨S8192x4096, .bf16⟩
  | .hbm, ⟨29, _⟩ => ⟨S4x8192, .f32⟩
  | .hbm, ⟨30, _⟩ => ⟨S4x8192x1, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kv.lean ====
abbrev S8192x4096 : Shape := ⟨2, ![8192, 4096]⟩
abbrev S4096x13312 : Shape := ⟨2, ![4096, 13312]⟩
abbrev S8192x512 : Shape := ⟨2, ![8192, 512]⟩
abbrev S8192x2048 : Shape := ⟨2, ![8192, 2048]⟩
abbrev S32x1x256x4x128 : Shape := ⟨5, ![32, 1, 256, 4, 128]⟩
abbrev S32x1x256x16x128 : Shape := ⟨5, ![32, 1, 256, 16, 128]⟩
abbrev S512x4096 : Shape := ⟨2, ![512, 4096]⟩
abbrev S4096x1024 : Shape := ⟨2, ![4096, 1024]⟩
abbrev S512x512 : Shape := ⟨2, ![512, 512]⟩
abbrev S512x1024 : Shape := ⟨2, ![512, 1024]⟩
abbrev S2x1x256x4x128 : Shape := ⟨5, ![2, 1, 256, 4, 128]⟩
abbrev S2x1x256x8x128 : Shape := ⟨5, ![2, 1, 256, 8, 128]⟩
abbrev S2x256x4x128 : Shape := ⟨4, ![2, 256, 4, 128]⟩
abbrev S2x256x8x128 : Shape := ⟨4, ![2, 256, 8, 128]⟩

abbrev nBuf : Space → Nat
  | .hbm => 10
  | .vmem => 20
  | .smem => 0
  | _ => 0

abbrev bufTy : (tb : Table) → Fin (tcTables nBuf tb) → BufTy
  | .hbm, ⟨0, _⟩ => ⟨S8192x4096, .bf16⟩
  | .hbm, ⟨1, _⟩ => ⟨S4096x13312, .bf16⟩
  | .hbm, ⟨2, _⟩ => ⟨S8192x512, .bf16⟩
  | .hbm, ⟨3, _⟩ => ⟨S8192x512, .bf16⟩
  | .hbm, ⟨4, _⟩ => ⟨S8192x2048, .bf16⟩
  | .hbm, ⟨5, _⟩ => ⟨S8192x2048, .bf16⟩
  | .hbm, ⟨6, _⟩ => ⟨S32x1x256x4x128, .f32⟩
  | .hbm, ⟨7, _⟩ => ⟨S32x1x256x4x128, .f32⟩
  | .hbm, ⟨8, _⟩ => ⟨S32x1x256x16x128, .f32⟩
  | .hbm, ⟨9, _⟩ => ⟨S32x1x256x16x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S2x1x256x4x128, .f32⟩
  | .local _ .vmem, ⟨13, _⟩ => ⟨S2x1x256x4x128, .f32⟩
  | .local _ .vmem, ⟨14, _⟩ => ⟨S2x1x256x4x128, .f32⟩
  | .local _ .vmem, ⟨15, _⟩ => ⟨S2x1x256x4x128, .f32⟩
  | .local _ .vmem, ⟨16, _⟩ => ⟨S2x1x256x8x128, .f32⟩
  | .local _ .vmem, ⟨17, _⟩ => ⟨S2x1x256x8x128, .f32⟩
  | .local _ .vmem, ⟨18, _⟩ => ⟨S2x1x256x8x128, .f32⟩
  | .local _ .vmem, ⟨19, _⟩ => ⟨S2x1x256x8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![5, 16], ![false, false]⟩

def k0_cond1 (i : grid0.Coords) : BitVec 1 :=
  let arg0 : BitVec 32 := BitVec.ofNat 32 (i 0).val
  let c1_i32 : BitVec 32 := 1#32
  let v3 : BitVec 1 := Scalar.cmpi .slt arg0 c1_i32
  let v4 : BitVec 32 := Scalar.extui v3
  let c0_i32 : BitVec 32 := 0#32
  let v5 : BitVec 1 := Scalar.cmpi .ne v4 c0_i32
  v5

def k0_cond2 (i : grid0.Coords) : BitVec 1 :=
  let arg0 : BitVec 32 := BitVec.ofNat 32 (i 0).val
  let c1_i32_3 : BitVec 32 := 1#32
  let v6 : BitVec 1 := Scalar.cmpi .sge arg0 c1_i32_3
  let c3_i32 : BitVec 32 := 3#32
  let v7 : BitVec 1 := Scalar.cmpi .slt arg0 c3_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond3 (i : grid0.Coords) : BitVec 1 :=
  let arg0 : BitVec 32 := BitVec.ofNat 32 (i 0).val
  let c3_i32_5 : BitVec 32 := 3#32
  let v11 : BitVec 1 := Scalar.cmpi .sge arg0 c3_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c4_i32 : BitVec 32 := 4#32
  let c2_i32 : BitVec 32 := 2#32
  let v1 : BitVec 32 := Scalar.select v0 c4_i32 c2_i32
  let v2 : BitVec 32 := Scalar.addi arg0 v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c1_i32 : BitVec 32 := 1#32
  let v1 : BitVec 1 := Scalar.cmpi .slt arg0 c1_i32
  let c15_i32 : BitVec 32 := 15#32
  let v2 : BitVec 32 := Scalar.select v1 arg1 c15_i32
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c1_i32 : BitVec 32 := 1#32
  let v1 : BitVec 1 := Scalar.cmpi .slt arg0 c1_i32
  let c15_i32 : BitVec 32 := 15#32
  let v2 : BitVec 32 := Scalar.select v1 arg1 c15_i32
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c3_i32 : BitVec 32 := 3#32
  let v1 : BitVec 1 := Scalar.cmpi .slt arg0 c3_i32
  let c15_i32 : BitVec 32 := 15#32
  let v2 : BitVec 32 := Scalar.select v1 arg1 c15_i32
  let c0_i32 : BitVec 32 := 0#32
  let v3 : BitVec 32 := Scalar.select v0 c0_i32 v2
  let c1_i32_0 : BitVec 32 := 1#32
  let v4 : BitVec 32 := Scalar.subi arg0 c1_i32_0
  let c0_i32_1 : BitVec 32 := 0#32
  let c1_i32_2 : BitVec 32 := 1#32
  let v5 : BitVec 32 := Scalar.maxsi c0_i32_1 v4
  let v6 : BitVec 32 := Scalar.minsi c1_i32_2 v5
  let c0_i32_3 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c5_i32 : BitVec 32 := 5#32
  let v1 : BitVec 1 := Scalar.cmpi .slt arg0 c5_i32
  let c15_i32 : BitVec 32 := 15#32
  let v2 : BitVec 32 := Scalar.select v1 arg1 c15_i32
  let c0_i32 : BitVec 32 := 0#32
  let v3 : BitVec 32 := Scalar.select v0 c0_i32 v2
  let c3_i32_0 : BitVec 32 := 3#32
  let v4 : BitVec 32 := Scalar.subi arg0 c3_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c1_i32 : BitVec 32 := 1#32
  let v1 : BitVec 1 := Scalar.cmpi .slt arg0 c1_i32
  let c15_i32 : BitVec 32 := 15#32
  let v2 : BitVec 32 := Scalar.select v1 arg1 c15_i32
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  let c0_i32_5 : BitVec 32 := 0#32
  let c0_i32_6 : BitVec 32 := 0#32
  let c0_i32_7 : BitVec 32 := 0#32
  ![v3.toNat, c0_i32_4.toNat, c0_i32_5.toNat, v6.toNat, c0_i32_6.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c1_i32 : BitVec 32 := 1#32
  let v1 : BitVec 1 := Scalar.cmpi .slt arg0 c1_i32
  let c15_i32 : BitVec 32 := 15#32
  let v2 : BitVec 32 := Scalar.select v1 arg1 c15_i32
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  let c0_i32_5 : BitVec 32 := 0#32
  let c0_i32_6 : BitVec 32 := 0#32
  let c0_i32_7 : BitVec 32 := 0#32
  ![v3.toNat, c0_i32_4.toNat, c0_i32_5.toNat, v6.toNat, c0_i32_6.toNat]

def cc0_transform_8 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c3_i32 : BitVec 32 := 3#32
  let v1 : BitVec 1 := Scalar.cmpi .slt arg0 c3_i32
  let c15_i32 : BitVec 32 := 15#32
  let v2 : BitVec 32 := Scalar.select v1 arg1 c15_i32
  let c0_i32 : BitVec 32 := 0#32
  let v3 : BitVec 32 := Scalar.select v0 c0_i32 v2
  let c1_i32_0 : BitVec 32 := 1#32
  let v4 : BitVec 32 := Scalar.subi arg0 c1_i32_0
  let c0_i32_1 : BitVec 32 := 0#32
  let c1_i32_2 : BitVec 32 := 1#32
  let v5 : BitVec 32 := Scalar.maxsi c0_i32_1 v4
  let v6 : BitVec 32 := Scalar.minsi c1_i32_2 v5
  let c0_i32_3 : BitVec 32 := 0#32
  let c0_i32_4 : BitVec 32 := 0#32
  let c0_i32_5 : BitVec 32 := 0#32
  let c0_i32_6 : BitVec 32 := 0#32
  ![v3.toNat, c0_i32_3.toNat, c0_i32_4.toNat, v6.toNat, c0_i32_5.toNat]

def cc0_transform_9 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c5_i32 : BitVec 32 := 5#32
  let v1 : BitVec 1 := Scalar.cmpi .slt arg0 c5_i32
  let c15_i32 : BitVec 32 := 15#32
  let v2 : BitVec 32 := Scalar.select v1 arg1 c15_i32
  let c0_i32 : BitVec 32 := 0#32
  let v3 : BitVec 32 := Scalar.select v0 c0_i32 v2
  let c3_i32_0 : BitVec 32 := 3#32
  let v4 : BitVec 32 := Scalar.subi arg0 c3_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  let c0_i32_3 : BitVec 32 := 0#32
  let c0_i32_4 : BitVec 32 := 0#32
  let c0_i32_5 : BitVec 32 := 0#32
  ![v3.toNat, c0_i32_2.toNat, c0_i32_3.toNat, v6.toNat, c0_i32_4.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x256x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1x256x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x256x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x256x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KvRefIdeal.lean ====
abbrev S8192x4096 : Shape := ⟨2, ![8192, 4096]⟩
abbrev S4096x13312 : Shape := ⟨2, ![4096, 13312]⟩
abbrev S8192x13312 : Shape := ⟨2, ![8192, 13312]⟩
abbrev S8192x512 : Shape := ⟨2, ![8192, 512]⟩
abbrev S8192x2048 : Shape := ⟨2, ![8192, 2048]⟩
abbrev S32x1x256x4x128 : Shape := ⟨5, ![32, 1, 256, 4, 128]⟩
abbrev S32x1x256x16x128 : Shape := ⟨5, ![32, 1, 256, 16, 128]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x13312, .bf16⟩
  | .hbm, ⟨2, _⟩ => ⟨S8192x4096, .f32⟩
  | .hbm, ⟨3, _⟩ => ⟨S4096x13312, .f32⟩
  | .hbm, ⟨4, _⟩ => ⟨S8192x13312, .f32⟩
  | .hbm, ⟨5, _⟩ => ⟨S8192x512, .f32⟩
  | .hbm, ⟨6, _⟩ => ⟨S8192x512, .f32⟩
  | .hbm, ⟨7, _⟩ => ⟨S8192x2048, .f32⟩
  | .hbm, ⟨8, _⟩ => ⟨S8192x2048, .f32⟩
  | .hbm, ⟨9, _⟩ => ⟨S8192x512, .bf16⟩
  | .hbm, ⟨10, _⟩ => ⟨S8192x512, .bf16⟩
  | .hbm, ⟨11, _⟩ => ⟨S8192x2048, .bf16⟩
  | .hbm, ⟨12, _⟩ => ⟨S8192x2048, .bf16⟩
  | .hbm, ⟨13, _⟩ => ⟨S32x1x256x4x128, .f32⟩
  | .hbm, ⟨14, _⟩ => ⟨S32x1x256x4x128, .f32⟩
  | .hbm, ⟨15, _⟩ => ⟨S32x1x256x16x128, .f32⟩
  | .hbm, ⟨16, _⟩ => ⟨S32x1x256x16x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Norm.lean ====
abbrev S8192x4096 : Shape := ⟨2, ![8192, 4096]⟩
abbrev S4096x4096 : Shape := ⟨2, ![4096, 4096]⟩
abbrev S16x1x12288 : Shape := ⟨3, ![16, 1, 12288]⟩
abbrev S4096 : Shape := ⟨1, ![4096]⟩
abbrev S1x4096 : Shape := ⟨2, ![1, 4096]⟩
abbrev S512x2048 : Shape := ⟨2, ![512, 2048]⟩
abbrev S4096x1024 : Shape := ⟨2, ![4096, 1024]⟩
abbrev S512x1024 : Shape := ⟨2, ![512, 1024]⟩
abbrev S1x1x1024 : Shape := ⟨3, ![1, 1, 1024]⟩
abbrev S512x4096 : Shape := ⟨2, ![512, 4096]⟩
abbrev S1x1024 : Shape := ⟨2, ![1, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S16x1x12288, .f32⟩
  | .hbm, ⟨4, _⟩ => ⟨S4096, .f32⟩
  | .hbm, ⟨5, _⟩ => ⟨S1x4096, .f32⟩
  | .hbm, ⟨6, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_12 : BitVec 32 := 0#32
  let v15 : BitVec 1 := Scalar.cmpi .ne v14 c0_i32_12
  v15

def k0_cond2 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_13 : BitVec 32 := 0#32
  let v18 : BitVec 1 := Scalar.cmpi .ne v17 c0_i32_13
  v18

def k0_cond3 (i : grid0.Coords) : BitVec 1 :=
  let arg1 : BitVec 32 := BitVec.ofNat 32 (i 1).val
  let c2_i32 : BitVec 32 := 2#32
  let v19 : BitVec 1 := Scalar.cmpi .eq arg1 c2_i32
  let v20 : BitVec 32 := Scalar.extui v19
  let c0_i32_14 : BitVec 32 := 0#32
  let v21 : BitVec 1 := Scalar.cmpi .ne v20 c0_i32_14
  v21

def k0_cond4 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_15 : BitVec 32 := 0#32
  let v24 : BitVec 1 := Scalar.cmpi .ne v23 c0_i32_15
  v24

def k0_cond5 (i : grid0.Coords) : BitVec 1 :=
  let arg1 : BitVec 32 := BitVec.ofNat 32 (i 1).val
  let c3_i32_16 : BitVec 32 := 3#32
  let v25 : BitVec 1 := Scalar.cmpi .eq arg1 c3_i32_16
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.addi c8_i32 arg1
  let c0_i32_4 : BitVec 32 := 0#32
  let c0_i32_5 : BitVec 32 := 0#32
  ![v17.toNat, c0_i32_4.toNat, v18.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== NormRefIdeal.lean ====
abbrev S8192x4096 : Shape := ⟨2, ![8192, 4096]⟩
abbrev S4096x4096 : Shape := ⟨2, ![4096, 4096]⟩
abbrev S16x1x12288 : Shape := ⟨3, ![16, 1, 12288]⟩
abbrev S4096 : Shape := ⟨1, ![4096]⟩
abbrev S8x1024x4096 : Shape := ⟨3, ![8, 1024, 4096]⟩
abbrev S8x1x4096 : Shape := ⟨3, ![8, 1, 4096]⟩
abbrev S_ : Shape := ⟨0, ![]⟩
abbrev S8x1024 : Shape := ⟨2, ![8, 1024]⟩
abbrev S8x1024x1 : Shape := ⟨3, ![8, 1024, 1]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S16x1x12288, .f32⟩
  | .hbm, ⟨4, _⟩ => ⟨S4096, .f32⟩
  | .hbm, ⟨5, _⟩ => ⟨S8192x4096, .f32⟩
  | .hbm, ⟨6, _⟩ => ⟨S4096x4096, .f32⟩
  | .hbm, ⟨7, _⟩ => ⟨S8192x4096, .f32⟩
  | .hbm, ⟨8, _⟩ => ⟨S8x1024x4096, .f32⟩
  | .hbm, ⟨9, _⟩ => ⟨S8x1x4096, .f32⟩
  | .hbm, ⟨10, _⟩ => ⟨S8x1024x4096, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S8x1024x4096, .f32⟩
  | .hbm, ⟨15, _⟩ => ⟨S_, .f32⟩
  | .hbm, ⟨16, _⟩ => ⟨S8x1024, .f32⟩
  | .hbm, ⟨17, _⟩ => ⟨S8x1024x1, .f32⟩
  | .hbm, ⟨18, _⟩ => ⟨S_, .f32⟩
  | .hbm, ⟨19, _⟩ => ⟨S8x1024x1, .f32⟩
  | .hbm, ⟨20, _⟩ => ⟨S8x1024x1, .f32⟩
  | .hbm, ⟨21, _⟩ => ⟨S_, .f32⟩
  | .hbm, ⟨22, _⟩ => ⟨S8x1024x1, .f32⟩
  | .hbm, ⟨23, _⟩ => ⟨S8x1024x1, .f32⟩
  | .hbm, ⟨24, _⟩ => ⟨S8x1024x1, .f32⟩
  | .hbm, ⟨25, _⟩ => ⟨S8x1024x4096, .f32⟩
  | .hbm, ⟨26, _⟩ => ⟨S8x1024x4096, .f32⟩
  | .hbm, ⟨27, _⟩ => ⟨S1x1x4096, .f32⟩
  | .hbm, ⟨28, _⟩ => ⟨S8x1024x4096, .f32⟩
  | .hbm, ⟨29, _⟩ => ⟨S8x1024x4096, .f32⟩
  | .hbm, ⟨30, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Frames.lean ====
/-
  The plain references run, leave their arguments as they were, and use no semaphore.
-/
module

public import proofs.«01_k».proof.Defs
public import proofs.«01_k».proof.Proof.Gen.ProjRefIdeal.Run
public import proofs.«01_k».proof.Proof.Gen.QgRefIdeal.Run
public import proofs.«01_k».proof.Proof.Gen.PostRefIdeal.Run
public import proofs.«01_k».proof.Proof.Gen.PrenormRefIdeal.Run
public import proofs.«01_k».proof.Proof.Gen.KvRefIdeal.Run
public import proofs.«01_k».proof.Proof.Gen.NormRefIdeal.Run
public import Idealize.ShloMosaic.Lib.Claim
public import Idealize.ShloMosaic.Lib.Quiescent

@[expose] public section

set_option maxRecDepth 16384

noncomputable section

namespace References

open Idealize.ShloMosaic Idealize.SL.Sem Cert

theorem proj : quiescent_ProjRefIdeal := fun m ρ _ =>
  θ_run_mono (ProjRefIdeal.Value.run m ρ) fun _ h => ⟨fun c => (h c).2.2.2.2, sem_eq_zero_of_no_sems (by decide) _⟩

theorem qg : quiescent_QgRefIdeal := fun m ρ _ =>
  θ_run_mono (QgRefIdeal.Value.run m ρ) fun _ h => ⟨fun c => (h c).2.2, sem_eq_zero_of_no_sems (by decide) _⟩

theorem post : quiescent_PostRefIdeal := fun m ρ _ =>
  θ_run_mono (PostRefIdeal.Value.run m ρ) fun _ h => ⟨fun c => (h c).2, sem_eq_zero_of_no_sems (by decide) _⟩

theorem prenorm : quiescent_PrenormRefIdeal := fun m ρ _ =>
  θ_run_mono (PrenormRefIdeal.Value.run m ρ) fun _ h => ⟨fun c => (h c).2.2.2, sem_eq_zero_of_no_sems (by decide) _⟩

theorem kv : quiescent_KvRefIdeal := fun m ρ _ =>
  θ_run_mono (KvRefIdeal.Value.run m ρ) fun _ h => ⟨fun c => (h c).2.2.2.2.2.2.2.2, sem_eq_zero_of_no_sems (by decide) _⟩

theorem norm : quiescent_NormRefIdeal := fun m ρ _ =>
  θ_run_mono (NormRefIdeal.Value.run m ρ) fun _ h => ⟨fun c => (h c).2, sem_eq_zero_of_no_sems (by decide) _⟩

end References

end
-- ==== Proof.Block.lean ====
/-
  The attention kernel's block, for any float values: what one grid point leaves in the output's block, as 32 tiles of 256 rows
  by 128 columns, each a plain function of the blocks of queries and gates, of the two sets of keys and values and of the sinks.
  Tile `4 g + i` of the first half is head `i` of group `g`, whose four heads share their keys and values; tile `4 g + i` of
  the second half is head `4 g + i`, which has its own.
-/
module

public import proofs.«01_k».proof.Proof.Gen.CtxIdeal.Frame
public import Idealize.ShloMosaic.Lib.Pipeline.Value
public import Idealize.ShloMosaic.Lib.Pipeline.ReadBack

@[expose] public section

set_option maxRecDepth 16384

noncomputable section

namespace Attention.Block

open Idealize.ShloMosaic Idealize.SL.Sem Cert.CtxIdeal Cert.CtxIdeal.Gen Idealize.ShloMosaic.TcCoe Idealize.ShloMosaic.Pipeline

variable {F : FTy → Type} [FloatOps F] [Named F]

/-! ## Scratch buffers read back -/

/-- Four blocks of 256 rows under one another. -/
def stack {α : Type} (w0 w1 w2 w3 : S256x256.Idx → α) : S1024x256.Idx → α := fun y =>
  let r : S256x256.Idx := fun a => match a with
    | ⟨0, _⟩ => ⟨(y 0).val % 256, Nat.mod_lt _ (by decide)⟩
    | ⟨1, _⟩ => ⟨(y 1).val, (y 1).isLt⟩
  if (y 0).val < 256 then w0 r else if (y 0).val < 512 then w1 r else if (y 0).val < 768 then w2 r else w3 r

/-- A load of any rectangle after a store of the whole buffer reads the stored contents there. -/
theorem readCov_whole {sig : RefSig} {κ : Kind} {sp : Space} {e : EltTy} (v : View sig κ sp S1024x256 e)
    (w : S1024x256.Idx → Elt F e) (L : List (View.Piece (Elt F) S1024x256 e)) (i) (r : Rect S1024x256) :
    v.readCov (⟨Rect.unit ![0, 0] ![1024, 256] i, w⟩ :: L) r.toLoadRect = View.ld w r :=
  View.readCov_fill v i w L r (fun a => by fin_cases a <;> rfl)

/-- The stacked blocks are, on the rows from `o` to `o + 255`, the block stored there. -/
theorem stack_piece {e : EltTy} (G : S1024x256.Idx → Elt F e) (w : S256x256.Idx → Elt F e) (o : ℕ) (i)
    (h : ∀ (x : S256x256.Idx) (y : S1024x256.Idx), (y 0).val = o + (x 0).val → (y 1).val = (x 1).val → w x = G y)
    (x : (Rect.unit (s := S1024x256) ![o, 0] ![256, 256] i).shape.Idx) :
    w x = G ((Rect.unit (s := S1024x256) ![o, 0] ![256, 256] i).emb x) := by
  refine h x _ ?_ ?_
  · show o + 1 * (x 0).val = _; omega
  · show 0 + 1 * (x 1).val = _; omega

/-- A load of a whole buffer after four stores that fill it, 256 rows each, reads the four stacked. -/
theorem readCov_stack {sig : RefSig} {κ : Kind} {sp : Space} {e : EltTy} (v : View sig κ sp S1024x256 e)
    (w0 w1 w2 w3 : S256x256.Idx → Elt F e) (L : List (View.Piece (Elt F) S1024x256 e)) (i0 i1 i2 i3 i) :
    v.readCov (⟨Rect.unit ![768, 0] ![256, 256] i3, w3⟩ :: ⟨Rect.unit ![512, 0] ![256, 256] i2, w2⟩
      :: ⟨Rect.unit ![256, 0] ![256, 256] i1, w1⟩ :: ⟨Rect.unit ![0, 0] ![256, 256] i0, w0⟩ :: L)
      (Rect.unit ![0, 0] ![1024, 256] i).toLoadRect = stack w0 w1 w2 w3 := by
  rw [View.readCov_eq_canon']
  funext j
  have hidx : (Rect.unit (s := S1024x256) ![0, 0] ![1024, 256] i).toLoadRect.idx j = (j : S1024x256.Idx) :=
    funext fun a => Fin.ext (by
      fin_cases a
      · show 0 + 1 * (j 0).val = _; simp
      · show 0 + 1 * (j 1).val = _; simp)
  rw [hidx]
  have key : ∀ (n : ℕ) (w : S256x256.Idx → Elt F e) (x : S256x256.Idx) (y : S1024x256.Idx), (y 0).val = 256 * n + (x 0).val →
      (y 1).val = (x 1).val → n < 4 → w = (if n = 0 then w0 else if n = 1 then w1 else if n = 2 then w2 else w3) → w x = stack w0 w1 w2 w3 y := by
    intro n w x y h0 h1 hn hw
    have hx : (x 0).val < 256 := (x 0).isLt
    have hr : (fun a => match a with
        | ⟨0, _⟩ => ⟨(y 0).val % 256, Nat.mod_lt _ (by decide)⟩
        | ⟨1, _⟩ => ⟨(y 1).val, (y 1).isLt⟩ : S256x256.Idx) = x := by
      funext a; fin_cases a
      · exact Fin.ext (by show (y 0).val % 256 = (x 0).val; omega)
      · exact Fin.ext h1
    unfold stack
    rw [hr, hw]
    have hcases : n = 0 ∨ n = 1 ∨ n = 2 ∨ n = 3 := by omega
    rcases hcases with rfl | rfl | rfl | rfl
    · rw [if_pos rfl, if_pos (by omega)]
    · rw [if_neg (by decide), if_pos rfl, if_neg (by omega), if_pos (by omega)]
    · rw [if_neg (by decide), if_neg (by decide), if_pos rfl, if_neg (by omega), if_neg (by omega), if_pos (by omega)]
    · rw [if_neg (by decide), if_neg (by decide), if_neg (by decide), if_neg (by omega), if_neg (by omega), if_neg (by omega)]
  refine View.canon_append_of_pieces (stack w0 w1 w2 w3) L
    [⟨Rect.unit ![768, 0] ![256, 256] i3, w3⟩, ⟨Rect.unit ![512, 0] ![256, 256] i2, w2⟩,
      ⟨Rect.unit ![256, 0] ![256, 256] i1, w1⟩, ⟨Rect.unit ![0, 0] ![256, 256] i0, w0⟩] ?_ j ?_
  · intro p hp x
    simp only [List.mem_cons, List.not_mem_nil, or_false] at hp
    rcases hp with rfl | rfl | rfl | rfl
    · exact stack_piece _ w3 768 i3 (fun x y h0 h1 => key 3 w3 x y h0 h1 (by decide) rfl) x
    · exact stack_piece _ w2 512 i2 (fun x y h0 h1 => key 2 w2 x y h0 h1 (by decide) rfl) x
    · exact stack_piece _ w1 256 i1 (fun x y h0 h1 => key 1 w1 x y h0 h1 (by decide) rfl) x
    · exact stack_piece _ w0 0 i0 (fun x y h0 h1 => key 0 w0 x y h0 h1 (by decide) rfl) x
  · have hj : (j 0).val < 1024 := (j 0).isLt
    have hmem : ∀ (o : ℕ) (i), o ≤ (j 0).val → (j 0).val < o + 256 →
        (j : S1024x256.Idx) ∈ (Rect.unit (s := S1024x256) ![o, 0] ![256, 256] i).set := by
      intro o i h0 h1
      refine Rect.mem_set_unit.mpr fun a => ?_
      fin_cases a
      · exact ⟨h0, h1⟩
      · exact ⟨Nat.zero_le _, by have := (j 1).isLt; show (j 1).val < 0 + 256; simpa using this⟩
    by_cases h3 : 768 ≤ (j 0).val
    · exact ⟨_, List.mem_cons_self .., hmem 768 i3 h3 (by omega)⟩
    by_cases h2 : 512 ≤ (j 0).val
    · exact ⟨_, List.mem_cons_of_mem _ (List.mem_cons_self ..), hmem 512 i2 h2 (by omega)⟩
    by_cases h1 : 256 ≤ (j 0).val
    · exact ⟨_, List.mem_cons_of_mem _ (List.mem_cons_of_mem _ (List.mem_cons_self ..)), hmem 256 i1 h1 (by omega)⟩
    exact ⟨_, List.mem_cons_of_mem _ (List.mem_cons_of_mem _ (List.mem_cons_of_mem _ (List.mem_cons_self ..))), hmem 0 i0 (by omega) (by omega)⟩

/-! ## A group's four heads -/

/-- 128 columns of a block of 256 rows, from column `o`. -/
def cols {N : ℕ} (x : Vec F ⟨2, ![256, N]⟩ .bf16) (o : ℕ) (h : ∀ a, ![0, o] a + ![256, 128] a ≤ ![256, N] a) : Vec F S256x128 .bf16 :=
  View.ld x (Rect.unit (s := ⟨2, ![256, N]⟩) ![0, o] ![256, 128] h)

/-- Columns `128 n` to `128 n + 127` lie inside. -/
theorem cols_inside {N : ℕ} (n : ℕ) (h : 128 * n + 128 ≤ N) : ∀ a, ![0, 128 * n] a + ![256, 128] a ≤ ![256, N] a := by
  intro a; fin_cases a
  · exact Nat.le_refl _
  · exact h

/-- The four heads' rows under one another. -/
def joined {φ : FTy} (w : Fin 4 → FVec F S256x128 φ) : FVec F S1024x128 φ :=
  concatenate S1024x128 0 [⟨S256x128, w 0⟩, ⟨S256x128, w 1⟩, ⟨S256x128, w 2⟩, ⟨S256x128, w 3⟩]
    concatenates_S256x128_S256x128_S256x128_S256x128_S1024x128_d0

/-- The four heads' sinks, each times the base-two logarithm of e, on every one of its head's rows. -/
def sinkColumn (s : Fin 4 → Elt F .f32) : FVec F S1024x1 .f32 :=
  concatenate S1024x1 0 [⟨S256x1, broadcast S256x1 (Scalar.mulf (s 0) (Named.named κ "log2e" 0x3FB8AA3B#32))⟩,
      ⟨S256x1, broadcast S256x1 (Scalar.mulf (s 1) (Named.named κ "log2e" 0x3FB8AA3B#32))⟩,
      ⟨S256x1, broadcast S256x1 (Scalar.mulf (s 2) (Named.named κ "log2e" 0x3FB8AA3B#32))⟩,
      ⟨S256x1, broadcast S256x1 (Scalar.mulf (s 3) (Named.named κ "log2e" 0x3FB8AA3B#32))⟩]
    concatenates_S256x1_S256x1_S256x1_S256x1_S1024x1_d0

/-- Scores times the logits' scale. -/
def scaled (y : FVec F S1024x256 .f32) : FVec F S1024x256 .f32 :=
  mulf y (broadcast S1024x256 (Named.named κ "logit_scale" 0x3E0293EE#32))

/-- Each row's maximum. -/
def rowMax (y : FVec F S1024x256 .f32) : FVec F S1024x1 .f32 :=
  shapeCast S1024x1 (multiReduction .maximumf [1] S1024 y 0xFF800000#32 reduces_S1024x256_S1024 (.inl rfl) rfl) shapeCasts_S1024_S1024x1

/-- Each row's sum. -/
def rowSum (y : FVec F S1024x256 .f32) : FVec F S1024x1 .f32 :=
  shapeCast S1024x1 (multiReduction .add [1] S1024 y 0x00000000#32 reduces_S1024x256_S1024 (.inl rfl) rfl) shapeCasts_S1024_S1024x1

/-- Two to the power of each entry less its row's bound. -/
def weights (y : FVec F S1024x256 .f32) (M : FVec F S1024x1 .f32) : FVec F S1024x256 .f32 :=
  exp2 (subf y (broadcastTo S1024x256 M broadcasts_S1024x1_S1024x256))

/-- One over each row's total, on all 128 columns. -/
def shares (l : FVec F S1024x1 .f32) : FVec F S1024x128 .f32 :=
  broadcastTo S1024x128 (divf (broadcast S1024x1 (Scalar.ofBits .f32 0x3F800000#32)) l) broadcasts_S1024x1_S1024x128

/-- The weights as the values' product takes them. -/
def halved (p : FVec F S1024x256 .f32) : FVec F S1024x256 .bf16 :=
  shapeCast S1024x256 (truncf .bf16 p bitsLt_bf16_f32) shapeCasts_S1024x256_S1024x256

/-- Four heads with common keys and values, and a sink each. -/
def sharedHeads (s : Fin 4 → Elt F .f32) (q : Fin 4 → FVec F S256x128 .bf16) (k v : FVec F S256x128 .bf16) : FVec F S1024x128 .f32 :=
  have y : FVec F S1024x256 .f32 := scaled (shapeCast S1024x256 (matmul dot_S1024x128_S256x128_S1024x256_1_1_0_0_n_n none (joined q) k
    (constant S1024x256 .f32 0x00000000#32)) shapeCasts_S1024x256_S1024x256)
  have M : FVec F S1024x1 .f32 := maximumf (rowMax y) (sinkColumn s)
  have p : FVec F S1024x256 .f32 := weights y M
  mulf (matmul dot_S1024x256_S256x128_S1024x128_1_0_0_1_n_n none (halved p) v (constant S1024x128 .f32 0x00000000#32))
    (shares (addf (rowSum p) (exp2 (subf (sinkColumn s) M))))

/-- One head's scores. -/
def headScores (q k : FVec F S256x128 .bf16) : FVec F S256x256 .f32 :=
  shapeCast S256x256 (matmul dot_S256x128_S256x128_S256x256_1_1_0_0_n_n none q k (constant S256x256 .f32 0x00000000#32)) shapeCasts_S256x256_S256x256

/-- The rows of one head's weights. -/
def headRows (p : FVec F S1024x256 .bf16) (o : ℕ) (h : ∀ a, ![o, 0] a + ![256, 256] a ≤ ![1024, 256] a) : Vec F S256x256 .bf16 :=
  View.ld p (Rect.unit (s := S1024x256) ![o, 0] ![256, 256] h)

/-- Rows `256 i` to `256 i + 255` lie inside. -/
theorem rows_inside (i : Fin 4) : ∀ a, ![256 * i.val, 0] a + ![256, 256] a ≤ ![1024, 256] a := by
  intro a; have := i.isLt; fin_cases a
  · show 256 * i.val + 256 ≤ 1024; omega
  · exact Nat.le_refl _

/-- Four heads with keys and values of their own and no sink. -/
def ownHeads (q k v : Fin 4 → FVec F S256x128 .bf16) : FVec F S1024x128 .f32 :=
  have y : FVec F S1024x256 .f32 := scaled (stack (headScores (q 0) (k 0)) (headScores (q 1) (k 1)) (headScores (q 2) (k 2)) (headScores (q 3) (k 3)))
  have p : FVec F S1024x256 .f32 := weights y (rowMax y)
  mulf (joined fun i => matmul dot_S256x256_S256x128_S256x128_1_0_0_1_n_n none (headRows (halved p) (256 * i.val) (rows_inside i)) (v i)
    (constant S256x128 .f32 0x00000000#32)) (shares (rowSum p))

/-- Head `i` of a group's four, times the gate. -/
def gated (o : FVec F S1024x128 .f32) (i : ℕ) (h : S1024x128.Slices ![i, 0] S256x128) (gate : FVec F S256x128 .bf16) : FVec F S256x128 .bf16 :=
  have z : FVec F S256x128 .f32 := mulf (broadcast S256x128 (Scalar.ofBits .f32 0x3F000000#32)) (extf .f32 gate bitsLt_bf16_f32)
  truncf .bf16 (mulf (extractStridedSlice S256x128 ![i, 0] o h)
    (mulf z (addf (broadcast S256x128 (Scalar.ofBits .f32 0x3F800000#32)) (tanh z)))) bitsLt_bf16_f32

/-- Rows `256 i` to `256 i + 255` of the four heads. -/
theorem head_slice (i : Fin 4) : S1024x128.Slices ![256 * i.val, 0] S256x128 :=
  ⟨rfl, fun a => by
    have := i.isLt; fin_cases a
    · show 256 * i.val + 256 ≤ 1024; omega
    · exact Nat.le_refl _⟩

/-- Head `h`'s sink. -/
def sink (x : Vec F S16 .f32) (h : ℕ) (hh : ∀ a, ![h] a + ![1] a ≤ ![16] a) : Elt F .f32 :=
  View.ld x (Rect.unit (s := S16) ![h] ![1] hh) (Shape.Idx.first (by exact (by decide : 0 < (⟨1, ![1]⟩ : Shape).numel)))

/-- A head's number is below 16. -/
theorem sink_inside (g i : Fin 4) : ∀ a, ![4 * g.val + i.val] a + ![1] a ≤ ![16] a := by
  intro a; have := g.isLt; have := i.isLt; fin_cases a; show 4 * g.val + i.val + 1 ≤ 16; omega

/-- Tile of the first half: head `i` of group `g`. -/
def sharedTile (x0 : Vec F S16 .f32) (x1 : Vec F S256x8192 .bf16) (x2 x3 : Vec F S256x512 .bf16) (g i : Fin 4) : FVec F S256x128 .bf16 :=
  gated (sharedHeads (fun j => sink x0 (4 * g.val + j.val) (sink_inside g j))
      (fun j => cols x1 (128 * (4 * g.val + j.val)) (cols_inside _ (by omega)))
      (cols x2 (128 * g.val) (cols_inside _ (by omega))) (cols x3 (128 * g.val) (cols_inside _ (by omega))))
    (256 * i.val) (head_slice i) (cols x1 (128 * (32 + 4 * g.val + i.val)) (cols_inside _ (by omega)))

/-- Tile of the second half: head `4 g + i`. -/
def ownTile (x1 : Vec F S256x8192 .bf16) (x4 x5 : Vec F S256x2048 .bf16) (g i : Fin 4) : FVec F S256x128 .bf16 :=
  gated (ownHeads (fun j => cols x1 (128 * (16 + 4 * g.val + j.val)) (cols_inside _ (by omega)))
      (fun j => cols x4 (128 * (4 * g.val + j.val)) (cols_inside _ (by omega)))
      (fun j => cols x5 (128 * (4 * g.val + j.val)) (cols_inside _ (by omega))))
    (256 * i.val) (head_slice i) (cols x1 (128 * (48 + 4 * g.val + i.val)) (cols_inside _ (by omega)))

/-- The pairs of a group and a head in it, last first. -/
def heads : List (Fin 4 × Fin 4) :=
  [(3, 3), (3, 2), (3, 1), (3, 0), (2, 3), (2, 2), (2, 1), (2, 0), (1, 3), (1, 2), (1, 1), (1, 0), (0, 3), (0, 2), (0, 1), (0, 0)]

/-- The tiles with the columns they are stored at, last first. -/
def tiles (x0 : Vec F S16 .f32) (x1 : Vec F S256x8192 .bf16) (x2 x3 : Vec F S256x512 .bf16) (x4 x5 : Vec F S256x2048 .bf16) :
    List (View.Piece (Elt F) S256x4096 .bf16) :=
  heads.map (fun p => ⟨Rect.unit (s := S256x4096) ![0, 128 * (16 + 4 * p.1.val + p.2.val)] ![256, 128] (cols_inside _ (by omega)), ownTile x1 x4 x5 p.1 p.2⟩)
    ++ heads.map (fun p => ⟨Rect.unit (s := S256x4096) ![0, 128 * (4 * p.1.val + p.2.val)] ![256, 128] (cols_inside _ (by omega)), sharedTile x0 x1 x2 x3 p.1 p.2⟩)

variable (m : (ℓ : Loc nD τ sig) → Buf (Elt F) ℓ)

set_option maxHeartbeats 4000000 in
/-- What one grid point leaves in the output's block is the 32 tiles. -/
theorem out_eq (c : Dev nD) (t : Fin cfg0.N) :
    outsAt0 m c t = View.canon (tiles (iblk m c 0 t) (iblk m c 1 t) (iblk m c 2 t) (iblk m c 3 t) (iblk m c 4 t) (iblk m c 5 t)) := by
  unfold outsAt0 out0_A_6
  rw [View.read_writes_eq_canon _ _ _ (cover0_A_6 c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) scM0_0 (Memref.isWhole_whole _) scM0_1 (Memref.isWhole_whole _) _ _ _ _ _ _)]
  unfold kernelRun0_A
  dsimp only
  sl_unfold_words
  simp only [View.readAt_eq_ld, ↓readCov_stack, ↓View.readCov_cons_toLoadRect, ↓readCov_whole, (hs0_0 t).read_unread, (hs0_1 t).read_unread,
    (hs0_2 t).read_unread, (hs0_3 t).read_unread, (hs0_4 t).read_unread, (hs0_5 t).read_unread]
  generalize (iblk m c 0 t) = x0
  generalize (iblk m c 1 t) = x1
  generalize (iblk m c 2 t) = x2
  generalize (iblk m c 3 t) = x3
  generalize (iblk m c 4 t) = x4
  generalize (iblk m c 5 t) = x5
  refine congrArg View.canon ?_
  unfold tiles heads
  simp only [List.map_cons, List.map_nil, List.cons_append, List.nil_append]
  rfl

end Attention.Block

end
-- ==== Proof.Tiles.lean ====
/-
  What the tiled programs share: a matrix product read at an element as a sum over the one contracted coordinate, and the
  arrays a grid of blocks covers.
-/
module

public import Idealize.ShloMosaic.Lib.MatmulPlain
public import Idealize.ShloMosaic.Lib.Pipeline.Value
public import Idealize.ShloMosaic.Lib.ValueIdx
public import Idealize.ShloMosaic.PureOps.Ideal.Laws

@[expose] public section

noncomputable section

namespace Attention

open Idealize.ShloMosaic Idealize.ShloMosaic.ValueIdx Idealize.ShloMosaic.Pipeline

/-- Two corner offsets that are zero are the zero offset. -/
theorem corner_zero : (![0, 0] : Fin 2 → Nat) = fun _ => 0 := funext fun a => by fin_cases a <;> rfl

/-- An array index at which a blocked window's block at point `t` has the element `y` lies in that block. -/
theorem mem_block {sig : RefSig} {G : Grid} (w : Window sig G) (t : Fin G.N) (y : (w.xblock (G.coords t)).Idx)
    (i : w.shape.Idx) (hk : w.kind = .blocked) (h : ∀ a, w.index t a * w.size a + (y a : Nat) = (i a : Nat)) :
    (w.rect t).emb y = i :=
  funext fun a => Fin.ext ((w.rect_emb_val t y a hk).trans (h a))

/-- A product of an `M × K` block with a `K × N` block onto zero, at an element: the sum of products over `K`. -/
theorem product_apply {M K N : ℕ} {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (F := Ideal) (DotDims.plain M K N) prec lhs rhs (constant (F := Ideal) ⟨2, ![M, N]⟩ .f32 0x00000000#32) i
      = ∑ k : Fin K, lhs (ix2 (i 0) k) * rhs (ix2 k (i 1)) := by
  obtain ⟨r, c, rfl⟩ : ∃ r c, i = ix2 r c := ⟨i 0, i 1, by funext a; fin_cases a <;> rfl⟩
  rw [Ideal.matmul_plain_apply]
  show Ideal.ofBits .f32 0x00000000#32 + _ = _
  rw [show Ideal.ofBits .f32 0x00000000#32 = 0 by simp [Ideal.ofBits, Ideal.ieee], zero_add]
  rfl

/-- A product of an `M × K` block with the transpose of an `N × K` block onto zero, at an element. -/
theorem product_transposed_apply {M K N : ℕ} {φ₁ φ₂ : FTy} (prec : Option ContractPrecision)
    (lhs : FVec Ideal ⟨2, ![M, K]⟩ φ₁) (rhs : FVec Ideal ⟨2, ![N, K]⟩ φ₂) (i : (⟨2, ![M, N]⟩ : Shape).Idx) :
    FloatOps.matmul (F := Ideal) (DotDims.transposedRhs M K N) prec lhs rhs (constant (F := Ideal) ⟨2, ![M, N]⟩ .f32 0x00000000#32) i
      = ∑ k : Fin K, lhs (ix2 (i 0) k) * rhs (ix2 (i 1) k) := by
  obtain ⟨r, c, rfl⟩ : ∃ r c, i = ix2 r c := ⟨i 0, i 1, by funext a; fin_cases a <;> rfl⟩
  rw [Ideal.matmul_transposedRhs_apply]
  show Ideal.ofBits .f32 0x00000000#32 + _ = _
  rw [show Ideal.ofBits .f32 0x00000000#32 = 0 by simp [Ideal.ofBits, Ideal.ieee], zero_add]
  rfl

end Attention

end
-- ==== Proof.Softmax.lean ====
/- The mathematics of one row of attention over the extended reals: powers of two of the scaled logits and a
   multiplication by the inverse of the sum on one side, the softmax of the logits on the other; and the two
   spellings of `x · sigmoid x`. -/
module

public import Idealize.ShloMosaic.PureOps.Ideal
public import Idealize.ShloMosaic.PureOps.Ideal.Laws
public import Mathlib.Analysis.SpecialFunctions.Pow.Real
public import Mathlib.Analysis.SpecialFunctions.Trigonometric.DerivHyp

@[expose] public section

noncomputable section

namespace Attention

open Idealize.ShloMosaic

/-- Multiplying by a nonnegative real distributes over a finite sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many (at least one) reals, folded from −∞, is a real. -/
theorem fold_max_real {n : ℕ} (f : Fin (n + 1) → EReal) (g : Fin (n + 1) → ℝ) (h : ∀ j, f j = (g j : EReal)) :
    ∃ M : ℝ, (Finset.univ : Finset (Fin (n + 1))).fold max ⊥ f = (M : EReal) := by
  obtain ⟨i, -, hi⟩ := Finset.exists_mem_eq_sup (Finset.univ : Finset (Fin (n + 1))) Finset.univ_nonempty f
  exact ⟨g i, (show _ = f i from hi).trans (h i)⟩

/-- A quotient of reals by a nonzero real, on the extended reals, is the real quotient. -/
theorem div_real (x y : ℝ) (hy : y ≠ 0) : Ideal.div (x : EReal) (y : EReal) = ((x / y : ℝ) : EReal) := by
  have h0 : (y : EReal) ≠ 0 := by exact_mod_cast hy
  rw [Ideal.div, if_neg h0, div_eq_mul_inv, EReal.coe_mul, EReal.coe_inv]

/-- Weights `a j / L` and `e j / L'` that agree give the same weighted sum, whether the weights are normalised before
    the sum or the sum after it. The values may be infinite. -/
theorem weighted_eq {n : ℕ} (a e : Fin n → ℝ) (L L' : ℝ) (hL : 0 < L) (hL' : 0 < L')
    (h : ∀ j, a j / L = e j / L') (v : Fin n → EReal) :
    (∑ j, (a j : EReal) * v j) * Ideal.div ((1 : ℝ) : EReal) (L : EReal)
      = ∑ j, v j * Ideal.div (e j : EReal) (L' : EReal) := by
  rw [div_real 1 L hL.ne', sum_mul_coe _ _ _ (by positivity)]
  refine Finset.sum_congr rfl fun j _ => ?_
  rw [div_real (e j) L' hL'.ne', ← h j, mul_comm (a j : EReal), mul_assoc, ← EReal.coe_mul]
  congr 2; field_simp

/-- A power of two whose exponent is a difference, as an exponential. -/
theorem rpow_two (y : ℝ) : Real.rpow 2 y = Real.exp (Real.log 2 * y) :=
  Real.rpow_def_of_pos (by norm_num) y

/-- `1 / (ln 2 · √128)`: what multiplies a logit whose exponential is taken as a power of two. -/
def c1 : ℝ := (Real.log 2)⁻¹ * (Real.sqrt 128)⁻¹
/-- `1 / ln 2`. -/
def c2 : ℝ := (Real.log 2)⁻¹
/-- `1 / √128`: the scale of the attention's logits. -/
def c3 : ℝ := (Real.sqrt 128)⁻¹

theorem log_two_ne : Real.log 2 ≠ 0 := (Real.log_pos (by norm_num)).ne'

/-- The row with a sink by powers of two: `(∑ 2^(y j − m) · v j) · (1 / (∑ 2^(y j − m) + 2^(b' − m)))` for
    `y j = g j · c1`, `b' = b · c2` and `m` the greatest of all of them. -/
def powRowSink (g : Fin 256 → EReal) (b : EReal) (v : Fin 256 → EReal) : EReal :=
  let m := max ((Finset.univ : Finset (Fin 256)).fold max ⊥ fun j => g j * (c1 : EReal)) (b * (c2 : EReal))
  (∑ j, Ideal.exp2 (g j * (c1 : EReal) - m) * v j)
    * Ideal.div ((1 : ℝ) : EReal) ((∑ j, Ideal.exp2 (g j * (c1 : EReal) - m)) + Ideal.exp2 (b * (c2 : EReal) - m))

/-- The row without a sink by powers of two. -/
def powRow (g : Fin 256 → EReal) (v : Fin 256 → EReal) : EReal :=
  let m := (Finset.univ : Finset (Fin 256)).fold max ⊥ fun j => g j * (c1 : EReal)
  (∑ j, Ideal.exp2 (g j * (c1 : EReal) - m) * v j)
    * Ideal.div ((1 : ℝ) : EReal) (∑ j, Ideal.exp2 (g j * (c1 : EReal) - m))

/-- The softmax over `n` logits `z` (its greatest subtracted first) weighs the first values. -/
def softmaxTerm {n : ℕ} (z : Fin n → EReal) (k : Fin n) : EReal :=
  let M := max ⊥ ((Finset.univ : Finset (Fin n)).fold max ⊥ z)
  Ideal.div (Ideal.exp (z k - M)) (0 + ∑ j, Ideal.exp (z j - M))

/-- The scaled logits, and after them the sink. -/
def withSink (g : Fin 256 → EReal) (b : EReal) (k : Fin 257) : EReal :=
  if h : k.val < 256 then g ⟨k.val, h⟩ * (c3 : EReal) else b

/-- A power of two of a scaled logit less a real, as a real exponential. -/
theorem exp2_scaled (x m : ℝ) :
    Ideal.exp2 ((x : EReal) * (c1 : EReal) - (m : EReal)) = ((Real.exp (x * c3 - Real.log 2 * m) : ℝ) : EReal) := by
  rw [← EReal.coe_mul, ← EReal.coe_sub, Ideal.exp2_coe, rpow_two]
  have : Real.log 2 * (x * c1 - m) = x * c3 - Real.log 2 * m := by
    unfold c1 c3; have := log_two_ne; field_simp
  rw [this]

/-- A power of two of a sink less a real, as a real exponential. -/
theorem exp2_sink (x m : ℝ) :
    Ideal.exp2 ((x : EReal) * (c2 : EReal) - (m : EReal)) = ((Real.exp (x - Real.log 2 * m) : ℝ) : EReal) := by
  rw [← EReal.coe_mul, ← EReal.coe_sub, Ideal.exp2_coe, rpow_two]
  have : Real.log 2 * (x * c2 - m) = x - Real.log 2 * m := by
    unfold c2; have := log_two_ne; field_simp
  rw [this]

theorem exp_shift (x m M : ℝ) : Real.exp (x - m) = Real.exp (M - m) * Real.exp (x - M) := by
  rw [← Real.exp_add]; congr 1; ring

/-- With finite logits and a finite sink the row by powers of two is the softmax's weighted sum. -/
theorem powRowSink_eq (g : Fin 256 → EReal) (b : EReal) (v : Fin 256 → EReal)
    (hg : ∀ j, ∃ r : ℝ, g j = r) (hb : ∃ r : ℝ, b = r) :
    powRowSink g b v = ∑ j : Fin 256, v j * softmaxTerm (withSink g b) ⟨j.val, by omega⟩ := by
  choose x hx using hg
  obtain ⟨β, rfl⟩ := hb
  obtain rfl : g = fun j => (x j : EReal) := funext hx
  obtain ⟨m₀, hm₀⟩ := fold_max_real (n := 255) (fun j => (x j : EReal) * (c1 : EReal)) (fun j => x j * c1)
    fun j => (EReal.coe_mul _ _).symm
  obtain ⟨M, hM⟩ := fold_max_real (n := 256) (withSink (fun j => (x j : EReal)) (β : EReal))
    (fun k => if h : k.val < 256 then x ⟨k.val, h⟩ * c3 else β) fun k => by
      unfold withSink; split <;> simp
  obtain ⟨m, hm⟩ : ∃ m : ℝ, max (m₀ : EReal) ((β : EReal) * (c2 : EReal)) = m :=
    ⟨max m₀ (β * c2), by rw [← EReal.coe_mul]; exact (EReal.coe_strictMono.monotone.map_max).symm⟩
  have hz : ∀ k : Fin 257, Ideal.exp (withSink (fun j => (x j : EReal)) (β : EReal) k - (M : EReal))
      = ((Real.exp ((if h : k.val < 256 then x ⟨k.val, h⟩ * c3 else β) - M) : ℝ) : EReal) := fun k => by
    unfold withSink; split
    · rw [← EReal.coe_mul, ← EReal.coe_sub]; rfl
    · rw [← EReal.coe_sub]; rfl
  unfold powRowSink softmaxTerm
  simp only [hm₀, hm, hM, max_bot_left, exp2_scaled, exp2_sink, hz, ← coe_sum, ← EReal.coe_add, zero_add]
  refine weighted_eq _ _ _ _ (by positivity) (by positivity) (fun j => ?_) v
  rw [Fin.sum_univ_castSucc (n := 256)]
  simp only [Fin.val_castSucc, Fin.is_lt, dite_true, Fin.val_last, lt_irrefl, dite_false, Fin.eta]
  rw [exp_shift (x j * c3) _ M, exp_shift β _ M, Finset.sum_congr rfl fun k (_ : k ∈ Finset.univ) => exp_shift (x k * c3) (Real.log 2 * m) M,
    ← Finset.mul_sum, ← mul_add, mul_div_mul_left _ _ (Real.exp_pos _).ne']

/-- With finite logits the row by powers of two is the softmax's weighted sum. -/
theorem powRow_eq (g : Fin 256 → EReal) (v : Fin 256 → EReal) (hg : ∀ j, ∃ r : ℝ, g j = r) :
    powRow g v = ∑ j : Fin 256, v j * softmaxTerm (fun k => g k * (c3 : EReal)) j := by
  choose x hx using hg
  obtain rfl : g = fun j => (x j : EReal) := funext hx
  obtain ⟨m, hm⟩ := fold_max_real (n := 255) (fun j => (x j : EReal) * (c1 : EReal)) (fun j => x j * c1)
    fun j => (EReal.coe_mul _ _).symm
  obtain ⟨M, hM⟩ := fold_max_real (n := 255) (fun j => (x j : EReal) * (c3 : EReal)) (fun j => x j * c3)
    fun j => (EReal.coe_mul _ _).symm
  have hz : ∀ k : Fin 256, Ideal.exp ((x k : EReal) * (c3 : EReal) - (M : EReal))
      = ((Real.exp (x k * c3 - M) : ℝ) : EReal) := fun k => by
    rw [← EReal.coe_mul, ← EReal.coe_sub]; rfl
  unfold powRow softmaxTerm
  simp only [hm, hM, max_bot_left, exp2_scaled, hz, ← coe_sum, zero_add]
  refine weighted_eq _ _ _ _ (by positivity) (by positivity) (fun j => ?_) v
  rw [exp_shift (x j * c3) _ M, Finset.sum_congr rfl fun k (_ : k ∈ Finset.univ) => exp_shift (x k * c3) (Real.log 2 * m) M,
    ← Finset.mul_sum, mul_div_mul_left _ _ (Real.exp_pos _).ne']

/-- `½x · (1 + tanh ½x)` is `x · sigmoid x`, at the infinities too. -/
theorem silu_eq (x : EReal) :
    (((1 / 2 : ℝ) : EReal) * x) * (((1 : ℝ) : EReal) + Ideal.tanh (((1 / 2 : ℝ) : EReal) * x)) = x * Ideal.logistic x := by
  induction x with
  | bot =>
    have h : (((1 / 2 : ℝ) : EReal) * ⊥) = ⊥ := EReal.coe_mul_bot_of_pos (by norm_num)
    have e : ((1 : ℝ) : EReal) + Ideal.tanh ⊥ = 0 := by
      show ((1 : ℝ) : EReal) + ((-1 : ℝ) : EReal) = 0
      rw [← EReal.coe_add]; norm_num
    rw [h, e, mul_zero, Ideal.logistic, EReal.neg_bot, Ideal.div, if_neg]
    · show (0 : EReal) = ⊥ * (1 * (1 + (⊤ : EReal))⁻¹)
      rw [EReal.add_top_of_ne_bot (by decide), EReal.inv_top, mul_zero, mul_zero]
    · show ¬ (1 + (⊤ : EReal) = 0)
      rw [EReal.add_top_of_ne_bot (by decide)]; exact EReal.top_ne_zero
  | top =>
    have h : (((1 / 2 : ℝ) : EReal) * ⊤) = ⊤ := EReal.coe_mul_top_of_pos (by norm_num)
    have e : ((1 : ℝ) : EReal) + Ideal.tanh ⊤ = ((2 : ℝ) : EReal) := by
      show ((1 : ℝ) : EReal) + ((1 : ℝ) : EReal) = _
      rw [← EReal.coe_add]; norm_num
    have l : Ideal.logistic ⊤ = ((1 : ℝ) : EReal) := by
      rw [Ideal.logistic, EReal.neg_top]
      show Ideal.div 1 (1 + 0) = _
      rw [add_zero]
      exact (div_real 1 1 one_ne_zero).trans (by norm_num)
    rw [h, e, l, EReal.top_mul_coe_of_pos (by norm_num), EReal.top_mul_coe_of_pos (by norm_num)]
  | coe r =>
    have l : Ideal.logistic (r : EReal) = ((1 / (1 + Real.exp (-r)) : ℝ) : EReal) := by
      rw [Ideal.logistic, ← EReal.coe_neg]
      show Ideal.div ((1 : ℝ) : EReal) (((1 : ℝ) : EReal) + ((Real.exp (-r) : ℝ) : EReal)) = _
      rw [← EReal.coe_add, div_real _ _ (by positivity)]
    rw [l, ← EReal.coe_mul]
    show ((1 / 2 * r : ℝ) : EReal) * (((1 : ℝ) : EReal) + ((Real.tanh (1 / 2 * r) : ℝ) : EReal)) = _
    rw [← EReal.coe_add, ← EReal.coe_mul, ← EReal.coe_mul]
    congr 1
    rw [Real.tanh_eq_sinh_div_cosh, Real.sinh_eq, Real.cosh_eq]
    have e1 : Real.exp (-r) = Real.exp (-(1 / 2 * r)) * Real.exp (-(1 / 2 * r)) := by
      rw [← Real.exp_add]; congr 1; ring
    have e2 : Real.exp (-(1 / 2 * r)) = (Real.exp (1 / 2 * r))⁻¹ := Real.exp_neg _
    have hp := Real.exp_pos (1 / 2 * r)
    rw [e1, e2]
    field_simp
    ring

end Attention

end
-- ==== Proof.BlockValue.lean ====
/-
  The attention kernel's tiles in exact arithmetic: each element of a tile is a weighted mean of values, its weights powers of
  two, times the gate's silu.
-/
module

public import proofs.«01_k».proof.Proof.Block
public import proofs.«01_k».proof.Proof.Tiles
public import proofs.«01_k».proof.Proof.Softmax

@[expose] public section

set_option maxRecDepth 16384

noncomputable section

namespace Attention.Block

open Idealize.ShloMosaic Idealize.ShloMosaic.ValueIdx Idealize.SL.Sem Cert.CtxIdeal Cert.CtxIdeal.Gen Idealize.ShloMosaic.TcCoe Idealize.ShloMosaic.Pipeline

/-- Row `r` of head `i` among the four heads' rows. -/
def row (i : Fin 4) (r : Fin 256) : Fin 1024 := ⟨256 * i.val + r.val, by omega⟩

theorem zero_eq : Ideal.ofBits .f32 0x00000000#32 = 0 := by simp [Ideal.ofBits, Ideal.ieee]
theorem one_eq : Ideal.ofBits .f32 0x3F800000#32 = ((1 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem bot_eq : Ideal.ofBits .f32 0xFF800000#32 = ⊥ := by simp [Ideal.ofBits, Ideal.ieee]

theorem log2e_eq : Named.named (F := Ideal) (φ := .f32) κ "log2e" 0x3FB8AA3B#32 = (c2 : EReal) :=
  IdealRules.named_const.ideal_named_scalar _ _ _ _ rfl
theorem logit_scale_eq : Named.named (F := Ideal) (φ := .f32) κ "logit_scale" 0x3E0293EE#32 = (c1 : EReal) :=
  IdealRules.named_const.ideal_named_scalar _ _ _ _ rfl

/-- The four heads' rows, at a row of head `i`. -/
theorem joined_apply {φ : FTy} (w : Fin 4 → FVec Ideal S256x128 φ) (i : Fin 4) (r : Fin 256) (e : Fin 128) :
    joined w (ix2 (row i r) e) = w i (ix2 r e) := by
  unfold joined
  refine concatenate_apply_piece (t := S1024x128) 0 _ _ _ i.val (by exact i.isLt) S256x128 (w i) ?_ rfl (256 * i.val) ?_ (ix2 r e) ?_ ?_
  · fin_cases i <;> rfl
  · fin_cases i <;> rfl
  · intro b hb; fin_cases b
    · exact absurd rfl hb
    · rfl
  · rfl

/-- The sinks' column, at a row of head `i`. -/
theorem sinkColumn_apply (s : Fin 4 → Elt Ideal .f32) (i : Fin 4) (r : Fin 256) :
    sinkColumn (F := Ideal) s (ix2 (row i r) 0) = s i * (c2 : EReal) := by
  rw [← log2e_eq]
  unfold sinkColumn
  refine concatenate_apply_piece (t := S1024x1) 0
    [⟨S256x1, broadcast S256x1 (Scalar.mulf (s 0) (Named.named κ "log2e" 0x3FB8AA3B#32))⟩,
      ⟨S256x1, broadcast S256x1 (Scalar.mulf (s 1) (Named.named κ "log2e" 0x3FB8AA3B#32))⟩,
      ⟨S256x1, broadcast S256x1 (Scalar.mulf (s 2) (Named.named κ "log2e" 0x3FB8AA3B#32))⟩,
      ⟨S256x1, broadcast S256x1 (Scalar.mulf (s 3) (Named.named κ "log2e" 0x3FB8AA3B#32))⟩]
    concatenates_S256x1_S256x1_S256x1_S256x1_S1024x1_d0 _ i.val (by exact i.isLt) S256x1
    (broadcast S256x1 (Scalar.mulf (s i) (Named.named (F := Ideal) (φ := .f32) κ "log2e" 0x3FB8AA3B#32))) ?_ rfl (256 * i.val) ?_ (ix2 r 0) ?_ ?_
  · fin_cases i <;> rfl
  · fin_cases i <;> rfl
  · intro b hb; fin_cases b
    · exact absurd rfl hb
    · rfl
  · rfl

theorem scaled_apply (y : FVec Ideal S1024x256 .f32) (i : S1024x256.Idx) : scaled y i = y i * (c1 : EReal) := by
  rw [← logit_scale_eq]; rfl

theorem rowMax_apply (y : FVec Ideal S1024x256 .f32) (R : Fin 1024) :
    rowMax y (ix2 R 0) = (Finset.univ : Finset (Fin 256)).fold max ⊥ fun j => y (ix2 R j) := by
  unfold rowMax
  refine (shapeCast_apply _ shapeCasts_S1024_S1024x1 (ix2 R 0) (ix1 R) ?_).trans ?_
  · rw [Shape.rowMajor_val_one, Shape.rowMajor_val_two]; show R.val = R.val * 1 + 0; omega
  refine (Ideal.multiReduction_maximumf_single y 0xFF800000#32 reduces_S1024x256_S1024 _ _ (ix1 R)).trans ?_
  show (Finset.univ : Finset (Fin 256)).fold max (Ideal.ofBits .f32 0xFF800000#32) _ = _
  rw [bot_eq]
  refine congrArg (fun f => (Finset.univ : Finset (Fin 256)).fold max ⊥ f) (funext fun j => congrArg y ?_)
  funext a; fin_cases a <;> exact Fin.ext rfl

theorem rowSum_apply (y : FVec Ideal S1024x256 .f32) (R : Fin 1024) :
    rowSum y (ix2 R 0) = ∑ j : Fin 256, y (ix2 R j) := by
  unfold rowSum
  refine (shapeCast_apply _ shapeCasts_S1024_S1024x1 (ix2 R 0) (ix1 R) ?_).trans ?_
  · rw [Shape.rowMajor_val_one, Shape.rowMajor_val_two]; show R.val = R.val * 1 + 0; omega
  refine (Ideal.multiReduction_add_single y 0x00000000#32 reduces_S1024x256_S1024 _ _ (ix1 R)).trans ?_
  refine Finset.sum_congr rfl fun j _ => congrArg y ?_
  funext a; fin_cases a <;> exact Fin.ext rfl

theorem weights_apply (y : FVec Ideal S1024x256 .f32) (M : FVec Ideal S1024x1 .f32) (R : Fin 1024) (j : Fin 256) :
    weights y M (ix2 R j) = Ideal.exp2 (y (ix2 R j) - M (ix2 R 0)) := by
  unfold weights
  show Ideal.exp2 (y (ix2 R j) - broadcastTo S1024x256 M broadcasts_S1024x1_S1024x256 (ix2 R j)) = _
  rw [broadcastTo_apply M broadcasts_S1024x1_S1024x256 (ix2 R j) (ix2 R 0) (fun a => by fin_cases a <;> rfl)]

theorem shares_apply (l : FVec Ideal S1024x1 .f32) (R : Fin 1024) (d : Fin 128) :
    shares l (ix2 R d) = Ideal.div ((1 : ℝ) : EReal) (l (ix2 R 0)) := by
  unfold shares
  refine (broadcastTo_apply _ broadcasts_S1024x1_S1024x128 (ix2 R d) (ix2 R 0) (fun a => by fin_cases a <;> rfl)).trans ?_
  rw [← one_eq]; rfl

theorem halved_apply (p : FVec Ideal S1024x256 .f32) (i : S1024x256.Idx) : halved p i = p i := by
  unfold halved; rw [shapeCast_self]; rfl

/-- Four heads with common keys and values: at row `r` of head `i`, the mean of the values at column `d`. -/
theorem sharedHeads_apply (s : Fin 4 → Elt Ideal .f32) (q : Fin 4 → FVec Ideal S256x128 .bf16) (k v : FVec Ideal S256x128 .bf16)
    (i : Fin 4) (r : Fin 256) (d : Fin 128) :
    sharedHeads s q k v (ix2 (row i r) d)
      = powRowSink (fun j => ∑ e : Fin 128, q i (ix2 r e) * k (ix2 j e)) (s i) (fun j => v (ix2 j d)) := by
  unfold sharedHeads
  have hy : ∀ j : Fin 256, scaled (shapeCast S1024x256 (matmul dot_S1024x128_S256x128_S1024x256_1_1_0_0_n_n none (joined q) k
      (constant (F := Ideal) S1024x256 .f32 0x00000000#32)) shapeCasts_S1024x256_S1024x256) (ix2 (row i r) j)
      = (∑ e : Fin 128, q i (ix2 r e) * k (ix2 j e)) * (c1 : EReal) := fun j => by
    rw [scaled_apply, shapeCast_self]
    refine congrArg (· * (c1 : EReal)) ((product_transposed_apply (M := 1024) (K := 128) (N := 256) none (joined q) k (ix2 (row i r) j)).trans ?_)
    exact Finset.sum_congr rfl fun e _ => congrArg (· * k (ix2 j e)) (joined_apply q i r e)
  generalize scaled (shapeCast S1024x256 (matmul dot_S1024x128_S256x128_S1024x256_1_1_0_0_n_n none (joined q) k
      (constant (F := Ideal) S1024x256 .f32 0x00000000#32)) shapeCasts_S1024x256_S1024x256) = y at hy ⊢
  have hM : maximumf (rowMax y) (sinkColumn s) (ix2 (row i r) 0)
      = max ((Finset.univ : Finset (Fin 256)).fold max ⊥ fun j => (∑ e : Fin 128, q i (ix2 r e) * k (ix2 j e)) * (c1 : EReal)) (s i * (c2 : EReal)) := by
    show max (rowMax y (ix2 (row i r) 0)) (sinkColumn s (ix2 (row i r) 0)) = _
    rw [rowMax_apply, sinkColumn_apply]; simp only [hy]
  generalize maximumf (rowMax y) (sinkColumn s) = M at hM ⊢
  unfold powRowSink
  dsimp only
  rw [← hM]
  show FloatOps.matmul (F := Ideal) (DotDims.plain 1024 256 128) none (halved (weights y M)) v (constant (F := Ideal) ⟨2, ![1024, 128]⟩ .f32 0x00000000#32) (ix2 (row i r) d)
    * shares (addf (rowSum (weights y M)) (exp2 (subf (sinkColumn s) M))) (ix2 (row i r) d) = _
  rw [product_apply, shares_apply]
  show (∑ j : Fin 256, halved (weights y M) (ix2 (row i r) j) * v (ix2 j d))
    * Ideal.div _ (rowSum (weights y M) (ix2 (row i r) 0) + Ideal.exp2 (sinkColumn s (ix2 (row i r) 0) - M (ix2 (row i r) 0))) = _
  rw [rowSum_apply, sinkColumn_apply]
  simp only [halved_apply, weights_apply, hy]

/-- The stacked blocks at a row of block `i`. -/
theorem stack_apply {α : Type} (w : Fin 4 → S256x256.Idx → α) (i : Fin 4) (r j : Fin 256) :
    stack (w 0) (w 1) (w 2) (w 3) (ix2 (row i r) j) = w i (ix2 r j) := by
  have hlt := r.isLt
  refine (congrArg (fun q : S256x256.Idx => if 256 * i.val + r.val < 256 then w 0 q else if 256 * i.val + r.val < 512 then w 1 q
    else if 256 * i.val + r.val < 768 then w 2 q else w 3 q) (show _ = ix2 r j from ?_)).trans ?_
  · funext a; fin_cases a
    · exact Fin.ext (by show (256 * i.val + r.val) % 256 = r.val; omega)
    · rfl
  fin_cases i
  · rw [if_pos (by show 256 * 0 + r.val < 256; omega)]; rfl
  · rw [if_neg (by show ¬256 * 1 + r.val < 256; omega), if_pos (by show 256 * 1 + r.val < 512; omega)]; rfl
  · rw [if_neg (by show ¬256 * 2 + r.val < 256; omega), if_neg (by show ¬256 * 2 + r.val < 512; omega), if_pos (by show 256 * 2 + r.val < 768; omega)]; rfl
  · rw [if_neg (by show ¬256 * 3 + r.val < 256; omega), if_neg (by show ¬256 * 3 + r.val < 512; omega), if_neg (by show ¬256 * 3 + r.val < 768; omega)]; rfl

theorem headScores_apply (q k : FVec Ideal S256x128 .bf16) (r j : Fin 256) :
    headScores q k (ix2 r j) = ∑ e : Fin 128, q (ix2 r e) * k (ix2 j e) := by
  unfold headScores
  rw [shapeCast_self]
  exact product_transposed_apply (M := 256) (K := 128) (N := 256) none q k (ix2 r j)

theorem headRows_apply (p : FVec Ideal S1024x256 .bf16) (i : Fin 4) (r j : Fin 256) :
    headRows p (256 * i.val) (rows_inside i) (ix2 r j) = p (ix2 (row i r) j) :=
  congrArg p (funext fun a => Fin.ext (by
    fin_cases a
    · show 256 * i.val + 1 * r.val = 256 * i.val + r.val; omega
    · show 0 + 1 * j.val = j.val; omega))

/-- Four heads with keys and values of their own: at row `r` of head `i`, the mean of that head's values at column `d`. -/
theorem ownHeads_apply (q k v : Fin 4 → FVec Ideal S256x128 .bf16) (i : Fin 4) (r : Fin 256) (d : Fin 128) :
    ownHeads q k v (ix2 (row i r) d)
      = powRow (fun j => ∑ e : Fin 128, q i (ix2 r e) * k i (ix2 j e)) (fun j => v i (ix2 j d)) := by
  unfold ownHeads
  have hy : ∀ j : Fin 256, scaled (stack (headScores (q 0) (k 0)) (headScores (q 1) (k 1)) (headScores (q 2) (k 2)) (headScores (q 3) (k 3))) (ix2 (row i r) j)
      = (∑ e : Fin 128, q i (ix2 r e) * k i (ix2 j e)) * (c1 : EReal) := fun j => by
    rw [scaled_apply]
    exact congrArg (· * (c1 : EReal)) ((stack_apply (fun n => headScores (q n) (k n)) i r j).trans (headScores_apply _ _ r j))
  generalize scaled (stack (headScores (q 0) (k 0)) (headScores (q 1) (k 1)) (headScores (q 2) (k 2)) (headScores (q 3) (k 3))) = y at hy ⊢
  have hM : rowMax y (ix2 (row i r) 0)
      = (Finset.univ : Finset (Fin 256)).fold max ⊥ fun j => (∑ e : Fin 128, q i (ix2 r e) * k i (ix2 j e)) * (c1 : EReal) := by
    rw [rowMax_apply]; simp only [hy]
  generalize rowMax y = M at hM ⊢
  unfold powRow
  dsimp only
  rw [← hM]
  refine (congrArg₂ (· * ·) (joined_apply _ i r d) (shares_apply _ (row i r) d)).trans ?_
  refine congrArg₂ (· * ·) ((product_apply (M := 256) (K := 256) (N := 128) none (headRows (halved (weights y M)) (256 * i.val) (rows_inside i)) (v i) (ix2 r d)).trans ?_) ?_
  · refine Finset.sum_congr rfl fun j _ => congrArg (· * v i (ix2 j d)) ?_
    refine (headRows_apply _ i r j).trans ?_
    rw [halved_apply, weights_apply, hy]
  · rw [rowSum_apply]; simp only [weights_apply, hy]

/-- A head's rows times the gate's silu. -/
theorem gated_apply (o : FVec Ideal S1024x128 .f32) (i : Fin 4) (gate : FVec Ideal S256x128 .bf16) (r : Fin 256) (d : Fin 128) :
    gated o (256 * i.val) (head_slice i) gate (ix2 r d)
      = o (ix2 (row i r) d) * (gate (ix2 r d) * Ideal.logistic (gate (ix2 r d))) := by
  rw [← silu_eq, ← half_eq, ← one_eq]
  exact congrArg (· * _) (extractStridedSlice_apply _ o (head_slice i) (ix2 r d) (ix2 (row i r) d) (fun a => by
    fin_cases a
    · rfl
    · show d.val = 0 + d.val; omega))

/-- Columns of a block, at an element. -/
theorem cols_apply {N : ℕ} (x : Vec Ideal ⟨2, ![256, N]⟩ .bf16) (n : ℕ) (h : ∀ a, ![0, 128 * n] a + ![256, 128] a ≤ ![256, N] a) (r : Fin 256) (e : Fin 128) :
    cols x (128 * n) h (ix2 r e) = x (ix2 r ⟨128 * n + e.val, by have h1 : 128 * n + 128 ≤ N := h 1; omega⟩) :=
  congrArg x (funext fun a => Fin.ext (by
    fin_cases a
    · show 0 + 1 * r.val = r.val; omega
    · show 128 * n + 1 * e.val = 128 * n + e.val; omega))

theorem sink_apply (x : Vec Ideal S16 .f32) (g i : Fin 4) :
    sink x (4 * g.val + i.val) (sink_inside g i) = x (ix1 ⟨4 * g.val + i.val, by omega⟩) :=
  congrArg x (funext fun a => Fin.ext (by fin_cases a; show 4 * g.val + i.val + 1 * 0 = 4 * g.val + i.val; omega))

/-- A tile of the first half at an element. -/
theorem sharedTile_apply (x0 : Vec Ideal S16 .f32) (x1 : Vec Ideal S256x8192 .bf16) (x2 x3 : Vec Ideal S256x512 .bf16) (g i : Fin 4)
    (r : Fin 256) (d : Fin 128) :
    sharedTile x0 x1 x2 x3 g i (ix2 r d)
      = powRowSink (fun j => ∑ e : Fin 128, x1 (ix2 r ⟨128 * (4 * g.val + i.val) + e.val, by omega⟩) * x2 (ix2 j ⟨128 * g.val + e.val, by omega⟩))
          (x0 (ix1 ⟨4 * g.val + i.val, by omega⟩)) (fun j => x3 (ix2 j ⟨128 * g.val + d.val, by omega⟩))
        * (x1 (ix2 r ⟨128 * (32 + 4 * g.val + i.val) + d.val, by omega⟩) * Ideal.logistic (x1 (ix2 r ⟨128 * (32 + 4 * g.val + i.val) + d.val, by omega⟩))) := by
  unfold sharedTile
  rw [gated_apply, sharedHeads_apply]
  simp only [sink_apply, cols_apply (N := 8192), cols_apply (N := 512)]

/-- A tile of the second half at an element. -/
theorem ownTile_apply (x1 : Vec Ideal S256x8192 .bf16) (x4 x5 : Vec Ideal S256x2048 .bf16) (g i : Fin 4) (r : Fin 256) (d : Fin 128) :
    ownTile x1 x4 x5 g i (ix2 r d)
      = powRow (fun j => ∑ e : Fin 128, x1 (ix2 r ⟨128 * (16 + 4 * g.val + i.val) + e.val, by omega⟩) * x4 (ix2 j ⟨128 * (4 * g.val + i.val) + e.val, by omega⟩))
          (fun j => x5 (ix2 j ⟨128 * (4 * g.val + i.val) + d.val, by omega⟩))
        * (x1 (ix2 r ⟨128 * (48 + 4 * g.val + i.val) + d.val, by omega⟩) * Ideal.logistic (x1 (ix2 r ⟨128 * (48 + 4 * g.val + i.val) + d.val, by omega⟩))) := by
  unfold ownTile
  rw [gated_apply, ownHeads_apply]
  simp only [cols_apply (N := 8192), cols_apply (N := 2048)]

end Attention.Block

end
-- ==== Proof.Heads.lean ====
/-
  The attention of one head at one row, as a formula over whole arrays: 32 blocks of 256 rows, the queries of a row against the
  256 keys of its block.
-/
module

public import proofs.«01_k».proof.Proof.Softmax
public import Idealize.ShloMosaic.Lib.ValueIdx

@[expose] public section

noncomputable section

namespace Attention

open Idealize.ShloMosaic Idealize.ShloMosaic.ValueIdx

/-- Row `r` of block `b`. -/
def rowAt (b : Fin 32) (r : Fin 256) : Fin 8192 := ⟨256 * b.val + r.val, by omega⟩

/-- Column `e` of the 128 columns from `128 n`. -/
def colAt {N : ℕ} (n : ℕ) (h : 128 * n + 128 ≤ N) (e : Fin 128) : Fin N := ⟨128 * n + e.val, by omega⟩

/-- An array of `N` columns over the 8192 rows. -/
abbrev Rows (N : ℕ) := (⟨2, ![8192, N]⟩ : Shape).Idx → EReal

/-- The score of row `r` of block `b` against the key of row `j` of the block: the query's columns from `128 n`, the key's from `128 p`. -/
def score {N P : ℕ} (q : Rows N) (k : Rows P) (n p : ℕ) (hn : 128 * n + 128 ≤ N) (hp : 128 * p + 128 ≤ P) (b : Fin 32) (r j : Fin 256) : EReal :=
  ∑ e : Fin 128, q (ix2 (rowAt b r) (colAt n hn e)) * k (ix2 (rowAt b j) (colAt p hp e))

/-- The gate's silu at a row, column `d` of those from `128 n`. -/
def gateAt {N : ℕ} (q : Rows N) (n : ℕ) (hn : 128 * n + 128 ≤ N) (b : Fin 32) (r : Fin 256) (d : Fin 128) : EReal :=
  q (ix2 (rowAt b r) (colAt n hn d)) * Ideal.logistic (q (ix2 (rowAt b r) (colAt n hn d)))

end Attention

end
-- ==== Proof.CtxValue.lean ====
/-
  What the attention kernel leaves in its result, in exact arithmetic: element by element, the weighted mean of a head's values
  with powers of two as weights, times the gate's silu.
-/
module

public import proofs.«01_k».proof.Proof.BlockValue
public import proofs.«01_k».proof.Proof.Heads
public import proofs.«01_k».proof.Proof.Gen.CtxIdeal.Value

@[expose] public section

set_option maxRecDepth 16384

noncomputable section

namespace Attention.Block

open Idealize.ShloMosaic Idealize.ShloMosaic.ValueIdx Idealize.SL.Sem Cert.CtxIdeal Cert.CtxIdeal.Gen Idealize.ShloMosaic.TcCoe Idealize.ShloMosaic.Pipeline

/-- The block the tiles make up: 128 columns each, the shared heads first. -/
def tiled (x0 : Vec Ideal S16 .f32) (x1 : Vec Ideal S256x8192 .bf16) (x2 x3 : Vec Ideal S256x512 .bf16) (x4 x5 : Vec Ideal S256x2048 .bf16) :
    S256x4096.Idx → Elt Ideal .bf16 := fun y =>
  let h : ℕ := (y 1).val / 128
  let g : Fin 4 := ⟨h / 4 % 4, Nat.mod_lt _ (by decide)⟩
  let i : Fin 4 := ⟨h % 4, Nat.mod_lt _ (by decide)⟩
  let z : S256x128.Idx := ix2 (⟨(y 0).val, (y 0).isLt⟩ : Fin 256) (⟨(y 1).val % 128, Nat.mod_lt _ (by decide)⟩ : Fin 128)
  if h < 16 then sharedTile x0 x1 x2 x3 g i z else ownTile x1 x4 x5 g i z

theorem tiled_shared (x0 : Vec Ideal S16 .f32) (x1 : Vec Ideal S256x8192 .bf16) (x2 x3 : Vec Ideal S256x512 .bf16)
    (x4 x5 : Vec Ideal S256x2048 .bf16) (g i : Fin 4) (r : Fin 256) (d : Fin 128) (y : S256x4096.Idx)
    (h0 : (y 0).val = r.val) (h1 : (y 1).val = 128 * (4 * g.val + i.val) + d.val) :
    tiled x0 x1 x2 x3 x4 x5 y = sharedTile x0 x1 x2 x3 g i (ix2 r d) := by
  unfold tiled
  have hh : (y 1).val / 128 = 4 * g.val + i.val := by omega
  dsimp only
  rw [if_pos (by omega)]
  congr 1
  · exact Fin.ext (by show (y 1).val / 128 / 4 % 4 = g.val; omega)
  · exact Fin.ext (by show (y 1).val / 128 % 4 = i.val; omega)
  · funext a; fin_cases a
    · exact Fin.ext h0
    · exact Fin.ext (by show (y 1).val % 128 = d.val; omega)

theorem tiled_own (x0 : Vec Ideal S16 .f32) (x1 : Vec Ideal S256x8192 .bf16) (x2 x3 : Vec Ideal S256x512 .bf16)
    (x4 x5 : Vec Ideal S256x2048 .bf16) (g i : Fin 4) (r : Fin 256) (d : Fin 128) (y : S256x4096.Idx)
    (h0 : (y 0).val = r.val) (h1 : (y 1).val = 128 * (16 + 4 * g.val + i.val) + d.val) :
    tiled x0 x1 x2 x3 x4 x5 y = ownTile x1 x4 x5 g i (ix2 r d) := by
  unfold tiled
  have hh : (y 1).val / 128 = 16 + 4 * g.val + i.val := by omega
  dsimp only
  rw [if_neg (by omega)]
  congr 1
  · exact Fin.ext (by show (y 1).val / 128 / 4 % 4 = g.val; omega)
  · exact Fin.ext (by show (y 1).val / 128 % 4 = i.val; omega)
  · funext a; fin_cases a
    · exact Fin.ext h0
    · exact Fin.ext (by show (y 1).val % 128 = d.val; omega)

theorem mem_heads : ∀ g i : Fin 4, (g, i) ∈ heads := by decide

/-- The tiles, stored one after another, make up the block. -/
theorem canon_tiles (x0 : Vec Ideal S16 .f32) (x1 : Vec Ideal S256x8192 .bf16) (x2 x3 : Vec Ideal S256x512 .bf16)
    (x4 x5 : Vec Ideal S256x2048 .bf16) (y : S256x4096.Idx) :
    View.canon (tiles x0 x1 x2 x3 x4 x5) y = tiled x0 x1 x2 x3 x4 x5 y := by
  refine View.canon_apply_of_pieces (tiled x0 x1 x2 x3 x4 x5) (tiles x0 x1 x2 x3 x4 x5) ?_ y ?_
  · intro p hp x
    unfold tiles at hp
    rcases List.mem_append.mp hp with hp | hp
    · obtain ⟨⟨g, i⟩, -, rfl⟩ := List.mem_map.mp hp
      obtain ⟨r, d, rfl⟩ : ∃ (r : Fin 256) (d : Fin 128), x = ix2 r d := ⟨x 0, x 1, by funext a; fin_cases a <;> rfl⟩
      refine (tiled_own x0 x1 x2 x3 x4 x5 g i r d _ ?_ ?_).symm
      · show 0 + 1 * r.val = r.val; omega
      · show 128 * (16 + 4 * g.val + i.val) + 1 * d.val = _; omega
    · obtain ⟨⟨g, i⟩, -, rfl⟩ := List.mem_map.mp hp
      obtain ⟨r, d, rfl⟩ : ∃ (r : Fin 256) (d : Fin 128), x = ix2 r d := ⟨x 0, x 1, by funext a; fin_cases a <;> rfl⟩
      refine (tiled_shared x0 x1 x2 x3 x4 x5 g i r d _ ?_ ?_).symm
      · show 0 + 1 * r.val = r.val; omega
      · show 128 * (4 * g.val + i.val) + 1 * d.val = _; omega
  · have hy0 : (y 0).val < 256 := (y 0).isLt
    have hy : (y 1).val < 4096 := (y 1).isLt
    unfold tiles
    have hmem : ∀ (o : ℕ) (i), o ≤ (y 1).val → (y 1).val < o + 128 → y ∈ (Rect.unit (s := S256x4096) ![0, o] ![256, 128] i).set := by
      intro o i h0 h1
      refine Rect.mem_set_unit.mpr fun a => ?_
      fin_cases a
      · exact ⟨Nat.zero_le _, by show (y 0).val < 0 + 256; omega⟩
      · exact ⟨h0, h1⟩
    by_cases h : (y 1).val / 128 < 16
    · refine ⟨_, List.mem_append_right _ (List.mem_map.mpr ⟨(⟨(y 1).val / 512, by omega⟩, ⟨(y 1).val / 128 % 4, by omega⟩), mem_heads _ _, rfl⟩), ?_⟩
      exact hmem _ (cols_inside (N := 4096) (4 * ((y 1).val / 512) + (y 1).val / 128 % 4) (by omega)) (by show 128 * (4 * ((y 1).val / 512) + (y 1).val / 128 % 4) ≤ (y 1).val; omega)
        (by show (y 1).val < 128 * (4 * ((y 1).val / 512) + (y 1).val / 128 % 4) + 128; omega)
    · refine ⟨_, List.mem_append_left _ (List.mem_map.mpr ⟨(⟨(y 1).val / 512 - 4, by omega⟩, ⟨(y 1).val / 128 % 4, by omega⟩), mem_heads _ _, rfl⟩), ?_⟩
      exact hmem _ (cols_inside (N := 4096) (16 + 4 * ((y 1).val / 512 - 4) + (y 1).val / 128 % 4) (by omega)) (by show 128 * (16 + 4 * ((y 1).val / 512 - 4) + (y 1).val / 128 % 4) ≤ (y 1).val; omega)
        (by show (y 1).val < 128 * (16 + 4 * ((y 1).val / 512 - 4) + (y 1).val / 128 % 4) + 128; omega)

variable (m : (ℓ : Loc nD τ sig) → Buf (Elt Ideal) ℓ)

theorem points : ∀ t : Fin grid0.N, win0_0.index t 0 = 0 ∧ win0_1.index t 0 = t.val ∧ win0_1.index t 1 = 0 ∧ win0_2.index t 0 = t.val ∧ win0_2.index t 1 = 0
    ∧ win0_3.index t 0 = t.val ∧ win0_3.index t 1 = 0 ∧ win0_4.index t 0 = t.val ∧ win0_4.index t 1 = 0
    ∧ win0_5.index t 0 = t.val ∧ win0_5.index t 1 = 0 ∧ win0_6.index t 0 = t.val ∧ win0_6.index t 1 = 0 := by decide +kernel

theorem queries_apply (c : Dev nD) (t : Fin 32) (r : Fin 256) (e : Fin 8192) :
    iblk m c 1 t (ix2 r e) = m ((c : Thread nD τ).loc main_arg1) (ix2 (rowAt t r) e) := by
  refine (congrArg (V m c (Pipeline.arrRef spec0 1)) (mem_block win0_1 t (ix2 r e) (ix2 (rowAt t r) e) rfl fun a => ?_)).trans (congrFun (V_main_arg1 m c) _)
  have hp := points t
  fin_cases a
  · show win0_1.index t 0 * 256 + r.val = 256 * t.val + r.val; omega
  · show win0_1.index t 1 * 8192 + e.val = e.val; omega

theorem keys_apply (c : Dev nD) (t : Fin 32) (r : Fin 256) (e : Fin 512) :
    iblk m c 2 t (ix2 r e) = m ((c : Thread nD τ).loc main_arg2) (ix2 (rowAt t r) e) := by
  refine (congrArg (V m c (Pipeline.arrRef spec0 2)) (mem_block win0_2 t (ix2 r e) (ix2 (rowAt t r) e) rfl fun a => ?_)).trans (congrFun (V_main_arg2 m c) _)
  have hp := points t
  fin_cases a
  · show win0_2.index t 0 * 256 + r.val = 256 * t.val + r.val; omega
  · show win0_2.index t 1 * 512 + e.val = e.val; omega

theorem values_apply (c : Dev nD) (t : Fin 32) (r : Fin 256) (e : Fin 512) :
    iblk m c 3 t (ix2 r e) = m ((c : Thread nD τ).loc main_arg3) (ix2 (rowAt t r) e) := by
  refine (congrArg (V m c (Pipeline.arrRef spec0 3)) (mem_block win0_3 t (ix2 r e) (ix2 (rowAt t r) e) rfl fun a => ?_)).trans (congrFun (V_main_arg3 m c) _)
  have hp := points t
  fin_cases a
  · show win0_3.index t 0 * 256 + r.val = 256 * t.val + r.val; omega
  · show win0_3.index t 1 * 512 + e.val = e.val; omega

theorem ownKeys_apply (c : Dev nD) (t : Fin 32) (r : Fin 256) (e : Fin 2048) :
    iblk m c 4 t (ix2 r e) = m ((c : Thread nD τ).loc main_arg4) (ix2 (rowAt t r) e) := by
  refine (congrArg (V m c (Pipeline.arrRef spec0 4)) (mem_block win0_4 t (ix2 r e) (ix2 (rowAt t r) e) rfl fun a => ?_)).trans (congrFun (V_main_arg4 m c) _)
  have hp := points t
  fin_cases a
  · show win0_4.index t 0 * 256 + r.val = 256 * t.val + r.val; omega
  · show win0_4.index t 1 * 2048 + e.val = e.val; omega

theorem ownValues_apply (c : Dev nD) (t : Fin 32) (r : Fin 256) (e : Fin 2048) :
    iblk m c 5 t (ix2 r e) = m ((c : Thread nD τ).loc main_arg5) (ix2 (rowAt t r) e) := by
  refine (congrArg (V m c (Pipeline.arrRef spec0 5)) (mem_block win0_5 t (ix2 r e) (ix2 (rowAt t r) e) rfl fun a => ?_)).trans (congrFun (V_main_arg5 m c) _)
  have hp := points t
  fin_cases a
  · show win0_5.index t 0 * 256 + r.val = 256 * t.val + r.val; omega
  · show win0_5.index t 1 * 2048 + e.val = e.val; omega

theorem sinks_apply (c : Dev nD) (t : Fin 32) (i : Fin 16) : iblk m c 0 t (ix1 i) = m ((c : Thread nD τ).loc main_arg0) (ix1 i) := by
  refine (congrArg (V m c (Pipeline.arrRef spec0 0)) (mem_block win0_0 t (ix1 i) (ix1 i) rfl fun a => ?_)).trans (congrFun (V_main_arg0 m c) _)
  have hp := points t
  fin_cases a; show win0_0.index t 0 * 16 + i.val = i.val; omega

/-- Block `t` of the result is what its tiles make up. -/
theorem result_apply (c : Dev nD) (t : Fin 32) (r : Fin 256) (e : Fin 4096) :
    (dats m 0 c).arrAt 6 cfg0.N (ix2 (rowAt t r) e)
      = tiled (iblk m c 0 t) (iblk m c 1 t) (iblk m c 2 t) (iblk m c 3 t) (iblk m c 4 t) (iblk m c 5 t) (ix2 r e) := by
  have h := congrFun ((Value.blocks6 m c t (flush0_6 t)).trans ((Value.flushed6 m c t).trans
    (congrArg (fun X => (cfg0.win 6).cut (grid0.coords t) X) (out_eq m c t)))) (ix2 r e)
  refine (congrArg ((dats m 0 c).arrAt 6 cfg0.N) (mem_block win0_6 t (ix2 r e) (ix2 (rowAt t r) e) rfl fun a => ?_)).symm.trans (h.trans ?_)
  · have hp := points t
    fin_cases a
    · show win0_6.index t 0 * 256 + r.val = 256 * t.val + r.val; omega
    · show win0_6.index t 1 * 4096 + e.val = e.val; omega
  · exact canon_tiles _ _ _ _ _ _ (ix2 r e)

/-- The first half of the result: head `i` of group `g`, at row `r` of block `b` and column `d`. -/
theorem shared_result (c : Dev nD) (b : Fin 32) (g i : Fin 4) (r : Fin 256) (d : Fin 128) :
    (dats m 0 c).arrAt 6 cfg0.N (ix2 (rowAt b r) (colAt (4 * g.val + i.val) (by omega) d))
      = powRowSink (score (m ((c : Thread nD τ).loc main_arg1)) (m ((c : Thread nD τ).loc main_arg2)) (4 * g.val + i.val) g.val (by omega) (by omega) b r)
          (m ((c : Thread nD τ).loc main_arg0) (ix1 (⟨4 * g.val + i.val, by omega⟩ : Fin 16)))
          (fun j => m ((c : Thread nD τ).loc main_arg3) (ix2 (rowAt b j) (colAt g.val (by omega) d)))
        * gateAt (m ((c : Thread nD τ).loc main_arg1)) (32 + 4 * g.val + i.val) (by omega) b r d := by
  refine (result_apply m c b r _).trans ((tiled_shared _ _ _ _ _ _ g i r d _ rfl rfl).trans ((sharedTile_apply _ _ _ _ g i r d).trans ?_))
  simp only [queries_apply, keys_apply, values_apply, sinks_apply]
  rfl

/-- The second half of the result: head `4 g + i`, at row `r` of block `b` and column `d`. -/
theorem own_result (c : Dev nD) (b : Fin 32) (g i : Fin 4) (r : Fin 256) (d : Fin 128) :
    (dats m 0 c).arrAt 6 cfg0.N (ix2 (rowAt b r) (colAt (16 + 4 * g.val + i.val) (by omega) d))
      = powRow (score (m ((c : Thread nD τ).loc main_arg1)) (m ((c : Thread nD τ).loc main_arg4)) (16 + 4 * g.val + i.val) (4 * g.val + i.val) (by omega) (by omega) b r)
          (fun j => m ((c : Thread nD τ).loc main_arg5) (ix2 (rowAt b j) (colAt (4 * g.val + i.val) (by omega) d)))
        * gateAt (m ((c : Thread nD τ).loc main_arg1)) (48 + 4 * g.val + i.val) (by omega) b r d := by
  refine (result_apply m c b r _).trans ((tiled_own _ _ _ _ _ _ g i r d _ rfl rfl).trans ((ownTile_apply _ _ _ g i r d).trans ?_))
  simp only [queries_apply, ownKeys_apply, ownValues_apply]
  rfl

end Attention.Block

end
-- ==== Proof.CtxReference.lean ====
/-
  The reference's attention read at one row and column: for each head a softmax over the scaled scores of the row's block (with the
  sink after them for the sixteen heads that share keys), taken over the values, times the silu of the gate.
-/
module

public import proofs.«01_k».proof.Proof.Heads
public import proofs.«01_k».proof.Proof.BlockValue
public import proofs.«01_k».proof.Proof.Gen.CtxRefIdeal.Read
public import Idealize.ShloMosaic.Lib.KernelVsHost

@[expose] public section

set_option maxRecDepth 16384

noncomputable section

namespace Attention.Reference

open Idealize.ShloMosaic Idealize.ShloMosaic.ValueIdx
open Cert.CtxRefIdeal Cert.CtxRefIdeal.Gen Cert.CtxRefIdeal.Read Attention.Block

/-- The scale of the scores is `1/√128`. -/
theorem scale_eq : FloatOps.hostUnary (F := Ideal) .rsqrt (FloatOps.ofBits (F := Ideal) .f32 0x43000000#32) = (c3 : EReal) := by
  have h : Ideal.ofBits .f32 0x43000000#32 = ((128 : ℝ) : EReal) := by
    simp [Ideal.ofBits, Ideal.ieee, -EReal.coe_mul]; norm_num
  show Ideal.rsqrt (Ideal.ofBits .f32 0x43000000#32) = _
  rw [h, Ideal.rsqrt_coe, if_neg (by norm_num), if_neg (by norm_num)]
  rfl

/-! ### Joining two arrays, and the greatest of a row -/

theorem joinLogits_apply (A : FVec Ideal S32x4x4x256x256 .f32) (B : FVec Ideal S32x4x4x256x1 .f32)
    (b : Fin 32) (g i : Fin 4) (r : Fin 256) (k : Fin 257) :
    concatenate S32x4x4x256x257 4 [⟨S32x4x4x256x256, A⟩, ⟨S32x4x4x256x1, B⟩]
        concatenates_S32x4x4x256x256_S32x4x4x256x1_S32x4x4x256x257_d4 (ix5 b g i r k)
      = if h : k.val < 256 then A (ix5 b g i r (⟨k.val, h⟩ : Fin 256)) else B (ix5 b g i r (0 : Fin 1)) := by
  by_cases hk : k.val < 256
  · rw [dif_pos hk]
    refine concatenate_apply_piece 4 [⟨S32x4x4x256x256, A⟩, ⟨S32x4x4x256x1, B⟩]
      concatenates_S32x4x4x256x256_S32x4x4x256x1_S32x4x4x256x257_d4 (ix5 b g i r k) 0 (by simp)
      S32x4x4x256x256 A rfl rfl 0 rfl (ix5 b g i r (⟨k.val, hk⟩ : Fin 256)) ?_ ?_
    · intro a ha
      fin_cases a <;> first | rfl | exact absurd rfl ha
    · show 0 + k.val = k.val; omega
  · rw [dif_neg hk]
    refine concatenate_apply_piece 4 [⟨S32x4x4x256x256, A⟩, ⟨S32x4x4x256x1, B⟩]
      concatenates_S32x4x4x256x256_S32x4x4x256x1_S32x4x4x256x257_d4 (ix5 b g i r k) 1 (by simp)
      S32x4x4x256x1 B rfl rfl 256 rfl (ix5 b g i r (0 : Fin 1)) ?_ ?_
    · intro a ha
      fin_cases a <;> first | rfl | exact absurd rfl ha
    · show 256 + 0 = k.val; omega

theorem joinLeft_apply (A B : FVec Ideal S32x256x2048 .f32) (b : Fin 32) (r : Fin 256) (p : Fin 2048) (q : Fin 4096) (h : q.val = p.val) :
    concatenate S32x256x4096 2 [⟨S32x256x2048, A⟩, ⟨S32x256x2048, B⟩]
        concatenates_S32x256x2048_S32x256x2048_S32x256x4096_d2 (ix3 b r q) = A (ix3 b r p) := by
  refine concatenate_apply_piece 2 [⟨S32x256x2048, A⟩, ⟨S32x256x2048, B⟩]
    concatenates_S32x256x2048_S32x256x2048_S32x256x4096_d2 (ix3 b r q) 0 (by simp)
    S32x256x2048 A rfl rfl 0 rfl (ix3 b r p) ?_ ?_
  · intro a ha
    fin_cases a <;> first | rfl | exact absurd rfl ha
  · show 0 + p.val = q.val; omega

theorem joinRight_apply (A B : FVec Ideal S32x256x2048 .f32) (b : Fin 32) (r : Fin 256) (p : Fin 2048) (q : Fin 4096)
    (h : q.val = 2048 + p.val) :
    concatenate S32x256x4096 2 [⟨S32x256x2048, A⟩, ⟨S32x256x2048, B⟩]
        concatenates_S32x256x2048_S32x256x2048_S32x256x4096_d2 (ix3 b r q) = B (ix3 b r p) := by
  refine concatenate_apply_piece 2 [⟨S32x256x2048, A⟩, ⟨S32x256x2048, B⟩]
    concatenates_S32x256x2048_S32x256x2048_S32x256x4096_d2 (ix3 b r q) 1 (by simp)
    S32x256x2048 B rfl rfl 2048 rfl (ix3 b r p) ?_ ?_
  · intro a ha
    fin_cases a <;> first | rfl | exact absurd rfl ha
  · show 2048 + p.val = q.val; omega

theorem rowMax257_apply (A : FVec Ideal S32x4x4x256x257 .f32) (b : Fin 32) (g i : Fin 4) (r : Fin 256) :
    Host.reduce FloatOps.maximumf A (constant S_ .f32 0xFF800000#32) reducesTo_S32x4x4x256x257_S32x4x4x256_d4 h_S_ (ix4 b g i r)
      = (Finset.univ : Finset (Fin 257)).fold max ⊥ (fun k => A (ix5 b g i r k)) := by
  have hd : S32x4x4x256x257.Reduces [4] S32x4x4x256 := by decide
  refine (congrFun (hostReduce_maximumf_eq_multiReduction A 0xFF800000#32
    reducesTo_S32x4x4x256x257_S32x4x4x256_d4 h_S_ hd (.inl rfl) rfl) (ix4 b g i r)).trans ?_
  refine (Ideal.multiReduction_maximumf_single A 0xFF800000#32 hd _ _ (ix4 b g i r)).trans ?_
  show (Finset.univ : Finset (Fin 257)).fold max (Ideal.ofBits .f32 0xFF800000#32) _ = _
  rw [bot_eq]
  refine congrArg (fun f => (Finset.univ : Finset (Fin 257)).fold max ⊥ f) (funext fun k => congrArg A ?_)
  funext a; fin_cases a <;> exact Fin.ext rfl

theorem rowMax256_apply (A : FVec Ideal S32x16x1x256x256 .f32) (b : Fin 32) (h : Fin 16) (u : Fin 1) (r : Fin 256) :
    Host.reduce FloatOps.maximumf A (constant S_ .f32 0xFF800000#32) reducesTo_S32x16x1x256x256_S32x16x1x256_d4 h_S_ (ix4 b h u r)
      = (Finset.univ : Finset (Fin 256)).fold max ⊥ (fun k => A (ix5 b h u r k)) := by
  have hd : S32x16x1x256x256.Reduces [4] S32x16x1x256 := by decide
  refine (congrFun (hostReduce_maximumf_eq_multiReduction A 0xFF800000#32
    reducesTo_S32x16x1x256x256_S32x16x1x256_d4 h_S_ hd (.inl rfl) rfl) (ix4 b h u r)).trans ?_
  refine (Ideal.multiReduction_maximumf_single A 0xFF800000#32 hd _ _ (ix4 b h u r)).trans ?_
  show (Finset.univ : Finset (Fin 256)).fold max (Ideal.ofBits .f32 0xFF800000#32) _ = _
  rw [bot_eq]
  refine congrArg (fun f => (Finset.univ : Finset (Fin 256)).fold max ⊥ f) (funext fun k => congrArg A ?_)
  funext a; fin_cases a <;> exact Fin.ext rfl

variable (x0 : FVec Ideal S16 .f32) (x1 : FVec Ideal S8192x8192 .bf16) (x2 x3 : FVec Ideal S8192x512 .bf16)
  (x4 x5 : FVec Ideal S8192x2048 .bf16)

/-! ### The heads that share keys -/

theorem query_apply (b : Fin 32) (r : Fin 256) (g i : Fin 4) (e : Fin 128) :
    val_main_v11 (F := Ideal) x1 (ix5 b r g i e) = x1 (ix2 (rowAt b r) (colAt (4 * g.val + i.val) (by omega) e)) := by
  have h : idx_main_v11 (ix5 b r g i e) = ix4 b r (⟨4 * g.val + i.val, by omega⟩ : Fin 16) e := by
    funext a
    fin_cases a
    · exact Fin.ext (by show ((((b.val * 256 + r.val) * 4 + g.val) * 4 + i.val) * 128 + e.val) / 524288 = b.val; omega)
    · exact Fin.ext (by show ((((b.val * 256 + r.val) * 4 + g.val) * 4 + i.val) * 128 + e.val) / 2048 % 256 = r.val; omega)
    · exact Fin.ext (by show ((((b.val * 256 + r.val) * 4 + g.val) * 4 + i.val) * 128 + e.val) / 128 % 16 = 4 * g.val + i.val; omega)
    · exact Fin.ext (by show ((((b.val * 256 + r.val) * 4 + g.val) * 4 + i.val) * 128 + e.val) % 128 = e.val; omega)
  rw [val_main_v11_apply, h, val_main_v8_apply, val_main_v5_apply, val_main_v0_apply]
  refine congrArg x1 ?_
  funext a
  fin_cases a
  · exact Fin.ext (by show (((b.val * 256 + r.val) * 16 + (4 * g.val + i.val)) * 128 + e.val) / 2048 = 256 * b.val + r.val; omega)
  · exact Fin.ext (by show (((b.val * 256 + r.val) * 16 + (4 * g.val + i.val)) * 128 + e.val) % 2048 = 128 * (4 * g.val + i.val) + e.val; omega)

theorem key_apply (b : Fin 32) (j : Fin 256) (g : Fin 4) (e : Fin 128) :
    val_main_v9 (F := Ideal) x2 (ix4 b j g e) = x2 (ix2 (rowAt b j) (colAt g.val (by omega) e)) := by
  rw [val_main_v9_apply, val_main_v1_apply]
  refine congrArg x2 ?_
  funext a
  fin_cases a
  · exact Fin.ext (by show (((b.val * 256 + j.val) * 4 + g.val) * 128 + e.val) / 512 = 256 * b.val + j.val; omega)
  · exact Fin.ext (by show (((b.val * 256 + j.val) * 4 + g.val) * 128 + e.val) % 512 = 128 * g.val + e.val; omega)

theorem value_apply (b : Fin 32) (j : Fin 256) (g : Fin 4) (e : Fin 128) :
    val_main_v10 (F := Ideal) x3 (ix4 b j g e) = x3 (ix2 (rowAt b j) (colAt g.val (by omega) e)) := by
  rw [val_main_v10_apply, val_main_v2_apply]
  refine congrArg x3 ?_
  funext a
  fin_cases a
  · exact Fin.ext (by show (((b.val * 256 + j.val) * 4 + g.val) * 128 + e.val) / 512 = 256 * b.val + j.val; omega)
  · exact Fin.ext (by show (((b.val * 256 + j.val) * 4 + g.val) * 128 + e.val) % 512 = 128 * g.val + e.val; omega)

theorem scores_apply (b : Fin 32) (g i : Fin 4) (r j : Fin 256) :
    val_main_v13 (F := Ideal) x1 x2 (ix5 b g i r j)
      = score x1 x2 (4 * g.val + i.val) g.val (by omega) (by omega) b r j := by
  rw [val_main_v13_apply, val_main_v12_apply]
  unfold score
  refine Finset.sum_congr rfl fun e _ => ?_
  have hl : lidx_main_v12 (idx_main_v13 (ix5 b g i r j)) e = ix4 b j g e := by funext a; fin_cases a <;> rfl
  have hr : ridx_main_v12 (idx_main_v13 (ix5 b g i r j)) e = ix5 b r g i e := by funext a; fin_cases a <;> rfl
  rw [hl, hr, key_apply, query_apply]
  exact mul_comm _ _

theorem scaled_apply (b : Fin 32) (g i : Fin 4) (r j : Fin 256) :
    val_main_v16 (F := Ideal) x1 x2 (ix5 b g i r j)
      = score x1 x2 (4 * g.val + i.val) g.val (by omega) (by omega) b r j * (c3 : EReal) := by
  rw [val_main_v16_apply, scores_apply, val_main_v15_apply, val_main_v14_apply, val_main_cst_apply, scale_eq]
  rfl

theorem sink_apply (b : Fin 32) (g i : Fin 4) (r : Fin 256) (u : Fin 1) :
    val_main_v18 (F := Ideal) x0 (ix5 b g i r u) = x0 (ix1 ⟨4 * g.val + i.val, by omega⟩) := by
  rw [val_main_v18_apply, val_main_v17_apply]
  refine congrArg x0 ?_
  funext a
  fin_cases a
  exact Fin.ext (by show ((g.val * 4 + i.val) * 1 + 0) * 1 + 0 = 4 * g.val + i.val; omega)

/-- The logits of a row, the sink last. -/
def logits (b : Fin 32) (g i : Fin 4) (r : Fin 256) : Fin 257 → EReal :=
  withSink (score x1 x2 (4 * g.val + i.val) g.val (by omega) (by omega) b r) (x0 (ix1 ⟨4 * g.val + i.val, by omega⟩))

theorem logits_apply (b : Fin 32) (g i : Fin 4) (r : Fin 256) (k : Fin 257) :
    val_main_v19 (F := Ideal) x0 x1 x2 (ix5 b g i r k) = logits x0 x1 x2 b g i r k := by
  unfold val_main_v19 logits withSink
  rw [joinLogits_apply]
  refine dite_congr rfl (fun h => ?_) (fun _ => ?_)
  · exact scaled_apply x1 x2 b g i r ⟨k.val, h⟩
  · exact sink_apply x0 b g i r 0

theorem greatest_apply (b : Fin 32) (g i : Fin 4) (r : Fin 256) :
    val_main_v20 (F := Ideal) x0 x1 x2 (ix4 b g i r) = (Finset.univ : Finset (Fin 257)).fold max ⊥ (logits x0 x1 x2 b g i r) := by
  unfold val_main_v20 val_main_cst_0
  rw [rowMax257_apply]
  exact congrArg (fun f => (Finset.univ : Finset (Fin 257)).fold max ⊥ f) (funext fun k => logits_apply x0 x1 x2 b g i r k)

theorem power_apply (b : Fin 32) (g i : Fin 4) (r : Fin 256) (k : Fin 257) :
    val_main_v26 (F := Ideal) x0 x1 x2 (ix5 b g i r k)
      = Ideal.exp (logits x0 x1 x2 b g i r k
          - max ⊥ ((Finset.univ : Finset (Fin 257)).fold max ⊥ (logits x0 x1 x2 b g i r))) := by
  rw [val_main_v26_apply, val_main_v25_apply, val_main_v24_apply, val_main_v23_apply, logits_apply]
  have h : idx_main_v23 (idx_main_v24 (ix5 b g i r k)) = ix4 b g i r := by funext a; fin_cases a <;> rfl
  rw [h, val_main_v22_apply, greatest_apply, val_main_v21_apply, val_main_cst_1_apply]
  show Ideal.exp (_ - max (Ideal.ofBits .f32 0xFF800000#32) _) = _
  rw [bot_eq]

theorem weight_apply (b : Fin 32) (g i : Fin 4) (r : Fin 256) (k : Fin 257) :
    val_main_v30 (F := Ideal) x0 x1 x2 (ix5 b g i r k) = softmaxTerm (logits x0 x1 x2 b g i r) k := by
  rw [val_main_v30_apply, val_main_v29_apply, val_main_v28_apply, val_main_v27_apply, power_apply]
  unfold softmaxTerm
  show Ideal.div _ (Ideal.ofBits .f32 0x00000000#32 + _) = _
  rw [zero_eq]
  refine congrArg (fun s => Ideal.div _ (0 + s)) (Finset.sum_congr rfl fun k' _ => ?_)
  refine Eq.trans (congrArg (val_main_v26 (F := Ideal) x0 x1 x2) ?_) (power_apply x0 x1 x2 b g i r k')
  funext a; fin_cases a <;> rfl

theorem shared_apply (b : Fin 32) (r : Fin 256) (g i : Fin 4) (d : Fin 128) :
    val_main_v33 (F := Ideal) x0 x1 x2 x3 (ix5 b r g i d)
      = ∑ j : Fin 256, x3 (ix2 (rowAt b j) (colAt g.val (by omega) d))
          * softmaxTerm (logits x0 x1 x2 b g i r) ⟨j.val, by omega⟩ := by
  rw [val_main_v33_apply, val_main_v32_apply]
  refine Finset.sum_congr rfl fun j _ => ?_
  have hl : lidx_main_v32 (idx_main_v33 (ix5 b r g i d)) j = ix4 b j g d := by funext a; fin_cases a <;> rfl
  have hr : idx_main_v31 (ridx_main_v32 (idx_main_v33 (ix5 b r g i d)) j) = ix5 b g i r (⟨j.val, by omega⟩ : Fin 257) := by
    funext a; fin_cases a <;> rfl
  rw [hl, val_main_v31_apply, hr, value_apply, weight_apply]

/-! ### The heads with their own keys -/

theorem ownQuery_apply (b : Fin 32) (r : Fin 256) (h : Fin 16) (u : Fin 1) (e : Fin 128) :
    val_main_v38 (F := Ideal) x1 (ix5 b r h u e) = x1 (ix2 (rowAt b r) (colAt (16 + h.val) (by omega) e)) := by
  have hu : u.val = 0 := by omega
  have hh : idx_main_v38 (ix5 b r h u e) = ix4 b r h e := by
    funext a
    fin_cases a
    · exact Fin.ext (by show ((((b.val * 256 + r.val) * 16 + h.val) * 1 + u.val) * 128 + e.val) / 524288 = b.val; omega)
    · exact Fin.ext (by show ((((b.val * 256 + r.val) * 16 + h.val) * 1 + u.val) * 128 + e.val) / 2048 % 256 = r.val; omega)
    · exact Fin.ext (by show ((((b.val * 256 + r.val) * 16 + h.val) * 1 + u.val) * 128 + e.val) / 128 % 16 = h.val; omega)
    · exact Fin.ext (by show ((((b.val * 256 + r.val) * 16 + h.val) * 1 + u.val) * 128 + e.val) % 128 = e.val; omega)
  rw [val_main_v38_apply, hh, val_main_v35_apply, val_main_v6_apply, val_main_v0_apply]
  refine congrArg x1 ?_
  funext a
  fin_cases a
  · exact Fin.ext (by show (((b.val * 256 + r.val) * 16 + h.val) * 128 + e.val) / 2048 = 256 * b.val + r.val; omega)
  · exact Fin.ext (by show 2048 + (((b.val * 256 + r.val) * 16 + h.val) * 128 + e.val) % 2048 = 128 * (16 + h.val) + e.val; omega)

theorem ownKey_apply (b : Fin 32) (j : Fin 256) (h : Fin 16) (e : Fin 128) :
    val_main_v36 (F := Ideal) x4 (ix4 b j h e) = x4 (ix2 (rowAt b j) (colAt h.val (by omega) e)) := by
  rw [val_main_v36_apply, val_main_v3_apply]
  refine congrArg x4 ?_
  funext a
  fin_cases a
  · exact Fin.ext (by show (((b.val * 256 + j.val) * 16 + h.val) * 128 + e.val) / 2048 = 256 * b.val + j.val; omega)
  · exact Fin.ext (by show (((b.val * 256 + j.val) * 16 + h.val) * 128 + e.val) % 2048 = 128 * h.val + e.val; omega)

theorem ownValue_apply (b : Fin 32) (j : Fin 256) (h : Fin 16) (e : Fin 128) :
    val_main_v37 (F := Ideal) x5 (ix4 b j h e) = x5 (ix2 (rowAt b j) (colAt h.val (by omega) e)) := by
  rw [val_main_v37_apply, val_main_v4_apply]
  refine congrArg x5 ?_
  funext a
  fin_cases a
  · exact Fin.ext (by show (((b.val * 256 + j.val) * 16 + h.val) * 128 + e.val) / 2048 = 256 * b.val + j.val; omega)
  · exact Fin.ext (by show (((b.val * 256 + j.val) * 16 + h.val) * 128 + e.val) % 2048 = 128 * h.val + e.val; omega)

theorem ownScores_apply (b : Fin 32) (h : Fin 16) (u : Fin 1) (r j : Fin 256) :
    val_main_v40 (F := Ideal) x1 x4 (ix5 b h u r j)
      = score x1 x4 (16 + h.val) h.val (by omega) (by omega) b r j := by
  rw [val_main_v40_apply, val_main_v39_apply]
  unfold score
  refine Finset.sum_congr rfl fun e _ => ?_
  have hl : lidx_main_v39 (idx_main_v40 (ix5 b h u r j)) e = ix4 b j h e := by funext a; fin_cases a <;> rfl
  have hr : ridx_main_v39 (idx_main_v40 (ix5 b h u r j)) e = ix5 b r h u e := by funext a; fin_cases a <;> rfl
  rw [hl, hr, ownKey_apply, ownQuery_apply]
  exact mul_comm _ _

/-- The logits of a row of a head with its own keys. -/
def ownLogits (b : Fin 32) (h : Fin 16) (r : Fin 256) : Fin 256 → EReal :=
  fun j => score x1 x4 (16 + h.val) h.val (by omega) (by omega) b r j * (c3 : EReal)

theorem ownLogits_apply (b : Fin 32) (h : Fin 16) (u : Fin 1) (r j : Fin 256) :
    val_main_v43 (F := Ideal) x1 x4 (ix5 b h u r j) = ownLogits x1 x4 b h r j := by
  rw [val_main_v43_apply, ownScores_apply, val_main_v42_apply, val_main_v41_apply, val_main_cst_3_apply, scale_eq]
  rfl

theorem ownGreatest_apply (b : Fin 32) (h : Fin 16) (u : Fin 1) (r : Fin 256) :
    val_main_v44 (F := Ideal) x1 x4 (ix4 b h u r) = (Finset.univ : Finset (Fin 256)).fold max ⊥ (ownLogits x1 x4 b h r) := by
  unfold val_main_v44 val_main_cst_4
  rw [rowMax256_apply]
  exact congrArg (fun f => (Finset.univ : Finset (Fin 256)).fold max ⊥ f) (funext fun k => ownLogits_apply x1 x4 b h u r k)

theorem ownPower_apply (b : Fin 32) (h : Fin 16) (u : Fin 1) (r j : Fin 256) :
    val_main_v50 (F := Ideal) x1 x4 (ix5 b h u r j)
      = Ideal.exp (ownLogits x1 x4 b h r j - max ⊥ ((Finset.univ : Finset (Fin 256)).fold max ⊥ (ownLogits x1 x4 b h r))) := by
  rw [val_main_v50_apply, val_main_v49_apply, val_main_v48_apply, val_main_v47_apply, ownLogits_apply]
  have hi : idx_main_v47 (idx_main_v48 (ix5 b h u r j)) = ix4 b h u r := by
    funext a; fin_cases a <;> first | rfl | exact Fin.ext (by show 0 = u.val; omega)
  rw [hi, val_main_v46_apply, ownGreatest_apply, val_main_v45_apply, val_main_cst_5_apply]
  show Ideal.exp (_ - max (Ideal.ofBits .f32 0xFF800000#32) _) = _
  rw [bot_eq]

theorem ownWeight_apply (b : Fin 32) (h : Fin 16) (u : Fin 1) (r j : Fin 256) :
    val_main_v54 (F := Ideal) x1 x4 (ix5 b h u r j) = softmaxTerm (ownLogits x1 x4 b h r) j := by
  rw [val_main_v54_apply, val_main_v53_apply, val_main_v52_apply, val_main_v51_apply, ownPower_apply]
  unfold softmaxTerm
  show Ideal.div _ (Ideal.ofBits .f32 0x00000000#32 + _) = _
  rw [zero_eq]
  refine congrArg (fun s => Ideal.div _ (0 + s)) (Finset.sum_congr rfl fun k' _ => ?_)
  refine Eq.trans (congrArg (val_main_v50 (F := Ideal) x1 x4) ?_) (ownPower_apply x1 x4 b h u r k')
  funext a; fin_cases a <;> first | rfl | exact Fin.ext (by show 0 = u.val; omega)

theorem own_apply (b : Fin 32) (r : Fin 256) (h : Fin 16) (u : Fin 1) (d : Fin 128) :
    val_main_v56 (F := Ideal) x1 x4 x5 (ix5 b r h u d)
      = ∑ j : Fin 256, x5 (ix2 (rowAt b j) (colAt h.val (by omega) d)) * softmaxTerm (ownLogits x1 x4 b h r) j := by
  rw [val_main_v56_apply, val_main_v55_apply]
  refine Finset.sum_congr rfl fun j _ => ?_
  have hl : lidx_main_v55 (idx_main_v56 (ix5 b r h u d)) j = ix4 b j h d := by funext a; fin_cases a <;> rfl
  have hr : ridx_main_v55 (idx_main_v56 (ix5 b r h u d)) j = ix5 b h u r j := by funext a; fin_cases a <;> rfl
  rw [hl, hr, ownValue_apply, ownWeight_apply]

/-! ### Side by side, and the gate -/

theorem gate_apply (b : Fin 32) (r : Fin 256) (n : ℕ) (hn : 128 * n + 128 ≤ 4096) (hm : 128 * (32 + n) + 128 ≤ 8192) (d : Fin 128) :
    val_main_v60 (F := Ideal) x1 (ix2 (rowAt b r) (colAt n hn d)) = gateAt x1 (32 + n) hm b r d := by
  rw [val_main_v60_apply, val_main_call0_v5_apply, val_main_call0_v4_apply, val_main_call0_v3_apply, val_main_call0_v2_apply,
    val_main_call0_v1_apply, val_main_call0_v0_apply, val_main_call0_cst_apply, val_main_call0_cst_0_apply, val_main_v7_apply,
    val_main_v0_apply]
  have hi : idx_main_v7 (ix2 (rowAt b r) (colAt n hn d)) = ix2 (rowAt b r) (colAt (32 + n) hm d) := by
    funext a
    fin_cases a
    · rfl
    · exact Fin.ext (by show 4096 + (128 * n + d.val) = 128 * (32 + n) + d.val; omega)
  rw [hi]
  show x1 _ * Ideal.div (Ideal.ofBits .f32 0x3F800000#32) (Ideal.ofBits .f32 0x3F800000#32 + Ideal.exp (- x1 _)) = _
  rw [one_eq]
  rfl

theorem joined_apply (b : Fin 32) (r : Fin 256) (n : ℕ) (hn : 128 * n + 128 ≤ 4096) (d : Fin 128) :
    val_main_v59 (F := Ideal) x0 x1 x2 x3 x4 x5 (ix2 (rowAt b r) (colAt n hn d))
      = val_main_v58 (F := Ideal) x0 x1 x2 x3 x4 x5 (ix3 b r (colAt n hn d)) := by
  rw [val_main_v59_apply]
  refine congrArg _ ?_
  funext a
  fin_cases a
  · exact Fin.ext (by show ((256 * b.val + r.val) * 4096 + (128 * n + d.val)) / 1048576 = b.val; omega)
  · exact Fin.ext (by show ((256 * b.val + r.val) * 4096 + (128 * n + d.val)) / 4096 % 256 = r.val; omega)
  · exact Fin.ext (by show ((256 * b.val + r.val) * 4096 + (128 * n + d.val)) % 4096 = 128 * n + d.val; omega)

/-- The reference at a row and a column of a head that shares keys. -/
theorem shared_reference (b : Fin 32) (g i : Fin 4) (r : Fin 256) (d : Fin 128) :
    val_main_v62 (F := Ideal) x0 x1 x2 x3 x4 x5 (ix2 (rowAt b r) (colAt (4 * g.val + i.val) (by omega) d))
      = (∑ j : Fin 256, x3 (ix2 (rowAt b j) (colAt g.val (by omega) d))
            * softmaxTerm (logits x0 x1 x2 b g i r) ⟨j.val, by omega⟩)
          * gateAt x1 (32 + 4 * g.val + i.val) (by omega) b r d := by
  rw [val_main_v62_apply, val_main_v61_apply, joined_apply, gate_apply x1 b r _ _ (by omega)]
  have hj : val_main_v58 (F := Ideal) x0 x1 x2 x3 x4 x5 (ix3 b r (colAt (4 * g.val + i.val) (by omega) d))
      = val_main_v33 (F := Ideal) x0 x1 x2 x3 (ix5 b r g i d) := by
    unfold val_main_v58
    refine (joinLeft_apply _ _ b r (colAt (4 * g.val + i.val) (by omega) d) _ rfl).trans ?_
    rw [val_main_v34_apply]
    refine congrArg _ ?_
    funext a
    fin_cases a
    · exact Fin.ext (by show ((b.val * 256 + r.val) * 2048 + (128 * (4 * g.val + i.val) + d.val)) / 524288 = b.val; omega)
    · exact Fin.ext (by show ((b.val * 256 + r.val) * 2048 + (128 * (4 * g.val + i.val) + d.val)) / 2048 % 256 = r.val; omega)
    · exact Fin.ext (by show ((b.val * 256 + r.val) * 2048 + (128 * (4 * g.val + i.val) + d.val)) / 512 % 4 = g.val; omega)
    · exact Fin.ext (by show ((b.val * 256 + r.val) * 2048 + (128 * (4 * g.val + i.val) + d.val)) / 128 % 4 = i.val; omega)
    · exact Fin.ext (by show ((b.val * 256 + r.val) * 2048 + (128 * (4 * g.val + i.val) + d.val)) % 128 = d.val; omega)
  rw [hj, shared_apply]
  simp only [Nat.add_assoc]
  rfl

/-- The reference at a row and a column of a head with its own keys. -/
theorem own_reference (b : Fin 32) (h : Fin 16) (r : Fin 256) (d : Fin 128) :
    val_main_v62 (F := Ideal) x0 x1 x2 x3 x4 x5 (ix2 (rowAt b r) (colAt (16 + h.val) (by omega) d))
      = (∑ j : Fin 256, x5 (ix2 (rowAt b j) (colAt h.val (by omega) d)) * softmaxTerm (ownLogits x1 x4 b h r) j)
          * gateAt x1 (32 + (16 + h.val)) (by omega) b r d := by
  rw [val_main_v62_apply, val_main_v61_apply, joined_apply, gate_apply x1 b r _ _ (by omega)]
  have hj : val_main_v58 (F := Ideal) x0 x1 x2 x3 x4 x5 (ix3 b r (colAt (16 + h.val) (by omega) d))
      = val_main_v56 (F := Ideal) x1 x4 x5 (ix5 b r h (0 : Fin 1) d) := by
    unfold val_main_v58
    refine (joinRight_apply _ _ b r (colAt (h.val) (by omega) d) _ (by show 128 * (16 + h.val) + d.val = 2048 + (128 * h.val + d.val); omega)).trans ?_
    rw [val_main_v57_apply]
    refine congrArg _ ?_
    funext a
    fin_cases a
    · exact Fin.ext (by show ((b.val * 256 + r.val) * 2048 + (128 * h.val + d.val)) / 524288 = b.val; omega)
    · exact Fin.ext (by show ((b.val * 256 + r.val) * 2048 + (128 * h.val + d.val)) / 2048 % 256 = r.val; omega)
    · exact Fin.ext (by show ((b.val * 256 + r.val) * 2048 + (128 * h.val + d.val)) / 128 % 16 = h.val; omega)
    · rfl
    · exact Fin.ext (by show ((b.val * 256 + r.val) * 2048 + (128 * h.val + d.val)) % 128 = d.val; omega)
  rw [hj, own_apply]
  rfl

end Attention.Reference

end
-- ==== Proof.CtxEquation.lean ====
/-
  The attention: the kernel's result array is the reference's, where the sinks, the queries and the keys are finite. Then every
  score is a real number, and each head's row is a softmax written two ways.
-/
module

public import proofs.«01_k».proof.Proof.CtxValue
public import proofs.«01_k».proof.Proof.CtxReference

@[expose] public section

set_option maxRecDepth 16384

noncomputable section

namespace Attention

open Idealize.ShloMosaic Idealize.ShloMosaic.ValueIdx Idealize.ShloMosaic.TcCoe
open Cert.CtxIdeal Cert.CtxIdeal.Gen Cert.CtxIdeal.Value

/-- A score of real queries and keys is real. -/
theorem score_real {N P : ℕ} (q : Rows N) (k : Rows P) (n p : ℕ) (hn : 128 * n + 128 ≤ N) (hp : 128 * p + 128 ≤ P) (b : Fin 32) (r j : Fin 256)
    (hq : ∀ e : Fin 128, ∃ x : ℝ, q (ix2 (rowAt b r) (colAt n hn e)) = x) (hk : ∀ i, ∃ x : ℝ, k i = x) :
    ∃ x : ℝ, score q k n p hn hp b r j = x := by
  choose f hf using hq
  choose g hg using hk
  refine ⟨∑ e : Fin 128, f e * g (ix2 (rowAt b j) (colAt p hp e)), ?_⟩
  unfold score
  rw [coe_sum]
  refine Finset.sum_congr rfl fun e _ => ?_
  rw [hf, hg, EReal.coe_mul]

/-- Every row is a row of a block. -/
theorem row_eq (R : Fin 8192) : ∃ (b : Fin 32) (r : Fin 256), R = rowAt b r :=
  ⟨⟨R.val / 256, by omega⟩, ⟨R.val % 256, by omega⟩, Fin.ext (by show R.val = 256 * (R.val / 256) + R.val % 256; omega)⟩

/-- Every column of the result is a column of one of the 32 heads: one of four groups of four that share keys, or one of sixteen others. -/
theorem column_eq (C : Fin 4096) : (∃ (g i : Fin 4) (d : Fin 128), C = colAt (4 * g.val + i.val) (by omega) d)
    ∨ ∃ (g i : Fin 4) (d : Fin 128), C = colAt (16 + 4 * g.val + i.val) (by omega) d := by
  by_cases h : C.val < 2048
  · exact .inl ⟨⟨C.val / 512, by omega⟩, ⟨C.val / 128 % 4, by omega⟩, ⟨C.val % 128, by omega⟩,
      Fin.ext (by show C.val = 128 * (4 * (C.val / 512) + C.val / 128 % 4) + C.val % 128; omega)⟩
  · exact .inr ⟨⟨(C.val - 2048) / 512, by omega⟩, ⟨C.val / 128 % 4, by omega⟩, ⟨C.val % 128, by omega⟩,
      Fin.ext (by show C.val = 128 * (16 + 4 * ((C.val - 2048) / 512) + C.val / 128 % 4) + C.val % 128; omega)⟩

/-- The reference at a head with its own keys, its places given by their numbers. -/
theorem own_reference' (x0 : FVec Ideal Cert.CtxRefIdeal.S16 .f32) (x1 : FVec Ideal Cert.CtxRefIdeal.S8192x8192 .bf16)
    (x2 x3 : FVec Ideal Cert.CtxRefIdeal.S8192x512 .bf16) (x4 x5 : FVec Ideal Cert.CtxRefIdeal.S8192x2048 .bf16)
    (b : Fin 32) (r : Fin 256) (d : Fin 128) (h n g : ℕ) (hh : 128 * h + 128 ≤ 2048) (hn : 128 * n + 128 ≤ 4096) (hg : 128 * g + 128 ≤ 8192)
    (en : n = 16 + h) (eg : g = 48 + h) (hq : 128 * n + 128 ≤ 8192) :
    Cert.CtxRefIdeal.Read.val_main_v62 (F := Ideal) x0 x1 x2 x3 x4 x5 (ix2 (rowAt b r) (colAt n hn d))
      = (∑ j : Fin 256, x5 (ix2 (rowAt b j) (colAt h hh d)) * softmaxTerm (fun k => score x1 x4 n h hq hh b r k * (c3 : EReal)) j)
          * gateAt x1 g hg b r d := by
  subst en
  obtain rfl : g = 32 + (16 + h) := by omega
  exact Reference.own_reference x0 x1 x2 x3 x4 x5 b ⟨h, by omega⟩ r d

variable (m : (ℓ : Loc nD τ sig) → Buf (Elt Ideal) ℓ) (c : Dev nD)

/-- The kernel's array is the reference's, at finite sinks, queries and keys. -/
theorem result_eq
    (h0 : ∀ i, ∃ x : ℝ, m ((c : Thread nD τ).loc main_arg0) i = (x : EReal))
    (h1 : ∀ (R : Fin 8192) (C : Fin 8192), C.val < 4096 → ∃ x : ℝ, m ((c : Thread nD τ).loc main_arg1) (ix2 R C) = (x : EReal))
    (h2 : ∀ i, ∃ x : ℝ, m ((c : Thread nD τ).loc main_arg2) i = (x : EReal))
    (h4 : ∀ i, ∃ x : ℝ, m ((c : Thread nD τ).loc main_arg4) i = (x : EReal)) :
    (dats m 0 c).arrAt 6 cfg0.N
      = Cert.CtxRefIdeal.Read.val_main_v62 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext y
  obtain ⟨R, C, rfl⟩ : ∃ (R : Fin 8192) (C : Fin 4096), y = ix2 R C := ⟨y 0, y 1, by funext a; fin_cases a <;> rfl⟩
  obtain ⟨b, r, rfl⟩ := row_eq R
  rcases column_eq C with ⟨g, i, d, rfl⟩ | ⟨g, i, d, rfl⟩
  · refine (Block.shared_result m c b g i r d).trans (Eq.trans ?_ (Reference.shared_reference _ _ _ _ _ _ b g i r d).symm)
    refine congrArg (fun x => x * _) ((powRowSink_eq _ _ _ ?_ ?_).trans ?_)
    · intro j
      exact score_real _ _ _ _ _ _ b r j (fun e => h1 _ _ (by show 128 * (4 * g.val + i.val) + e.val < 4096; omega)) h2
    · exact h0 _
    · rfl
  · refine (Block.own_result m c b g i r d).trans (Eq.trans ?_ (own_reference' _ _ _ _ _ _ b r d (4 * g.val + i.val)
      (16 + 4 * g.val + i.val) (48 + 4 * g.val + i.val) (by omega) _ (by omega) (by omega) (by omega) (by omega)).symm)
    refine congrArg (fun x => x * _) (powRow_eq _ _ ?_)
    intro j
    exact score_real _ _ _ _ _ _ b r j (fun e => h1 _ _ (by show 128 * (16 + 4 * g.val + i.val) + e.val < 4096; omega)) h4

end Attention

end
-- ==== Proof.CtxClaim.lean ====
/-
  What is claimed of the attention: the reference runs and leaves its arguments; the two named constants are what they are named
  for; and at finite sinks, queries and keys kernel and reference end with equal results.
-/
module

public import proofs.«01_k».proof.Defs
public import proofs.«01_k».proof.Proof.CtxEquation
public import proofs.«01_k».proof.Proof.Gen.CtxRefIdeal.Run
public import proofs.«01_k».proof.Proof.Gen.Pre_finite_logits
public import Idealize.ShloMosaic.Lib.Claim
public import Idealize.ShloMosaic.Lib.Quiescent

@[expose] public section

set_option maxRecDepth 16384

noncomputable section

namespace Attention.Claim

open Idealize.ShloMosaic Idealize.ShloMosaic.ValueIdx Idealize.ShloMosaic.TcCoe Idealize.SL.Sem
open Cert

/-- A value whose magnitude is below infinity is real. -/
theorem real_of_below (x : EReal) (h : FloatOps.cmpf (F := Ideal) (φ := .f32) .olt (FloatOps.hostAbsf (F := Ideal) (φ := .f32) x)
    (FloatOps.ofBits (F := Ideal) .f32 0x7F800000#32) = 1#1) : ∃ r : ℝ, x = r := by
  have ht : Ideal.ofBits .f32 0x7F800000#32 = ⊤ := by simp [Ideal.ofBits, Ideal.ieee]
  have h' : BitVec.ofBool (decide (max x (-x) < Ideal.ofBits .f32 0x7F800000#32)) = 1#1 := h
  rw [ht] at h'
  have hlt : max x (-x) < ⊤ := by
    by_contra hn
    rw [decide_eq_false hn] at h'
    exact absurd h' (by decide)
  induction x using EReal.rec with
  | bot => simp at hlt
  | top => simp at hlt
  | coe r => exact ⟨r, rfl⟩

theorem preserved : preserves_Ctx_CtxIdeal :=
  ⟨IdealRules.named_const.statement Cert.CtxIdeal.κ "log2e" .f32 0x3FB8AA3B#32 _ rfl,
    IdealRules.named_const.statement Cert.CtxIdeal.κ "logit_scale" .f32 0x3E0293EE#32 _ rfl⟩

theorem reference_frame (m : (ℓ : Loc CtxRefIdeal.nD CtxRefIdeal.τ CtxRefIdeal.sig) → Buf (Elt Ideal) ℓ) (ρ : Dev CtxRefIdeal.nD → PrngReg) :
    θ_run (CtxRefIdeal.defs (F := Ideal)) (onTc (τ := CtxRefIdeal.τ) (CtxRefIdeal.main (F := Ideal))) ⟨m, fun _ => 0, ρ⟩ (fun r => (∀ c : Dev CtxRefIdeal.nD,
      r.2.mem ((c.tc : Thread CtxRefIdeal.nD CtxRefIdeal.τ).loc CtxRefIdeal.main_arg0) = m ((c.tc : Thread CtxRefIdeal.nD CtxRefIdeal.τ).loc CtxRefIdeal.main_arg0)
      ∧ r.2.mem ((c.tc : Thread CtxRefIdeal.nD CtxRefIdeal.τ).loc CtxRefIdeal.main_arg1) = m ((c.tc : Thread CtxRefIdeal.nD CtxRefIdeal.τ).loc CtxRefIdeal.main_arg1)
      ∧ r.2.mem ((c.tc : Thread CtxRefIdeal.nD CtxRefIdeal.τ).loc CtxRefIdeal.main_arg2) = m ((c.tc : Thread CtxRefIdeal.nD CtxRefIdeal.τ).loc CtxRefIdeal.main_arg2)
      ∧ r.2.mem ((c.tc : Thread CtxRefIdeal.nD CtxRefIdeal.τ).loc CtxRefIdeal.main_arg3) = m ((c.tc : Thread CtxRefIdeal.nD CtxRefIdeal.τ).loc CtxRefIdeal.main_arg3)
      ∧ r.2.mem ((c.tc : Thread CtxRefIdeal.nD CtxRefIdeal.τ).loc CtxRefIdeal.main_arg4) = m ((c.tc : Thread CtxRefIdeal.nD CtxRefIdeal.τ).loc CtxRefIdeal.main_arg4)
      ∧ r.2.mem ((c.tc : Thread CtxRefIdeal.nD CtxRefIdeal.τ).loc CtxRefIdeal.main_arg5) = m ((c.tc : Thread CtxRefIdeal.nD CtxRefIdeal.τ).loc CtxRefIdeal.main_arg5))
      ∧ r.2.sem = fun _ => 0) :=
  θ_run_mono (CtxRefIdeal.Value.run m ρ) fun r h => ⟨fun c => (h c).2, sem_eq_zero_of_no_sems (by decide) _⟩

theorem equation : algebraic_CtxIdeal_CtxRefIdeal_pre_finite_logits := by
  intro m ρ m' ρ' hpre hagree
  refine ⟨fun c => (CtxIdeal.Gen.dats m 0 c).arrAt 6 CtxIdeal.cfg0.N, CtxIdeal.Value.run_blocks m ρ,
    θ_run_mono (CtxRefIdeal.Value.run m' ρ') fun r h c => ⟨(h c).1.trans ?_, (h c).2⟩⟩
  obtain ⟨a0, a1, a2, a3, a4, a5⟩ := hagree c
  obtain ⟨p0, p1, p2, p4⟩ := hpre c
  refine (CtxRefIdeal.Read.val_main_v62_eq m' c).trans ?_
  rw [a0, a1, a2, a3, a4, a5]
  refine (result_eq m c ?_ ?_ ?_ ?_).symm
  · exact fun i => real_of_below _ (congrFun p0 i)
  · intro R C hC
    obtain ⟨x, hx⟩ := real_of_below _ (congrFun p1 (ix2 R (⟨C.val, hC⟩ : Fin 4096)))
    refine ⟨x, Eq.trans (Eq.symm ?_) hx⟩
    refine extractStridedSlice_apply ![0, 0] (m ((c.tc : Thread CtxIdeal.nD CtxIdeal.τ).loc CtxIdeal.main_arg1))
      Pre_finite_logits.Gen.slices_S8192x8192_S8192x4096_0_0 (ix2 R (⟨C.val, hC⟩ : Fin 4096)) (ix2 R C) ?_
    intro a
    fin_cases a
    · show R.val = 0 + R.val; omega
    · show C.val = 0 + C.val; omega
  · exact fun i => real_of_below _ (congrFun p2 i)
  · exact fun i => real_of_below _ (congrFun p4 i)

end Attention.Claim

end
-- ==== Proof.Projection.lean ====
/-
  The samples' joint projection, in exact arithmetic: what the tiled kernel leaves in its four results — the product and the three
  weights it casts on the way — is what its reference writes, element by element.
-/
module

public import proofs.«01_k».proof.Defs
public import proofs.«01_k».proof.Proof.Tiles
public import proofs.«01_k».proof.Proof.Gen.ProjIdeal.Value
public import proofs.«01_k».proof.Proof.Gen.ProjRefIdeal.Run
public import proofs.«01_k».proof.Proof.Gen.ProjRefIdeal.Read
public import Idealize.ShloMosaic.Lib.Claim
public import Idealize.ShloMosaic.Lib.Pipeline.ValueKit.Geometry

@[expose] public section

set_option maxRecDepth 16384

noncomputable section

namespace Projection

open Idealize.ShloMosaic Idealize.ShloMosaic.ValueIdx Idealize.ShloMosaic.TcCoe Idealize.SL.Sem Idealize.ShloMosaic.Pipeline
open Cert Attention

section Kernel

open Cert.ProjIdeal Cert.ProjIdeal.Gen

/-- The result's element: a row of the activations against a column of the weights. -/
def product (x : FVec Ideal S8192x4096 .bf16) (w : FVec Ideal S4096x13312 .bf16) (i : S8192x13312.Idx) : EReal :=
  ∑ k : Fin 4096, x (ix2 (i 0) k) * w (ix2 k (i 1))

theorem product_block (x0 : Vec Ideal S1024x4096 .bf16) (x1 : Vec Ideal S4096x1024 .bf16) (x2 x3 : Vec Ideal S64x4096 .f32) (x4 : Vec Ideal S64x1024 .f32)
    (y : S1024x1024.Idx) : out0_5 x0 x1 x2 x3 x4 y = ∑ k : Fin 4096, x0 (ix2 (y 0) k) * x1 (ix2 k (y 1)) := by
  have e0 : View.ld x0 r0_0 = x0 := View.ld_unit_zero corner_zero _ x0
  have e1 : View.ld x1 r0_1 = x1 := View.ld_unit_zero corner_zero _ x1
  refine (congrFun (View.canon_unit_zero (Val := Elt Ideal) (e := .bf16) (S := S1024x1024) corner_zero _ (k0_pay1 (View.ld x0 r0_0) (View.ld x1 r0_1))) y).trans ?_
  rw [e0, e1]
  exact product_apply (M := 1024) (K := 4096) (N := 1024) (φ₁ := .bf16) (φ₂ := .bf16) none x0 x1 y

theorem attn_block (x0 : Vec Ideal S1024x4096 .bf16) (x1 : Vec Ideal S4096x1024 .bf16) (x2 x3 : Vec Ideal S64x4096 .f32) (x4 : Vec Ideal S64x1024 .f32)
    (y : S64x4096.Idx) : out0_6 x0 x1 x2 x3 x4 y = x2 y := by
  refine (congrFun (View.canon_unit_zero (Val := Elt Ideal) (e := .bf16) (S := S64x4096) corner_zero _ (k0_pay2 (View.ld x2 r0_3))) y).trans ?_
  exact congrFun (View.ld_unit_zero corner_zero _ x2 : View.ld x2 r0_3 = x2) y

theorem pool_block (x0 : Vec Ideal S1024x4096 .bf16) (x1 : Vec Ideal S4096x1024 .bf16) (x2 x3 : Vec Ideal S64x4096 .f32) (x4 : Vec Ideal S64x1024 .f32)
    (y : S64x4096.Idx) : out0_7 x0 x1 x2 x3 x4 y = x3 y := by
  refine (congrFun (View.canon_unit_zero (Val := Elt Ideal) (e := .bf16) (S := S64x4096) corner_zero _ (k0_pay3 (View.ld x3 r0_3))) y).trans ?_
  exact congrFun (View.ld_unit_zero corner_zero _ x3 : View.ld x3 r0_3 = x3) y

theorem group_block (x0 : Vec Ideal S1024x4096 .bf16) (x1 : Vec Ideal S4096x1024 .bf16) (x2 x3 : Vec Ideal S64x4096 .f32) (x4 : Vec Ideal S64x1024 .f32)
    (y : S64x1024.Idx) : out0_8 x0 x1 x2 x3 x4 y = x4 y := by
  refine (congrFun (View.canon_unit_zero (Val := Elt Ideal) (e := .bf16) (S := S64x1024) corner_zero _ (k0_pay4 (View.ld x4 r0_4))) y).trans ?_
  refine Eq.trans ?_ (congrFun (View.ld_unit_zero corner_zero _ x4 : View.ld x4 r0_4 = x4) y)
  generalize View.ld x4 r0_4 = x
  exact shapeCast_apply (α := EReal) x shapeCasts_S64x1024_S64x1024 y y rfl

theorem points : ∀ t : Fin grid0.N, win0_0.index t 0 = t.val % 8 ∧ win0_0.index t 1 = 0 ∧ win0_1.index t 0 = 0
    ∧ win0_1.index t 1 = t.val / 8 ∧ win0_5.index t 0 = t.val % 8 ∧ win0_5.index t 1 = t.val / 8 := by decide +kernel

theorem cast_points : ∀ t : Fin grid0.N, win0_2.index t = win0_6.index t ∧ win0_3.index t = win0_7.index t ∧ win0_4.index t = win0_8.index t := by
  decide +kernel

variable (m : (ℓ : Loc nD τ sig) → Buf (Elt Ideal) ℓ) (c : Dev nD)

/-- The first result, element by element. -/
theorem product_eq (i : S8192x13312.Idx) :
    (dats m 0 c).arrAt 5 cfg0.N i = product (m ((c : Thread nD τ).loc main_arg0)) (m ((c : Thread nD τ).loc main_arg1)) i := by
  have hi0 : (i 0).val < 8192 := (i 0).isLt
  have hi1 : (i 1).val < 13312 := (i 1).isLt
  let t : Fin 104 := ⟨8 * ((i 1).val / 1024) + (i 0).val / 1024, by omega⟩
  let y : S1024x1024.Idx := ix2 (⟨(i 0).val % 1024, by omega⟩ : Fin 1024) (⟨(i 1).val % 1024, by omega⟩ : Fin 1024)
  have ht : t.val = 8 * ((i 1).val / 1024) + (i 0).val / 1024 := rfl
  obtain ⟨p00, p01, p10, p11, p50, p51⟩ := points t
  have h := congrFun ((Value.blocks5 m c t (flush0_5 t)).trans (Value.flushed5 m c t)) y
  refine (congrArg ((dats m 0 c).arrAt 5 cfg0.N) (mem_block win0_5 t y i rfl fun a => ?_)).symm.trans (h.trans ?_)
  · fin_cases a
    · show win0_5.index t 0 * 1024 + (i 0).val % 1024 = (i 0).val; omega
    · show win0_5.index t 1 * 1024 + (i 1).val % 1024 = (i 1).val; omega
  refine (product_block _ _ _ _ _ y).trans (Finset.sum_congr rfl fun k _ => congrArg₂ (· * ·) ?_ ?_)
  · refine (congrArg (V m c (Pipeline.arrRef spec0 0)) (mem_block win0_0 t (ix2 (y 0) k) (ix2 (i 0) k) rfl fun a => ?_)).trans (congrFun (V_main_arg0 m c) _)
    fin_cases a
    · show win0_0.index t 0 * 1024 + (i 0).val % 1024 = (i 0).val; omega
    · show win0_0.index t 1 * 4096 + k.val = k.val; omega
  · refine (congrArg (V m c (Pipeline.arrRef spec0 1)) (mem_block win0_1 t (ix2 k (y 1)) (ix2 k (i 1)) rfl fun a => ?_)).trans (congrFun (V_main_arg1 m c) _)
    fin_cases a
    · show win0_1.index t 0 * 4096 + k.val = k.val; omega
    · show win0_1.index t 1 * 1024 + (i 1).val % 1024 = (i 1).val; omega

/-- The second result: the attention's output weights. -/
theorem attn_eq : (dats m 0 c).arrAt 6 cfg0.N = m ((c : Thread nD τ).loc main_arg2) := by
  refine (dats m 0 c).arrAt_eq_of_cover 6 _ (fun t _ => (Value.flushed6 m c t).trans (funext fun y => ?_))
    (Window.Covers.cover (w := win0_6) (by decide +kernel) (Memref.isWhole_whole _))
  refine (attn_block _ _ _ _ _ y).trans ((congrArg (V m c (Pipeline.arrRef spec0 2)) (mem_block win0_2 t y ((win0_6.rect t).emb y) rfl fun a => ?_)).trans (congrFun (V_main_arg2 m c) _))
  rw [(cast_points t).1]
  exact (win0_6.rect_emb_val t y a rfl).symm

/-- The third result: the pooling mixer's output weights. -/
theorem pool_eq : (dats m 0 c).arrAt 7 cfg0.N = m ((c : Thread nD τ).loc main_arg3) := by
  refine (dats m 0 c).arrAt_eq_of_cover 7 _ (fun t _ => (Value.flushed7 m c t).trans (funext fun y => ?_))
    (Window.Covers.cover (w := win0_7) (by decide +kernel) (Memref.isWhole_whole _))
  refine (pool_block _ _ _ _ _ y).trans ((congrArg (V m c (Pipeline.arrRef spec0 3)) (mem_block win0_3 t y ((win0_7.rect t).emb y) rfl fun a => ?_)).trans (congrFun (V_main_arg3 m c) _))
  rw [(cast_points t).2.1]
  exact (win0_7.rect_emb_val t y a rfl).symm

theorem V_groups : V m c main_v0 = shapeCast (α := EReal) S4096x1024 (m ((c : Thread nD τ).loc main_arg4)) shapeCasts_S4x1024x1024_S4096x1024 := by
  rfl

/-- The fourth result: the pooling mixer's group weights, one under another. -/
theorem group_eq : (dats m 0 c).arrAt 8 cfg0.N
    = shapeCast (α := EReal) S4096x1024 (m ((c : Thread nD τ).loc main_arg4)) shapeCasts_S4x1024x1024_S4096x1024 := by
  refine (dats m 0 c).arrAt_eq_of_cover 8 _ (fun t _ => (Value.flushed8 m c t).trans (funext fun y => ?_))
    (Window.Covers.cover (w := win0_8) (by decide +kernel) (Memref.isWhole_whole _))
  refine (group_block _ _ _ _ _ y).trans ((congrArg (V m c (Pipeline.arrRef spec0 4)) (mem_block win0_4 t y ((win0_8.rect t).emb y) rfl fun a => ?_)).trans (congrFun (V_groups m c) _))
  rw [(cast_points t).2.2]
  exact (win0_8.rect_emb_val t y a rfl).symm

end Kernel

section Reference

open Cert.ProjRefIdeal Cert.ProjRefIdeal.Gen Cert.ProjRefIdeal.Read

theorem reference_eq (x : FVec Ideal S8192x4096 .bf16) (w : FVec Ideal S4096x13312 .bf16) (i : S8192x13312.Idx) :
    val_main_v3 (F := Ideal) x w i = product x w i := by
  show val_main_v2 (F := Ideal) x w i = _
  refine (val_main_v2_apply x w i).trans (Finset.sum_congr rfl fun k _ => congrArg₂ (· * ·) ?_ ?_)
  · show x (lidx_main_v2 i k) = x (ix2 (i 0) k)
    refine congrArg x ?_
    funext a; fin_cases a <;> rfl
  · show w (ridx_main_v2 i k) = w (ix2 k (i 1))
    refine congrArg w ?_
    funext a; fin_cases a <;> rfl

end Reference

/-- The kernel and its reference end with equal results. -/
theorem equation : algebraic_ProjIdeal_ProjRefIdeal := by
  intro m ρ m' ρ' _ hagree
  refine ⟨fun c => (ProjIdeal.Gen.dats m 0 c).arrAt 5 ProjIdeal.cfg0.N, fun c => (ProjIdeal.Gen.dats m 0 c).arrAt 6 ProjIdeal.cfg0.N,
    fun c => (ProjIdeal.Gen.dats m 0 c).arrAt 7 ProjIdeal.cfg0.N, fun c => (ProjIdeal.Gen.dats m 0 c).arrAt 8 ProjIdeal.cfg0.N,
    ProjIdeal.Value.run_blocks m ρ, θ_run_mono (ProjRefIdeal.Value.run m' ρ') fun r h c =>
      ⟨(h c).1.trans ?_, (h c).2.1.trans ?_, (h c).2.2.1.trans ?_, (h c).2.2.2.1.trans ?_, (h c).2.2.2.2⟩⟩
  all_goals obtain ⟨a0, a1, a2, a3, a4⟩ := hagree c
  · refine (ProjRefIdeal.Read.val_main_v3_eq _ _).trans ?_
    rw [a0, a1]
    exact funext fun i => (reference_eq _ _ i).trans (product_eq m c i).symm
  · refine (ProjRefIdeal.Read.val_main_v4_eq _).trans ?_
    rw [a2]
    exact (attn_eq m c).symm
  · refine (ProjRefIdeal.Read.val_main_v5_eq _).trans ?_
    rw [a3]
    exact (pool_eq m c).symm
  · refine (ProjRefIdeal.Read.val_main_v7_eq _).trans ?_
    rw [a4]
    exact (group_eq m c).symm

end Projection

end
-- ==== Proof.QueriesGates.lean ====
/-
  The projection onto the prompts' queries and gates, in exact arithmetic: what the tiled kernel leaves in its two results is what
  its reference writes, element by element.
-/
module

public import proofs.«01_k».proof.Defs
public import proofs.«01_k».proof.Proof.Tiles
public import proofs.«01_k».proof.Proof.Gen.QgIdeal.Value
public import proofs.«01_k».proof.Proof.Gen.QgRefIdeal.Run
public import proofs.«01_k».proof.Proof.Gen.QgRefIdeal.Read
public import Idealize.ShloMosaic.Lib.Claim

@[expose] public section

set_option maxRecDepth 16384

noncomputable section

namespace QueriesGates

open Idealize.ShloMosaic Idealize.ShloMosaic.ValueIdx Idealize.ShloMosaic.TcCoe Idealize.SL.Sem Idealize.ShloMosaic.Pipeline
open Cert Attention

section Kernel

open Cert.QgIdeal Cert.QgIdeal.Gen

/-- The column of the weights a column of the result is made from: the queries of either attention, then the gate. -/
def source (n : ℕ) : ℕ := if n < 2048 then n else if n < 4096 then n + 1024 else n + 5120

theorem source_lt {n : ℕ} (h : n < 8192) : source n < 13312 := by unfold source; split_ifs <;> omega

/-- The result's element: a row of the activations against a column of the weights. -/
def product (x : FVec Ideal S8192x4096 .bf16) (w : FVec Ideal S4096x13312 .bf16) (i : S8192x8192.Idx) : EReal :=
  ∑ k : Fin 4096, x (ix2 (i 0) k) * w (ix2 k ⟨source (i 1).val, source_lt (i 1).isLt⟩)

theorem product_block (x0 : Vec Ideal S1024x4096 .bf16) (x1 : Vec Ideal S4096x1024 .bf16) (x2 : Vec Ideal S64x8192 .f32) (y : S1024x1024.Idx) :
    out0_3 x0 x1 x2 y = ∑ k : Fin 4096, x0 (ix2 (y 0) k) * x1 (ix2 k (y 1)) := by
  have e0 : View.ld x0 r0_0 = x0 := View.ld_unit_zero corner_zero _ x0
  have e1 : View.ld x1 r0_1 = x1 := View.ld_unit_zero corner_zero _ x1
  refine (congrFun (View.canon_unit_zero (Val := Elt Ideal) (e := .bf16) (S := S1024x1024) corner_zero _ (k0_pay1 (View.ld x0 r0_0) (View.ld x1 r0_1))) y).trans ?_
  rw [e0, e1]
  exact product_apply (M := 1024) (K := 4096) (N := 1024) (φ₁ := .bf16) (φ₂ := .bf16) none x0 x1 y

theorem cast_block (x0 : Vec Ideal S1024x4096 .bf16) (x1 : Vec Ideal S4096x1024 .bf16) (x2 : Vec Ideal S64x8192 .f32) (y : S64x8192.Idx) :
    out0_4 x0 x1 x2 y = x2 y := by
  refine (congrFun (View.canon_unit_zero (Val := Elt Ideal) (e := .bf16) (S := S64x8192) corner_zero _ (k0_pay2 (View.ld x2 r0_3))) y).trans ?_
  exact congrFun (View.ld_unit_zero corner_zero _ x2 : View.ld x2 r0_3 = x2) y

theorem points : ∀ t : Fin grid0.N, win0_0.index t 0 = t.val % 8 ∧ win0_0.index t 1 = 0 ∧ win0_1.index t 0 = 0
    ∧ win0_1.index t 1 = (if t.val < 16 then t.val / 8 else if t.val < 32 then t.val / 8 + 1 else t.val / 8 + 5)
    ∧ win0_2.index t 0 = t.val ∧ win0_2.index t 1 = 0 ∧ win0_3.index t 0 = t.val % 8 ∧ win0_3.index t 1 = t.val / 8
    ∧ win0_4.index t 0 = t.val ∧ win0_4.index t 1 = 0 := by decide +kernel

variable (m : (ℓ : Loc nD τ sig) → Buf (Elt Ideal) ℓ) (c : Dev nD)

/-- The first result, element by element. -/
theorem product_eq (i : S8192x8192.Idx) :
    (dats m 0 c).arrAt 3 cfg0.N i = product (m ((c : Thread nD τ).loc main_arg0)) (m ((c : Thread nD τ).loc main_arg1)) i := by
  have hi0 : (i 0).val < 8192 := (i 0).isLt
  have hi1 : (i 1).val < 8192 := (i 1).isLt
  let t : Fin 64 := ⟨8 * ((i 1).val / 1024) + (i 0).val / 1024, by omega⟩
  let y : S1024x1024.Idx := ix2 (⟨(i 0).val % 1024, by omega⟩ : Fin 1024) (⟨(i 1).val % 1024, by omega⟩ : Fin 1024)
  have ht : t.val = 8 * ((i 1).val / 1024) + (i 0).val / 1024 := rfl
  obtain ⟨p00, p01, p10, p11, -, -, p30, p31, -, -⟩ := points t
  have h := congrFun ((Value.blocks3 m c t (flush0_3 t)).trans (Value.flushed3 m c t)) y
  refine (congrArg ((dats m 0 c).arrAt 3 cfg0.N) (mem_block win0_3 t y i rfl fun a => ?_)).symm.trans (h.trans ?_)
  · fin_cases a
    · show win0_3.index t 0 * 1024 + (i 0).val % 1024 = (i 0).val; omega
    · show win0_3.index t 1 * 1024 + (i 1).val % 1024 = (i 1).val; omega
  refine (product_block _ _ _ y).trans (Finset.sum_congr rfl fun k _ => congrArg₂ (· * ·) ?_ ?_)
  · refine congrArg (V m c (Pipeline.arrRef spec0 0)) (mem_block win0_0 t (ix2 (y 0) k) (ix2 (i 0) k) rfl fun a => ?_)
    fin_cases a
    · show win0_0.index t 0 * 1024 + (i 0).val % 1024 = (i 0).val; omega
    · show win0_0.index t 1 * 4096 + k.val = k.val; omega
  · refine congrArg (V m c (Pipeline.arrRef spec0 1)) (mem_block win0_1 t (ix2 k (y 1)) (ix2 k ⟨source (i 1).val, source_lt (i 1).isLt⟩) rfl fun a => ?_)
    fin_cases a
    · show win0_1.index t 0 * 4096 + k.val = k.val; omega
    · show win0_1.index t 1 * 1024 + (i 1).val % 1024 = source (i 1).val
      rw [p11]; unfold source; split_ifs <;> omega

/-- The second result: the weights it was given. -/
theorem cast_eq (i : S4096x8192.Idx) : (dats m 0 c).arrAt 4 cfg0.N i = m ((c : Thread nD τ).loc main_arg2) i := by
  have hi0 : (i 0).val < 4096 := (i 0).isLt
  let t : Fin 64 := ⟨(i 0).val / 64, by omega⟩
  let y : S64x8192.Idx := ix2 (⟨(i 0).val % 64, by omega⟩ : Fin 64) (i 1)
  have ht : t.val = (i 0).val / 64 := rfl
  obtain ⟨-, -, -, -, p20, p21, -, -, p40, p41⟩ := points t
  have h := congrFun ((Value.blocks4 m c t (flush0_4 t)).trans (Value.flushed4 m c t)) y
  refine (congrArg ((dats m 0 c).arrAt 4 cfg0.N) (mem_block win0_4 t y i rfl fun a => ?_)).symm.trans (h.trans ?_)
  · fin_cases a
    · show win0_4.index t 0 * 64 + (i 0).val % 64 = (i 0).val; omega
    · show win0_4.index t 1 * 8192 + (i 1).val = (i 1).val; omega
  refine (cast_block _ _ _ y).trans (congrArg (V m c (Pipeline.arrRef spec0 2)) (mem_block win0_2 t y i rfl fun a => ?_))
  fin_cases a
  · show win0_2.index t 0 * 64 + (i 0).val % 64 = (i 0).val; omega
  · show win0_2.index t 1 * 8192 + (i 1).val = (i 1).val; omega

end Kernel

section Reference

open Cert.QgRefIdeal Cert.QgRefIdeal.Gen Cert.QgRefIdeal.Read

/-- Three joined column ranges, read in the range a column lies in. -/
theorem join (A B : FVec Ideal S8192x2048 .f32) (C : FVec Ideal S8192x4096 .f32) (h) (i : S8192x8192.Idx) (z : EReal)
    (hA : ∀ p : Fin 2048, (i 1).val = p.val → A (ix2 (i 0) p) = z)
    (hB : ∀ p : Fin 2048, (i 1).val = 2048 + p.val → B (ix2 (i 0) p) = z)
    (hC : ∀ p : Fin 4096, (i 1).val = 4096 + p.val → C (ix2 (i 0) p) = z) :
    concatenate S8192x8192 1 [⟨S8192x2048, A⟩, ⟨S8192x2048, B⟩, ⟨S8192x4096, C⟩] h i = z := by
  have hi1 : (i 1).val < 8192 := (i 1).isLt
  by_cases h0 : (i 1).val < 2048
  · refine (concatenate_apply_piece 1 _ h i 0 (by show 0 < 3; decide) S8192x2048 A rfl rfl 0 rfl (ix2 (i 0) ⟨(i 1).val, h0⟩) ?_ ?_).trans (hA ⟨_, h0⟩ rfl)
    · intro a ha; fin_cases a <;> first | exact absurd rfl ha | rfl
    · show 0 + (i 1).val = _; omega
  by_cases h1 : (i 1).val < 4096
  · refine (concatenate_apply_piece 1 _ h i 1 (by show 1 < 3; decide) S8192x2048 B rfl rfl 2048 rfl (ix2 (i 0) ⟨(i 1).val - 2048, by omega⟩) ?_ ?_).trans (hB ⟨_, by omega⟩ (by show _ = 2048 + ((i 1).val - 2048); omega))
    · intro a ha; fin_cases a <;> first | exact absurd rfl ha | rfl
    · show 2048 + ((i 1).val - 2048) = _; omega
  · refine (concatenate_apply_piece 1 _ h i 2 (by show 2 < 3; decide) S8192x4096 C rfl rfl 4096 rfl (ix2 (i 0) ⟨(i 1).val - 4096, by omega⟩) ?_ ?_).trans (hC ⟨_, by omega⟩ (by show _ = 4096 + ((i 1).val - 4096); omega))
    · intro a ha; fin_cases a <;> first | exact absurd rfl ha | rfl
    · show 4096 + ((i 1).val - 4096) = _; omega

theorem columns (x : FVec Ideal S8192x4096 .bf16) (w : FVec Ideal S4096x13312 .bf16) (r : Fin 8192) (n : Fin 13312) (i : S8192x13312.Idx)
    (h0 : (i 0).val = r.val) (h1 : (i 1).val = n.val) :
    val_main_v2 (F := Ideal) x w i = ∑ k : Fin 4096, x (ix2 r k) * w (ix2 k n) := by
  refine (val_main_v2_apply x w i).trans (Finset.sum_congr rfl fun k _ => congrArg₂ (· * ·) ?_ ?_)
  · show x (lidx_main_v2 i k) = x (ix2 r k)
    refine congrArg x ?_
    funext a; fin_cases a
    · exact Fin.ext h0
    · rfl
  · show w (ridx_main_v2 i k) = w (ix2 k n)
    refine congrArg w ?_
    funext a; fin_cases a
    · rfl
    · exact Fin.ext h1

theorem reference_eq (x : FVec Ideal S8192x4096 .bf16) (w : FVec Ideal S4096x13312 .bf16) (i : S8192x8192.Idx) :
    val_main_v7 (F := Ideal) x w i = product x w i := by
  have hi1 : (i 1).val < 8192 := (i 1).isLt
  show val_main_v6 (F := Ideal) x w i = _
  unfold val_main_v6
  refine join _ _ _ _ i _ ?_ ?_ ?_
  · intro p hp
    refine (val_main_v3_apply (F := Ideal) x w _).trans (columns x w (i 0) _ _ rfl ?_)
    show p.val = source (i 1).val
    have := p.isLt; unfold source; split_ifs <;> omega
  · intro p hp
    refine (val_main_v4_apply (F := Ideal) x w _).trans (columns x w (i 0) _ _ rfl ?_)
    show 3072 + p.val = source (i 1).val
    have := p.isLt; unfold source; split_ifs <;> omega
  · intro p hp
    refine (val_main_v5_apply (F := Ideal) x w _).trans (columns x w (i 0) _ _ rfl ?_)
    show 9216 + p.val = source (i 1).val
    have := p.isLt; unfold source; split_ifs <;> omega

end Reference

/-- The kernel and its reference end with equal results. -/
theorem equation : algebraic_QgIdeal_QgRefIdeal := by
  intro m ρ m' ρ' _ hagree
  refine ⟨fun c => (QgIdeal.Gen.dats m 0 c).arrAt 3 QgIdeal.cfg0.N, fun c => (QgIdeal.Gen.dats m 0 c).arrAt 4 QgIdeal.cfg0.N,
    QgIdeal.Value.run_blocks m ρ, θ_run_mono (QgRefIdeal.Value.run m' ρ') fun r h c => ⟨(h c).1.trans ?_, (h c).2.1.trans ?_, (h c).2.2⟩⟩
  all_goals obtain ⟨a0, a1, a2⟩ := hagree c
  · refine (QgRefIdeal.Read.val_main_v7_eq _ _).trans ?_
    rw [a0, a1]
    exact funext fun i => (reference_eq _ _ i).trans (product_eq m c i).symm
  · refine (QgRefIdeal.Read.val_main_v8_eq _).trans ?_
    rw [a2]
    exact funext fun i => (cast_eq m c i).symm

end QueriesGates

end
-- ==== Proof.Normalised.lean ====
/-
  The pooling mixer's input projection with its row norm applied after the product, in exact arithmetic: what the tiled kernel
  leaves in its result is what its reference writes, element by element.
-/
module

public import proofs.«01_k».proof.Defs
public import proofs.«01_k».proof.Proof.Tiles
public import proofs.«01_k».proof.Proof.Gen.PostIdeal.Value
public import proofs.«01_k».proof.Proof.Gen.PostRefIdeal.Run
public import proofs.«01_k».proof.Proof.Gen.PostRefIdeal.Read
public import Idealize.ShloMosaic.Lib.Claim

@[expose] public section

set_option maxRecDepth 16384

noncomputable section

namespace Normalised

open Idealize.ShloMosaic Idealize.ShloMosaic.ValueIdx Idealize.ShloMosaic.TcCoe Idealize.SL.Sem Idealize.ShloMosaic.Pipeline
open Cert Attention

/-- The result's element: a row of the activations against a column of the weights, over the row's root mean square, plus the
    shift of the sequence the row lies in. -/
def normalised (x : FVec Ideal ⟨2, ![8192, 4096]⟩ .bf16) (ss : FVec Ideal ⟨3, ![4, 8192, 1]⟩ .f32) (w : FVec Ideal ⟨2, ![4096, 8192]⟩ .bf16)
    (sh : FVec Ideal ⟨3, ![16, 1, 8192]⟩ .f32) (r n : Fin 8192) : EReal :=
  (∑ k : Fin 4096, x (ix2 r k) * w (ix2 k n))
      * Ideal.rsqrt (Ideal.div (ss (ix3 0 r 0) + ss (ix3 1 r 0) + ss (ix3 2 r 0) + ss (ix3 3 r 0)) (Ideal.ofBits .f32 0x45800000#32)
          + Ideal.ofBits .f32 0x358637BD#32)
    + sh (ix3 ⟨r.val / 1024, by omega⟩ 0 n)

section Kernel

open Cert.PostIdeal Cert.PostIdeal.Gen

theorem spread_rows (x : FVec Ideal S1024x1 .f32) (h) (r n : Fin 1024) :
    broadcastTo (α := EReal) S1024x1024 x h (ix2 r n) = x (ix2 r 0) :=
  broadcastTo_apply (α := EReal) x h (ix2 r n) (ix2 r 0) (fun a => by fin_cases a <;> rfl)

theorem spread_columns (x : FVec Ideal S1x1024 .f32) (h) (r n : Fin 1024) :
    broadcastTo (α := EReal) S1024x1024 x h (ix2 r n) = x (ix2 0 n) :=
  broadcastTo_apply (α := EReal) x h (ix2 r n) (ix2 0 n) (fun a => by fin_cases a <;> rfl)

theorem flat_rows (x : FVec Ideal S1x1024x1 .f32) (h) (r : Fin 1024) : shapeCast (α := EReal) S1024x1 x h (ix2 r 0) = x (ix3 0 r 0) :=
  shapeCast_apply (α := EReal) x h (ix2 r 0) (ix3 0 r 0) (by
    rewrite [Shape.rowMajor_val_three, Shape.rowMajor_val_two]; show (0 * 1024 + r.val) * 1 + 0 = r.val * 1 + 0; omega)

theorem flat_columns (x : FVec Ideal S1x1x1024 .f32) (h) (n : Fin 1024) : shapeCast (α := EReal) S1x1024 x h (ix2 0 n) = x (ix3 0 0 n) :=
  shapeCast_apply (α := EReal) x h (ix2 0 n) (ix3 0 0 n) (by
    rewrite [Shape.rowMajor_val_three, Shape.rowMajor_val_two]; show (0 * 1 + 0) * 1024 + n.val = 0 * 1024 + n.val; omega)

theorem payload (v0 : Vec Ideal S1024x4096 .bf16) (v1 : Vec Ideal S4096x1024 .bf16) (v3 v5 v8 v11 : Vec Ideal S1x1024x1 .f32)
    (v21 : Vec Ideal S1x1x1024 .f32) (r n : Fin 1024) :
    k0_pay1 v0 v1 v3 v5 v8 v11 v21 (ix2 r n) = (∑ k : Fin 4096, v0 (ix2 r k) * v1 (ix2 k n))
        * Ideal.rsqrt (Ideal.div (v3 (ix3 0 r 0) + v5 (ix3 0 r 0) + v8 (ix3 0 r 0) + v11 (ix3 0 r 0)) (Ideal.ofBits .f32 0x45800000#32)
            + Ideal.ofBits .f32 0x358637BD#32)
      + v21 (ix3 0 0 n) := by
  refine congrArg₂ (· + ·) (congrArg₂ (· * ·) ?_ ((spread_rows _ _ r n).trans ?_)) ((spread_columns _ _ r n).trans (flat_columns v21 _ n))
  · exact product_apply (M := 1024) (K := 4096) (N := 1024) (φ₁ := .bf16) (φ₂ := .bf16) none v0 v1 (ix2 r n)
  · refine congrArg (fun s => Ideal.rsqrt (Ideal.div s (Ideal.ofBits .f32 0x45800000#32) + Ideal.ofBits .f32 0x358637BD#32)) ?_
    exact congrArg₂ (· + ·) (congrArg₂ (· + ·) (congrArg₂ (· + ·) (flat_rows v3 _ r) (flat_rows v5 _ r)) (flat_rows v8 _ r)) (flat_rows v11 _ r)

theorem block (x0 : Vec Ideal S1024x4096 .bf16) (x1 : Vec Ideal S4096x1024 .bf16) (x2 : Vec Ideal S4x1024x1 .f32) (x3 : Vec Ideal S1x1x1024 .f32) (r n : Fin 1024) :
    out0_4 x0 x1 x2 x3 (ix2 r n) = (∑ k : Fin 4096, x0 (ix2 r k) * x1 (ix2 k n))
        * Ideal.rsqrt (Ideal.div (x2 (ix3 0 r 0) + x2 (ix3 1 r 0) + x2 (ix3 2 r 0) + x2 (ix3 3 r 0)) (Ideal.ofBits .f32 0x45800000#32)
            + Ideal.ofBits .f32 0x358637BD#32)
      + x3 (ix3 0 0 n) := by
  have e0 : View.ld x0 r0_0 = x0 := View.ld_unit_zero corner_zero _ x0
  have e1 : View.ld x1 r0_1 = x1 := View.ld_unit_zero corner_zero _ x1
  refine (congrFun (View.canon_unit_zero (Val := Elt Ideal) (e := .bf16) (S := S1024x1024) corner_zero _ (k0_pay1 (View.ld x0 r0_0) (View.ld x1 r0_1)
    (View.ld x2 r0_2) (View.ld x2 r0_3) (View.ld x2 r0_4) (View.ld x2 r0_5) (View.ld x3 r0_6))) (ix2 r n)).trans ?_
  rw [e0, e1]
  refine (payload x0 x1 _ _ _ _ _ r n).trans (congrArg₂ (· + ·) (congrArg (_ * ·) (congrArg (fun s => Ideal.rsqrt (Ideal.div s (Ideal.ofBits .f32 0x45800000#32) + Ideal.ofBits .f32 0x358637BD#32)) ?_)) ?_)
  · refine congrArg₂ (· + ·) (congrArg₂ (· + ·) (congrArg₂ (· + ·) ?_ ?_) ?_) ?_
    all_goals
      refine congrArg x2 (funext fun a => ?_)
      fin_cases a
      · rfl
      · exact Fin.ext (by show 0 + 1 * r.val = r.val; omega)
      · rfl
  · refine congrArg x3 (funext fun a => ?_)
    fin_cases a
    · rfl
    · rfl
    · exact Fin.ext (by show 0 + 1 * n.val = n.val; omega)

theorem points : ∀ t : Fin grid0.N, win0_0.index t 0 = t.val % 8 ∧ win0_0.index t 1 = 0 ∧ win0_1.index t 0 = 0 ∧ win0_1.index t 1 = t.val / 8
    ∧ win0_2.index t 0 = 0 ∧ win0_2.index t 1 = t.val % 8 ∧ win0_2.index t 2 = 0 ∧ win0_3.index t 0 = t.val % 8 ∧ win0_3.index t 1 = 0
    ∧ win0_3.index t 2 = t.val / 8 ∧ win0_4.index t 0 = t.val % 8 ∧ win0_4.index t 1 = t.val / 8 := by decide +kernel

variable (m : (ℓ : Loc nD τ sig) → Buf (Elt Ideal) ℓ) (c : Dev nD)

/-- What the kernel leaves in its result, element by element. -/
theorem kernel_eq (i : S8192x8192.Idx) :
    (dats m 0 c).arrAt 4 cfg0.N i = normalised (m ((c : Thread nD τ).loc main_arg0)) (m ((c : Thread nD τ).loc main_arg1))
      (m ((c : Thread nD τ).loc main_arg2)) (m ((c : Thread nD τ).loc main_arg3)) (i 0) (i 1) := by
  have hi0 : (i 0).val < 8192 := (i 0).isLt
  have hi1 : (i 1).val < 8192 := (i 1).isLt
  let t : Fin 64 := ⟨8 * ((i 1).val / 1024) + (i 0).val / 1024, by omega⟩
  let r : Fin 1024 := ⟨(i 0).val % 1024, by omega⟩
  let n : Fin 1024 := ⟨(i 1).val % 1024, by omega⟩
  have ht : t.val = 8 * ((i 1).val / 1024) + (i 0).val / 1024 := rfl
  obtain ⟨p00, p01, p10, p11, p20, p21, p22, p30, p31, p32, p40, p41⟩ := points t
  have h := congrFun ((Value.blocks4 m c t (flush0_4 t)).trans (Value.flushed4 m c t)) (ix2 r n)
  refine (congrArg ((dats m 0 c).arrAt 4 cfg0.N) (mem_block win0_4 t (ix2 r n) i rfl fun a => ?_)).symm.trans (h.trans ?_)
  · fin_cases a
    · show win0_4.index t 0 * 1024 + (i 0).val % 1024 = (i 0).val; omega
    · show win0_4.index t 1 * 1024 + (i 1).val % 1024 = (i 1).val; omega
  have hs : ∀ q : Fin 4, iblk m c 2 t (ix3 q r 0) = m ((c : Thread nD τ).loc main_arg1) (ix3 q (i 0) 0) := fun q => by
    refine congrArg (V m c (Pipeline.arrRef spec0 2)) (mem_block win0_2 t (ix3 q r 0) (ix3 q (i 0) 0) rfl fun a => ?_)
    fin_cases a
    · show win0_2.index t 0 * 4 + q.val = q.val; omega
    · show win0_2.index t 1 * 1024 + (i 0).val % 1024 = (i 0).val; omega
    · show win0_2.index t 2 * 1 + 0 = 0; omega
  refine (block _ _ _ _ r n).trans (congrArg₂ (· + ·) (congrArg₂ (· * ·) (Finset.sum_congr rfl fun k _ => congrArg₂ (· * ·) ?_ ?_)
    (congrArg (fun s => Ideal.rsqrt (Ideal.div s (Ideal.ofBits .f32 0x45800000#32) + Ideal.ofBits .f32 0x358637BD#32))
      (congrArg₂ (· + ·) (congrArg₂ (· + ·) (congrArg₂ (· + ·) (hs 0) (hs 1)) (hs 2)) (hs 3)))) ?_)
  · refine congrArg (V m c (Pipeline.arrRef spec0 0)) (mem_block win0_0 t (ix2 r k) (ix2 (i 0) k) rfl fun a => ?_)
    fin_cases a
    · show win0_0.index t 0 * 1024 + (i 0).val % 1024 = (i 0).val; omega
    · show win0_0.index t 1 * 4096 + k.val = k.val; omega
  · refine congrArg (V m c (Pipeline.arrRef spec0 1)) (mem_block win0_1 t (ix2 k n) (ix2 k (i 1)) rfl fun a => ?_)
    fin_cases a
    · show win0_1.index t 0 * 4096 + k.val = k.val; omega
    · show win0_1.index t 1 * 1024 + (i 1).val % 1024 = (i 1).val; omega
  · refine congrArg (V m c (Pipeline.arrRef spec0 3)) (mem_block win0_3 t (ix3 0 0 n) (ix3 ⟨(i 0).val / 1024, by omega⟩ 0 (i 1)) rfl fun a => ?_)
    fin_cases a
    · show win0_3.index t 0 * 1 + 0 = (i 0).val / 1024; omega
    · show win0_3.index t 1 * 1 + 0 = 0; omega
    · show win0_3.index t 2 * 1024 + (i 1).val % 1024 = (i 1).val; omega

end Kernel

section Reference

open Cert.PostRefIdeal Cert.PostRefIdeal.Gen Cert.PostRefIdeal.Read

theorem product_reference (x : FVec Ideal S8192x4096 .bf16) (w : FVec Ideal S4096x8192 .bf16) (i : S8192x8192.Idx) :
    val_main_v5 (F := Ideal) x w i = ∑ k : Fin 4096, x (ix2 (i 0) k) * w (ix2 k (i 1)) := by
  refine (val_main_v5_apply x w i).trans (Finset.sum_congr rfl fun k _ => congrArg₂ (· * ·) ?_ ?_)
  · show x (lidx_main_v5 i k) = x (ix2 (i 0) k)
    refine congrArg x ?_
    funext a; fin_cases a <;> rfl
  · show w (ridx_main_v5 i k) = w (ix2 k (i 1))
    refine congrArg w ?_
    funext a; fin_cases a <;> rfl

theorem sums_reference (ss : FVec Ideal S4x8192x1 .f32) (r : Fin 8192) :
    val_main_v0 (F := Ideal) ss (ix2 r 0) = ss (ix3 0 r 0) + ss (ix3 1 r 0) + ss (ix3 2 r 0) + ss (ix3 3 r 0) := by
  refine (val_main_v0_apply ss (ix2 r 0)).trans ?_
  have hz : val_main_cst (F := Ideal) (Shape.Idx.first h_S_) = 0 := by
    show Ideal.ofBits .f32 0x00000000#32 = 0
    simp [Ideal.ofBits, Ideal.ieee]
  rw [hz, zero_add, Fin.sum_univ_four]
  refine congrArg₂ (· + ·) (congrArg₂ (· + ·) (congrArg₂ (· + ·) ?_ ?_) ?_) ?_
  all_goals
    refine congrArg ss (funext fun a => ?_)
    fin_cases a <;> rfl

theorem root_reference (ss : FVec Ideal S4x8192x1 .f32) (r : Fin 8192) :
    val_main_v8 (F := Ideal) ss (ix2 r 0) = Ideal.rsqrt (Ideal.div (ss (ix3 0 r 0) + ss (ix3 1 r 0) + ss (ix3 2 r 0) + ss (ix3 3 r 0))
      (Ideal.ofBits .f32 0x45800000#32) + Ideal.ofBits .f32 0x358637BD#32) := by
  refine congrArg Ideal.rsqrt (congrArg₂ (· + ·) (congrArg₂ Ideal.div (sums_reference ss r) ?_) ?_)
  · exact val_main_v1_apply (F := Ideal) (ix2 r 0)
  · exact val_main_v6_apply (F := Ideal) (ix2 r 0)

theorem reference_eq (x : FVec Ideal S8192x4096 .bf16) (ss : FVec Ideal S4x8192x1 .f32) (w : FVec Ideal S4096x8192 .bf16) (sh : FVec Ideal S16x1x8192 .f32)
    (i : S8192x8192.Idx) : val_main_v16 (F := Ideal) x ss w sh i = normalised x ss w sh (i 0) (i 1) := by
  have hi0 : (i 0).val < 8192 := (i 0).isLt
  have hi1 : (i 1).val < 8192 := (i 1).isLt
  show val_main_v15 (F := Ideal) x ss w sh i = _
  refine (val_main_v15_apply (F := Ideal) x ss w sh i).trans ?_
  have h11 : val_main_v11 (F := Ideal) x ss w (idx_main_v15 i) = val_main_v10 (F := Ideal) x ss w i := by
    refine (val_main_v11_apply (F := Ideal) x ss w (idx_main_v15 i)).trans (congrArg _ (funext fun a => ?_))
    fin_cases a
    · exact Fin.ext (by
        show ((((i 0).val * 8192 + (i 1).val) / 8388608 * 1024 + ((i 0).val * 8192 + (i 1).val) / 8192 % 1024) * 8192 + ((i 0).val * 8192 + (i 1).val) % 8192) / 8192 = (i 0).val
        omega)
    · exact Fin.ext (by
        show ((((i 0).val * 8192 + (i 1).val) / 8388608 * 1024 + ((i 0).val * 8192 + (i 1).val) / 8192 % 1024) * 8192 + ((i 0).val * 8192 + (i 1).val) % 8192) % 8192 = (i 1).val
        omega)
  have h13 : val_main_v13 (F := Ideal) sh (idx_main_v15 i) = sh (ix3 ⟨(i 0).val / 1024, by omega⟩ 0 (i 1)) := by
    refine (val_main_v13_apply (F := Ideal) sh (idx_main_v15 i)).trans ((val_main_v12_apply (F := Ideal) sh _).trans (congrArg sh (funext fun a => ?_)))
    fin_cases a
    · exact Fin.ext (by show ((i 0).val * 8192 + (i 1).val) / 8388608 = (i 0).val / 1024; omega)
    · rfl
    · exact Fin.ext (by show ((i 0).val * 8192 + (i 1).val) % 8192 = (i 1).val; omega)
  refine congrArg₂ (· + ·) (h11.trans (congrArg₂ (· * ·) (product_reference x w i) ?_)) h13
  refine (val_main_v9_apply (F := Ideal) ss i).trans (Eq.trans (congrArg _ (funext fun a => ?_)) (root_reference ss (i 0)))
  fin_cases a <;> rfl

end Reference

/-- The kernel and its reference end with equal results. -/
theorem equation : algebraic_PostIdeal_PostRefIdeal := by
  intro m ρ m' ρ' _ hagree
  refine ⟨fun c => (PostIdeal.Gen.dats m 0 c).arrAt 4 PostIdeal.cfg0.N,
    PostIdeal.Value.run_blocks m ρ, θ_run_mono (PostRefIdeal.Value.run m' ρ') fun r h c => ⟨(h c).1.trans ?_, (h c).2⟩⟩
  obtain ⟨a0, a1, a2, a3⟩ := hagree c
  refine (PostRefIdeal.Read.val_main_v16_eq _ _ _ _).trans ?_
  rw [a0, a1, a2, a3]
  exact funext fun i => (reference_eq _ _ _ _ i).trans (kernel_eq m c i).symm

end Normalised

end
-- ==== Proof.Residual.lean ====
/-
  The attention's output projection onto the gated residual stream, with the next layer's norm prepared, in exact arithmetic:
  the stream, the scaled stream and the sums of squares the tiled kernel leaves are what its reference writes, element by element.
-/
module

public import proofs.«01_k».proof.Defs
public import proofs.«01_k».proof.Proof.Tiles
public import proofs.«01_k».proof.Proof.Gen.PrenormIdeal.Value
public import proofs.«01_k».proof.Proof.Gen.PrenormRefIdeal.Run
public import proofs.«01_k».proof.Proof.Gen.PrenormRefIdeal.Read
public import Idealize.ShloMosaic.Lib.Claim

@[expose] public section

set_option maxRecDepth 16384

noncomputable section

namespace Residual

open Idealize.ShloMosaic Idealize.ShloMosaic.ValueIdx Idealize.ShloMosaic.TcCoe Idealize.SL.Sem Idealize.ShloMosaic.Pipeline
open Cert Attention

/-- The residual stream's element after the layer: the old element and, through the gate, a row of the mixed heads against a
    column of the weights. -/
def stream (og : FVec Ideal ⟨2, ![8192, 4096]⟩ .bf16) (w : FVec Ideal ⟨2, ![4096, 4096]⟩ .bf16) (x : FVec Ideal ⟨2, ![8192, 4096]⟩ .f32)
    (md : FVec Ideal ⟨3, ![16, 1, 12288]⟩ .f32) (r : Fin 8192) (n : Fin 4096) : EReal :=
  x (ix2 r n) + md (ix3 8 0 ⟨8192 + n.val, by omega⟩) * ∑ k : Fin 4096, og (ix2 r k) * w (ix2 k n)

/-- The factor of a column: the norm's gain, times one more than the next layer's scale. -/
def factor (g : FVec Ideal ⟨1, ![4096]⟩ .f32) (md : FVec Ideal ⟨3, ![16, 1, 12288]⟩ .f32) (n : Fin 4096) : EReal :=
  g (ix1 n) * (Ideal.ofBits .f32 0x3F800000#32 + md (ix3 8 0 ⟨4096 + n.val, by omega⟩))

section Kernel

open Cert.PrenormIdeal Cert.PrenormIdeal.Gen

theorem spread_columns (x : FVec Ideal S1x1024 .f32) (h) (r : Fin 512) (n : Fin 1024) :
    broadcastTo (α := EReal) S512x1024 x h (ix2 r n) = x (ix2 0 n) :=
  broadcastTo_apply (α := EReal) x h (ix2 r n) (ix2 0 n) (fun a => by fin_cases a <;> rfl)

theorem flat_columns (x : FVec Ideal S1x1x1024 .f32) (h) (n : Fin 1024) : shapeCast (α := EReal) S1x1024 x h (ix2 0 n) = x (ix3 0 0 n) :=
  shapeCast_apply (α := EReal) x h (ix2 0 n) (ix3 0 0 n) (by
    rewrite [Shape.rowMajor_val_three, Shape.rowMajor_val_two]; show (0 * 1 + 0) * 1024 + n.val = 0 * 1024 + n.val; omega)

/-- An element of a tile of the stream: the contracted coordinate in two halves. -/
def tile (v0 : Vec Ideal S512x1024 .f32) (v1 : Vec Ideal S1x1x1024 .f32) (v3 : Vec Ideal S512x2048 .bf16) (v4 : Vec Ideal S2048x1024 .bf16)
    (v6 : Vec Ideal S512x2048 .bf16) (v7 : Vec Ideal S2048x1024 .bf16) (r : Fin 512) (n : Fin 1024) : EReal :=
  v0 (ix2 r n) + v1 (ix3 0 0 n) * ((∑ k : Fin 2048, v3 (ix2 r k) * v4 (ix2 k n)) + ∑ k : Fin 2048, v6 (ix2 r k) * v7 (ix2 k n))

section Payloads

variable (v0 : Vec Ideal S512x1024 .f32) (v1 : Vec Ideal S1x1x1024 .f32) (v3 : Vec Ideal S512x2048 .bf16) (v4 : Vec Ideal S2048x1024 .bf16)
  (v6 : Vec Ideal S512x2048 .bf16) (v7 : Vec Ideal S2048x1024 .bf16) (v14 : Vec Ideal S1x1024 .f32) (v16 : Vec Ideal S1x1x1024 .f32)

theorem stream_payload (r : Fin 512) (n : Fin 1024) : k0_pay2 v0 v1 v3 v4 v6 v7 (ix2 r n) = tile v0 v1 v3 v4 v6 v7 r n := by
  refine congrArg (v0 (ix2 r n) + ·) (congrArg₂ (· * ·) ((spread_columns _ _ r n).trans (flat_columns v1 _ n)) (congrArg₂ (· + ·) ?_ ?_))
  · exact product_apply (M := 512) (K := 2048) (N := 1024) (φ₁ := .bf16) (φ₂ := .bf16) none v3 v4 (ix2 r n)
  · exact product_apply (M := 512) (K := 2048) (N := 1024) (φ₁ := .bf16) (φ₂ := .bf16) none v6 v7 (ix2 r n)

theorem scaled_payload (r : Fin 512) (n : Fin 1024) : k0_pay3 v0 v1 v3 v4 v6 v7 v14 v16 (ix2 r n)
    = tile v0 v1 v3 v4 v6 v7 r n * (v14 (ix2 0 n) * (Ideal.ofBits .f32 0x3F800000#32 + v16 (ix3 0 0 n))) := by
  refine congrArg₂ (· * ·) (stream_payload v0 v1 v3 v4 v6 v7 r n) ((spread_columns _ _ r n).trans ?_)
  exact congrArg₂ (· * ·) (shapeCast_apply (α := EReal) v14 shapeCasts_S1x1024_S1x1024 (ix2 0 n) (ix2 0 n) rfl)
    (congrArg (Ideal.ofBits .f32 0x3F800000#32 + ·) (flat_columns v16 _ n))

theorem squares_payload (r : Fin 512) : k0_pay1 (k0_pay4 v0 v1 v3 v4 v6 v7) (ix3 0 r 0)
    = ∑ n : Fin 1024, tile v0 v1 v3 v4 v6 v7 r n * tile v0 v1 v3 v4 v6 v7 r n := by
  have hs : ∀ n, k0_pay2 v0 v1 v3 v4 v6 v7 (ix2 r n) = tile v0 v1 v3 v4 v6 v7 r n := stream_payload v0 v1 v3 v4 v6 v7 r
  unfold k0_pay1 k0_pay4
  generalize k0_pay2 v0 v1 v3 v4 v6 v7 = y at hs ⊢
  refine (shapeCast_apply (α := EReal) _ shapeCasts_S512x1_S1x512x1 (ix3 0 r 0) (ix2 r 0) (by
    rewrite [Shape.rowMajor_val_three, Shape.rowMajor_val_two]; show r.val * 1 + 0 = (0 * 512 + r.val) * 1 + 0; omega)).trans ?_
  refine (shapeCast_apply (α := EReal) _ shapeCasts_S512_S512x1 (ix2 r 0) (ix1 r) (by
    rewrite [Shape.rowMajor_val_one, Shape.rowMajor_val_two]; show r.val = r.val * 1 + 0; omega)).trans ?_
  refine (Ideal.multiReduction_add_single (mulf y y) 0x00000000#32 reduces_S512x1024_S512 _ _ (ix1 r)).trans ?_
  refine Finset.sum_congr rfl fun n _ => ?_
  have e : y (ix2 r n) * y (ix2 r n) = tile v0 v1 v3 v4 v6 v7 r n * tile v0 v1 v3 v4 v6 v7 r n := congrArg₂ (· * ·) (hs n) (hs n)
  refine Eq.trans (congrArg (fun j => y j * y j) ?_) e
  funext a; fin_cases a <;> exact Fin.ext rfl

end Payloads

section Blocks

variable (x0 x1 : Vec Ideal S512x2048 .bf16) (x2 : Vec Ideal S4096x1024 .bf16) (x3 : Vec Ideal S512x1024 .f32) (x4 : Vec Ideal S1x1x1024 .f32)
  (x5 : Vec Ideal S1x1024 .f32) (x6 : Vec Ideal S1x1x1024 .f32)

/-- The same from the blocks a grid point reads. -/
def blockTile (r : Fin 512) (n : Fin 1024) : EReal :=
  x3 (ix2 r n) + x4 (ix3 0 0 n) * ((∑ k : Fin 2048, x0 (ix2 r k) * x2 (ix2 (Fin.castAdd 2048 k : Fin (2048 + 2048)) n))
    + ∑ k : Fin 2048, x1 (ix2 r k) * x2 (ix2 (Fin.natAdd 2048 k : Fin (2048 + 2048)) n))

theorem corner_zero3 : (![0, 0, 0] : Fin 3 → Nat) = fun _ => 0 := funext fun a => by fin_cases a <;> rfl

theorem loads (r : Fin 512) (n : Fin 1024) :
    tile (View.ld x3 r0_0) (View.ld x4 r0_1) (View.ld x0 r0_2) (View.ld x2 r0_3) (View.ld x1 r0_2) (View.ld x2 r0_4) r n = blockTile x0 x1 x2 x3 x4 r n := by
  have e3 : View.ld x3 r0_0 = x3 := View.ld_unit_zero corner_zero _ x3
  have e4 : View.ld x4 r0_1 = x4 := View.ld_unit_zero corner_zero3 _ x4
  have e0 : View.ld x0 r0_2 = x0 := View.ld_unit_zero corner_zero _ x0
  have e1 : View.ld x1 r0_2 = x1 := View.ld_unit_zero corner_zero _ x1
  rw [e3, e4, e0, e1]
  refine congrArg (x3 (ix2 r n) + ·) (congrArg (x4 (ix3 0 0 n) * ·) (congrArg₂ (· + ·) (Finset.sum_congr rfl fun k _ => congrArg (x0 (ix2 r k) * ·) ?_)
    (Finset.sum_congr rfl fun k _ => congrArg (x1 (ix2 r k) * ·) ?_)))
  · refine congrArg x2 (funext fun a => ?_)
    fin_cases a
    · exact Fin.ext (by show 0 + 1 * k.val = k.val; omega)
    · exact Fin.ext (by show 0 + 1 * n.val = n.val; omega)
  · refine congrArg x2 (funext fun a => ?_)
    fin_cases a
    · exact Fin.ext (by show 2048 + 1 * k.val = 2048 + k.val; omega)
    · exact Fin.ext (by show 0 + 1 * n.val = n.val; omega)

theorem stream_block (r : Fin 512) (n : Fin 1024) : out0_7 x0 x1 x2 x3 x4 x5 x6 (ix2 r n) = blockTile x0 x1 x2 x3 x4 r n :=
  (congrFun (View.canon_unit_zero (Val := Elt Ideal) (e := .f32) (S := S512x1024) corner_zero _ (k0_pay2 (View.ld x3 r0_0) (View.ld x4 r0_1)
    (View.ld x0 r0_2) (View.ld x2 r0_3) (View.ld x1 r0_2) (View.ld x2 r0_4))) (ix2 r n)).trans
    ((stream_payload _ _ _ _ _ _ r n).trans (loads x0 x1 x2 x3 x4 r n))

theorem scaled_block (r : Fin 512) (n : Fin 1024) : out0_8 x0 x1 x2 x3 x4 x5 x6 (ix2 r n)
    = blockTile x0 x1 x2 x3 x4 r n * (x5 (ix2 0 n) * (Ideal.ofBits .f32 0x3F800000#32 + x6 (ix3 0 0 n))) := by
  have e5 : View.ld x5 r0_5 = x5 := View.ld_unit_zero corner_zero _ x5
  have e6 : View.ld x6 r0_1 = x6 := View.ld_unit_zero corner_zero3 _ x6
  refine (congrFun (View.canon_unit_zero (Val := Elt Ideal) (e := .bf16) (S := S512x1024) corner_zero _ (k0_pay3 (View.ld x3 r0_0) (View.ld x4 r0_1)
    (View.ld x0 r0_2) (View.ld x2 r0_3) (View.ld x1 r0_2) (View.ld x2 r0_4) (View.ld x5 r0_5) (View.ld x6 r0_1))) (ix2 r n)).trans ?_
  rw [e5, e6]
  exact (scaled_payload _ _ _ _ _ _ x5 x6 r n).trans (congrArg (· * _) (loads x0 x1 x2 x3 x4 r n))

theorem squares_block (r : Fin 512) : out0_9 x0 x1 x2 x3 x4 x5 x6 (ix3 0 r 0)
    = ∑ n : Fin 1024, blockTile x0 x1 x2 x3 x4 r n * blockTile x0 x1 x2 x3 x4 r n := by
  refine (congrFun (View.canon_unit_zero (Val := Elt Ideal) (e := .f32) (S := S1x512x1) corner_zero3 _ (k0_pay1 (k0_pay4 (View.ld x3 r0_0) (View.ld x4 r0_1)
    (View.ld x0 r0_2) (View.ld x2 r0_3) (View.ld x1 r0_2) (View.ld x2 r0_4)))) (ix3 0 r 0)).trans ?_
  refine (squares_payload _ _ _ _ _ _ r).trans (Finset.sum_congr rfl fun n _ => ?_)
  exact congrArg₂ (· * ·) (loads x0 x1 x2 x3 x4 r n) (loads x0 x1 x2 x3 x4 r n)

end Blocks

theorem points : ∀ t : Fin grid0.N, win0_0.index t 0 = t.val % 16 ∧ win0_0.index t 1 = 0 ∧ win0_1.index t 0 = t.val % 16 ∧ win0_1.index t 1 = 1
    ∧ win0_2.index t 0 = 0 ∧ win0_2.index t 1 = t.val / 16 ∧ win0_3.index t 0 = t.val % 16 ∧ win0_3.index t 1 = t.val / 16
    ∧ win0_4.index t 0 = 8 ∧ win0_4.index t 1 = 0 ∧ win0_4.index t 2 = 8 + t.val / 16 := by decide +kernel

theorem points' : ∀ t : Fin grid0.N, win0_5.index t 0 = 0 ∧ win0_5.index t 1 = t.val / 16
    ∧ win0_6.index t 0 = 8 ∧ win0_6.index t 1 = 0 ∧ win0_6.index t 2 = 4 + t.val / 16 ∧ win0_7.index t 0 = t.val % 16 ∧ win0_7.index t 1 = t.val / 16
    ∧ win0_8.index t 0 = t.val % 16 ∧ win0_8.index t 1 = t.val / 16
    ∧ win0_9.index t 0 = t.val / 16 ∧ win0_9.index t 1 = t.val % 16 ∧ win0_9.index t 2 = 0 := by decide +kernel

variable (m : (ℓ : Loc nD τ sig) → Buf (Elt Ideal) ℓ) (c : Dev nD)

theorem tile_eq (t : Fin 64) (r : Fin 512) (n : Fin 1024) (R : Fin 8192) (N : Fin 4096) (hR : R.val = 512 * (t.val % 16) + r.val)
    (hN : N.val = 1024 * (t.val / 16) + n.val) :
    blockTile (iblk m c 0 t) (iblk m c 1 t) (iblk m c 2 t) (iblk m c 3 t) (iblk m c 4 t) r n
      = stream (m ((c : Thread nD τ).loc main_arg0)) (m ((c : Thread nD τ).loc main_arg1)) (m ((c : Thread nD τ).loc main_arg2))
          (m ((c : Thread nD τ).loc main_arg3)) R N := by
  obtain ⟨p00, p01, p10, p11, p20, p21, p30, p31, p40, p41, p42⟩ := points t
  have hw : ∀ k : Fin 4096, iblk m c 2 t (ix2 k n) = m ((c : Thread nD τ).loc main_arg1) (ix2 k N) := fun k => by
    refine (congrArg (V m c (Pipeline.arrRef spec0 2)) (mem_block win0_2 t (ix2 k n) (ix2 k N) rfl fun a => ?_)).trans (congrFun (V_main_arg1 m c) _)
    fin_cases a
    · show win0_2.index t 0 * 4096 + k.val = k.val; omega
    · show win0_2.index t 1 * 1024 + n.val = N.val; omega
  refine congrArg₂ (· + ·) ?_ (congrArg₂ (· * ·) ?_ ?_)
  · refine (congrArg (V m c (Pipeline.arrRef spec0 3)) (mem_block win0_3 t (ix2 r n) (ix2 R N) rfl fun a => ?_)).trans (congrFun (V_main_arg2 m c) _)
    fin_cases a
    · show win0_3.index t 0 * 512 + r.val = R.val; omega
    · show win0_3.index t 1 * 1024 + n.val = N.val; omega
  · refine (congrArg (V m c (Pipeline.arrRef spec0 4)) (mem_block win0_4 t (ix3 0 0 n) (ix3 8 0 ⟨8192 + N.val, by omega⟩) rfl fun a => ?_)).trans (congrFun (V_main_arg3 m c) _)
    fin_cases a
    · show win0_4.index t 0 * 1 + 0 = 8; omega
    · show win0_4.index t 1 * 1 + 0 = 0; omega
    · show win0_4.index t 2 * 1024 + n.val = 8192 + N.val; omega
  · refine Eq.trans ?_ (Fin.sum_univ_add (a := 2048) (b := 2048) fun k : Fin (2048 + 2048) => (show EReal from m ((c : Thread nD τ).loc main_arg0) (ix2 R k)) * (show EReal from m ((c : Thread nD τ).loc main_arg1) (ix2 k N))).symm
    refine congrArg₂ (· + ·) (Finset.sum_congr rfl fun k _ => congrArg₂ (· * ·) ?_ (hw _)) (Finset.sum_congr rfl fun k _ => congrArg₂ (· * ·) ?_ (hw _))
    · refine (congrArg (V m c (Pipeline.arrRef spec0 0)) (mem_block win0_0 t (ix2 r k) (ix2 R (Fin.castAdd 2048 k)) rfl fun a => ?_)).trans (congrFun (V_main_arg0 m c) _)
      fin_cases a
      · show win0_0.index t 0 * 512 + r.val = R.val; omega
      · show win0_0.index t 1 * 2048 + k.val = k.val; omega
    · refine (congrArg (V m c (Pipeline.arrRef spec0 1)) (mem_block win0_1 t (ix2 r k) (ix2 R (Fin.natAdd 2048 k)) rfl fun a => ?_)).trans (congrFun (V_main_arg0 m c) _)
      fin_cases a
      · show win0_1.index t 0 * 512 + r.val = R.val; omega
      · show win0_1.index t 1 * 2048 + k.val = 2048 + k.val; omega

theorem V_gain : V m c main_v0 = shapeCast (α := EReal) S1x4096 (m ((c : Thread nD τ).loc main_arg4)) shapeCasts_S4096_S1x4096 := by
  rfl

theorem factor_eq (t : Fin 64) (n : Fin 1024) (N : Fin 4096) (hN : N.val = 1024 * (t.val / 16) + n.val) :
    (show EReal from iblk m c 5 t (ix2 0 n)) * (Ideal.ofBits .f32 0x3F800000#32 + (show EReal from iblk m c 6 t (ix3 0 0 n)))
      = factor (m ((c : Thread nD τ).loc main_arg4)) (m ((c : Thread nD τ).loc main_arg5)) N := by
  obtain ⟨p50, p51, p60, p61, p62, -⟩ := points' t
  refine congrArg₂ (· * ·) ?_ (congrArg (Ideal.ofBits .f32 0x3F800000#32 + ·) ?_)
  · refine (congrArg (V m c (Pipeline.arrRef spec0 5)) (mem_block win0_5 t (ix2 0 n) (ix2 0 N) rfl fun a => ?_)).trans ((congrFun (V_gain m c) _).trans ?_)
    · fin_cases a
      · show win0_5.index t 0 * 1 + 0 = 0; omega
      · show win0_5.index t 1 * 1024 + n.val = N.val; omega
    · exact shapeCast_apply (α := EReal) _ shapeCasts_S4096_S1x4096 (ix2 0 N) (ix1 N) (by
        rewrite [Shape.rowMajor_val_one, Shape.rowMajor_val_two]; show N.val = 0 * 4096 + N.val; omega)
  · refine (congrArg (V m c (Pipeline.arrRef spec0 6)) (mem_block win0_6 t (ix3 0 0 n) (ix3 8 0 ⟨4096 + N.val, by omega⟩) rfl fun a => ?_)).trans (congrFun (V_main_arg5 m c) _)
    fin_cases a
    · show win0_6.index t 0 * 1 + 0 = 8; omega
    · show win0_6.index t 1 * 1 + 0 = 0; omega
    · show win0_6.index t 2 * 1024 + n.val = 4096 + N.val; omega

/-- The stream the kernel leaves, element by element. -/
theorem stream_eq (i : S8192x4096.Idx) : (dats m 0 c).arrAt 7 cfg0.N i
    = stream (m ((c : Thread nD τ).loc main_arg0)) (m ((c : Thread nD τ).loc main_arg1)) (m ((c : Thread nD τ).loc main_arg2))
        (m ((c : Thread nD τ).loc main_arg3)) (i 0) (i 1) := by
  have hi0 : (i 0).val < 8192 := (i 0).isLt
  have hi1 : (i 1).val < 4096 := (i 1).isLt
  let t : Fin 64 := ⟨16 * ((i 1).val / 1024) + (i 0).val / 512, by omega⟩
  let r : Fin 512 := ⟨(i 0).val % 512, by omega⟩
  let n : Fin 1024 := ⟨(i 1).val % 1024, by omega⟩
  have ht : t.val = 16 * ((i 1).val / 1024) + (i 0).val / 512 := rfl
  obtain ⟨-, -, -, -, -, p70, p71, -⟩ := points' t
  have h := congrFun ((Value.blocks7 m c t (flush0_7 t)).trans (Value.flushed7 m c t)) (ix2 r n)
  refine (congrArg ((dats m 0 c).arrAt 7 cfg0.N) (mem_block win0_7 t (ix2 r n) i rfl fun a => ?_)).symm.trans (h.trans ?_)
  · fin_cases a
    · show win0_7.index t 0 * 512 + (i 0).val % 512 = (i 0).val; omega
    · show win0_7.index t 1 * 1024 + (i 1).val % 1024 = (i 1).val; omega
  exact (stream_block _ _ _ _ _ _ _ r n).trans (tile_eq m c t r n (i 0) (i 1) (by show (i 0).val = 512 * (t.val % 16) + (i 0).val % 512; omega)
    (by show (i 1).val = 1024 * (t.val / 16) + (i 1).val % 1024; omega))

/-- The scaled stream the kernel leaves, element by element. -/
theorem scaled_eq (i : S8192x4096.Idx) : (dats m 0 c).arrAt 8 cfg0.N i
    = stream (m ((c : Thread nD τ).loc main_arg0)) (m ((c : Thread nD τ).loc main_arg1)) (m ((c : Thread nD τ).loc main_arg2))
        (m ((c : Thread nD τ).loc main_arg3)) (i 0) (i 1)
      * factor (m ((c : Thread nD τ).loc main_arg4)) (m ((c : Thread nD τ).loc main_arg5)) (i 1) := by
  have hi0 : (i 0).val < 8192 := (i 0).isLt
  have hi1 : (i 1).val < 4096 := (i 1).isLt
  let t : Fin 64 := ⟨16 * ((i 1).val / 1024) + (i 0).val / 512, by omega⟩
  let r : Fin 512 := ⟨(i 0).val % 512, by omega⟩
  let n : Fin 1024 := ⟨(i 1).val % 1024, by omega⟩
  have ht : t.val = 16 * ((i 1).val / 1024) + (i 0).val / 512 := rfl
  have hN : (i 1).val = 1024 * (t.val / 16) + n.val := by show (i 1).val = 1024 * (t.val / 16) + (i 1).val % 1024; omega
  obtain ⟨-, -, -, -, -, -, -, p80, p81, -⟩ := points' t
  have h := congrFun ((Value.blocks8 m c t (flush0_8 t)).trans (Value.flushed8 m c t)) (ix2 r n)
  refine (congrArg ((dats m 0 c).arrAt 8 cfg0.N) (mem_block win0_8 t (ix2 r n) i rfl fun a => ?_)).symm.trans (h.trans ?_)
  · fin_cases a
    · show win0_8.index t 0 * 512 + (i 0).val % 512 = (i 0).val; omega
    · show win0_8.index t 1 * 1024 + (i 1).val % 1024 = (i 1).val; omega
  exact (scaled_block _ _ _ _ _ _ _ r n).trans (congrArg₂ (· * ·)
    (tile_eq m c t r n (i 0) (i 1) (by show (i 0).val = 512 * (t.val % 16) + (i 0).val % 512; omega) hN) (factor_eq m c t n (i 1) hN))

/-- The sums of squares the kernel leaves, one for each quarter of a row. -/
theorem squares_eq (i : S4x8192x1.Idx) : (dats m 0 c).arrAt 9 cfg0.N i
    = ∑ n : Fin 1024, stream (m ((c : Thread nD τ).loc main_arg0)) (m ((c : Thread nD τ).loc main_arg1)) (m ((c : Thread nD τ).loc main_arg2))
        (m ((c : Thread nD τ).loc main_arg3)) (i 1) ⟨1024 * (i 0).val + n.val, by have h : (i 0).val < 4 := (i 0).isLt; omega⟩
      * stream (m ((c : Thread nD τ).loc main_arg0)) (m ((c : Thread nD τ).loc main_arg1)) (m ((c : Thread nD τ).loc main_arg2))
        (m ((c : Thread nD τ).loc main_arg3)) (i 1) ⟨1024 * (i 0).val + n.val, by have h : (i 0).val < 4 := (i 0).isLt; omega⟩ := by
  have hi0 : (i 0).val < 4 := (i 0).isLt
  have hi1 : (i 1).val < 8192 := (i 1).isLt
  have hi2 : (i 2).val < 1 := (i 2).isLt
  let t : Fin 64 := ⟨16 * (i 0).val + (i 1).val / 512, by omega⟩
  let r : Fin 512 := ⟨(i 1).val % 512, by omega⟩
  have ht : t.val = 16 * (i 0).val + (i 1).val / 512 := rfl
  obtain ⟨-, -, -, -, -, -, -, -, -, p90, p91, p92⟩ := points' t
  have h := congrFun ((Value.blocks9 m c t (flush0_9 t)).trans (Value.flushed9 m c t)) (ix3 0 r 0)
  refine (congrArg ((dats m 0 c).arrAt 9 cfg0.N) (mem_block win0_9 t (ix3 0 r 0) i rfl fun a => ?_)).symm.trans (h.trans ?_)
  · fin_cases a
    · show win0_9.index t 0 * 1 + 0 = (i 0).val; omega
    · show win0_9.index t 1 * 512 + (i 1).val % 512 = (i 1).val; omega
    · show win0_9.index t 2 * 1 + 0 = (i 2).val; omega
  refine (squares_block _ _ _ _ _ _ _ r).trans (Finset.sum_congr rfl fun n _ => ?_)
  have e := tile_eq m c t r n (i 1) ⟨1024 * (i 0).val + n.val, by omega⟩ (by show (i 1).val = 512 * (t.val % 16) + (i 1).val % 512; omega)
    (by show 1024 * (i 0).val + n.val = 1024 * (t.val / 16) + n.val; omega)
  exact congrArg₂ (· * ·) e e

end Kernel

section Reference

open Cert.PrenormRefIdeal Cert.PrenormRefIdeal.Gen Cert.PrenormRefIdeal.Read

variable (og : FVec Ideal S8192x4096 .bf16) (w : FVec Ideal S4096x4096 .bf16) (x : FVec Ideal S8192x4096 .f32) (md0 : FVec Ideal S16x1x12288 .f32)
  (g : FVec Ideal S4096 .f32) (md1 : FVec Ideal S16x1x12288 .f32)

theorem stream_reference (i : S8192x4096.Idx) : val_main_v9 (F := Ideal) og w x md0 i = stream og w x md0 (i 0) (i 1) := by
  refine congrArg₂ (· + ·) (congrArg x (funext fun a => by fin_cases a <;> rfl)) (congrArg₂ (· * ·) ?_ ?_)
  · refine (val_main_v7_apply (F := Ideal) md0 i).trans ((val_main_v1_apply (F := Ideal) md0 _).trans ((val_main_v0_apply (F := Ideal) md0 _).trans (congrArg md0 (funext fun a => ?_))))
    have hi1 : (i 1).val < 4096 := (i 1).isLt
    fin_cases a
    · rfl
    · rfl
    · exact Fin.ext (by show 8192 + (0 * 4096 + (i 1).val) % 4096 = 8192 + (i 1).val; omega)
  · refine (val_main_v6_apply og w i).trans (Finset.sum_congr rfl fun k _ => congrArg₂ (· * ·) ?_ ?_)
    · show og (lidx_main_v6 i k) = og (ix2 (i 0) k)
      refine congrArg og ?_
      funext a; fin_cases a <;> rfl
    · show w (ridx_main_v6 i k) = w (ix2 k (i 1))
      refine congrArg w ?_
      funext a; fin_cases a <;> rfl

theorem scaled_reference (i : S8192x4096.Idx) : val_main_v20 (F := Ideal) og w x md0 g md1 i = stream og w x md0 (i 0) (i 1) * factor g md1 (i 1) := by
  have hg : val_main_v11 (F := Ideal) g i = g (ix1 (i 1)) := by
    refine (val_main_v11_apply (F := Ideal) g i).trans ((val_main_v10_apply (F := Ideal) g _).trans (congrArg g (funext fun a => ?_)))
    fin_cases a; rfl
  have hs : val_main_v15 (F := Ideal) md1 i = Ideal.ofBits .f32 0x3F800000#32 + md1 (ix3 8 0 ⟨4096 + (i 1).val, by have h : (i 1).val < 4096 := (i 1).isLt; omega⟩) := by
    refine (val_main_v15_apply (F := Ideal) md1 i).trans (congrArg₂ (· + ·) (val_main_v13_apply (F := Ideal) _) ?_)
    refine (val_main_v3_apply (F := Ideal) md1 _).trans ((val_main_v2_apply (F := Ideal) md1 _).trans (congrArg md1 (funext fun a => ?_)))
    have hi1 : (i 1).val < 4096 := (i 1).isLt
    fin_cases a
    · rfl
    · rfl
    · exact Fin.ext (by show 4096 + (0 * 4096 + (i 1).val) % 4096 = 4096 + (i 1).val; omega)
  have h : val_main_v20 (F := Ideal) og w x md0 g md1 i = (val_main_v9 (F := Ideal) og w x md0 i * val_main_v11 (F := Ideal) g i : EReal) * val_main_v15 (F := Ideal) md1 i := rfl
  rw [h, stream_reference og w x md0 i, hg, hs, mul_assoc]
  rfl

theorem squares_reference (i : S4x8192x1.Idx) : val_main_v22 (F := Ideal) og w x md0 i
    = ∑ n : Fin 1024, stream og w x md0 (i 1) ⟨1024 * (i 0).val + n.val, by have h : (i 0).val < 4 := (i 0).isLt; omega⟩
      * stream og w x md0 (i 1) ⟨1024 * (i 0).val + n.val, by have h : (i 0).val < 4 := (i 0).isLt; omega⟩ := by
  have hi0 : (i 0).val < 4 := (i 0).isLt
  have hi1 : (i 1).val < 8192 := (i 1).isLt
  have hi2 : (i 2).val < 1 := (i 2).isLt
  refine (val_main_v22_apply (F := Ideal) og w x md0 i).trans ((val_main_v21_apply (F := Ideal) og w x md0 _).trans ((val_main_v19_apply og w x md0 _).trans ?_))
  have hz : val_main_cst_0 (F := Ideal) (Shape.Idx.first h_S_) = 0 := by
    show Ideal.ofBits .f32 0x00000000#32 = 0
    simp [Ideal.ofBits, Ideal.ieee]
  rw [hz, zero_add]
  refine Finset.sum_congr rfl fun n _ => (val_main_v18_apply (F := Ideal) og w x md0 _).trans ?_
  have e : ∀ j : S8192x4096.Idx, (j 0).val = (i 1).val → (j 1).val = 1024 * (i 0).val + n.val →
      val_main_v17 (F := Ideal) og w x md0 j = stream og w x md0 (i 1) ⟨1024 * (i 0).val + n.val, by omega⟩ * stream og w x md0 (i 1) ⟨1024 * (i 0).val + n.val, by omega⟩ := by
    intro j h0 h1
    have hj0 : (j 0) = (i 1) := Fin.ext h0
    have hj1 : (j 1) = (⟨1024 * (i 0).val + n.val, by omega⟩ : Fin 4096) := Fin.ext h1
    have hj := stream_reference og w x md0 j
    refine (congrArg₂ (· * ·) hj hj).trans ?_
    exact congrArg₂ (fun a b => stream og w x md0 a b * stream og w x md0 a b) hj0 hj1
  have hd : (((i 0).val * 8192 + (i 1).val) * 1 + (i 2).val) / 8192 = (i 0).val := by omega
  have hm : (((i 0).val * 8192 + (i 1).val) * 1 + (i 2).val) % 8192 = (i 1).val := by omega
  refine e _ ?_ ?_
  · show (((((i 0).val * 8192 + (i 1).val) * 1 + (i 2).val) % 8192 * 4 + (((i 0).val * 8192 + (i 1).val) * 1 + (i 2).val) / 8192) * 1024 + n.val) / 4096 = (i 1).val
    rw [hd, hm]; omega
  · show (((((i 0).val * 8192 + (i 1).val) * 1 + (i 2).val) % 8192 * 4 + (((i 0).val * 8192 + (i 1).val) * 1 + (i 2).val) / 8192) * 1024 + n.val) % 4096 = 1024 * (i 0).val + n.val
    rw [hd, hm]; omega

end Reference

/-- The kernel and its reference end with equal results. -/
theorem equation : algebraic_PrenormIdeal_PrenormRefIdeal := by
  intro m ρ m' ρ' _ hagree
  refine ⟨fun c => (PrenormIdeal.Gen.dats m 0 c).arrAt 7 PrenormIdeal.cfg0.N, fun c => (PrenormIdeal.Gen.dats m 0 c).arrAt 8 PrenormIdeal.cfg0.N,
    fun c => (PrenormIdeal.Gen.dats m 0 c).arrAt 9 PrenormIdeal.cfg0.N,
    PrenormIdeal.Value.run_blocks m ρ, θ_run_mono (PrenormRefIdeal.Value.run m' ρ') fun r h c =>
      ⟨(h c).1.trans ?_, (h c).2.1.trans ?_, (h c).2.2.1.trans ?_, (h c).2.2.2⟩⟩
  all_goals obtain ⟨a0, a1, a2, a3, a4, a5⟩ := hagree c
  · refine (PrenormRefIdeal.Read.val_main_v9_eq _ _ _ _).trans ?_
    rw [a0, a1, a2, a3]
    exact funext fun i => (stream_reference _ _ _ _ i).trans (stream_eq m c i).symm
  · refine (PrenormRefIdeal.Read.val_main_v20_eq _ _ _ _ _ _).trans ?_
    rw [a0, a1, a2, a3, a4, a5]
    exact funext fun i => (scaled_reference _ _ _ _ _ _ i).trans (scaled_eq m c i).symm
  · refine (PrenormRefIdeal.Read.val_main_v22_eq _ _ _ _).trans ?_
    rw [a0, a1, a2, a3]
    exact funext fun i => (squares_reference _ _ _ _ i).trans (squares_eq m c i).symm

end Residual

end
-- ==== Proof.KvIdealFrame.lean ====
/-
  The keys and values of the prompts: the pipelined call runs. Each output is written at the points of one kind and parked before and
  after them; its last block waits in its buffer until the last point writes it back.
-/
module

public import proofs.«01_k».proof.Proof.Gen.KvIdeal.Frame
public import proofs.«01_k».proof.Proof.Gen.KvIdeal.Skeleton
public import Idealize.ShloMosaic.Lib.Claim

@[expose] public section

set_option maxRecDepth 16384

noncomputable section

namespace Cert.KvIdeal.Keys

open Cert.KvIdeal Cert.KvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a store leaves -/

abbrev rX : Rect S512x4096 := Rect.unit (s := S512x4096) ![0, 0] S512x4096.size inb_S512x4096_S512x4096_0_0
abbrev rW : Rect S4096x1024 := Rect.unit (s := S4096x1024) ![0, 0] S4096x1024.size inb_S4096x1024_S4096x1024_0_0
abbrev rKV : Rect S512x512 := Rect.unit (s := S512x512) ![0, 0] S512x512.size inb_S512x512_S512x512_0_0
abbrev rB : Rect S512x1024 := Rect.unit (s := S512x1024) ![0, 0] S512x1024.size inb_S512x1024_S512x1024_0_0
abbrev rA5 : Rect S2x1x256x4x128 := Rect.unit (s := S2x1x256x4x128) ![0, 0, 0, 0, 0] S2x1x256x4x128.size inb_S2x1x256x4x128_S2x1x256x4x128_0_0_0_0_0
abbrev rB5 : Rect S2x1x256x8x128 := Rect.unit (s := S2x1x256x8x128) ![0, 0, 0, 0, 0] S2x1x256x8x128.size inb_S2x1x256x8x128_S2x1x256x8x128_0_0_0_0_0

/-- What output 1 holds after a point that writes it. -/
def out2 (x0 : Vec F S512x4096 .bf16) (x1 : Vec F S4096x1024 .bf16) : Vec F S512x512 .bf16 :=
  View.canon [⟨rKV, k0_pay3 (View.ld x0 rX) (View.ld x1 rW)⟩]

/-- What output 2 holds after a point that writes it. -/
def out3 (x0 : Vec F S512x4096 .bf16) (x1 : Vec F S4096x1024 .bf16) : Vec F S512x512 .bf16 :=
  View.canon [⟨rKV, k0_pay6 (View.ld x0 rX) (View.ld x1 rW)⟩]

/-- What output 3 holds after a point that writes it. -/
def out4 (x0 : Vec F S512x4096 .bf16) (x1 : Vec F S4096x1024 .bf16) : Vec F S512x1024 .bf16 :=
  View.canon [⟨rB, k0_pay8 (View.ld x0 rX) (View.ld x1 rW)⟩]

/-- What output 4 holds after a point that writes it. -/
def out5 (x0 : Vec F S512x4096 .bf16) (x1 : Vec F S4096x1024 .bf16) : Vec F S512x1024 .bf16 :=
  View.canon [⟨rB, k0_pay10 (View.ld x0 rX) (View.ld x1 rW)⟩]

/-- What output 5 holds after a point that writes it. -/
def out6 (x0 : Vec F S512x4096 .bf16) (x1 : Vec F S4096x1024 .bf16) : Vec F S2x1x256x4x128 .f32 :=
  View.canon [⟨rA5, k0_pay4 (View.ld x0 rX) (View.ld x1 rW)⟩]

/-- What output 6 holds after a point that writes it. -/
def out7 (x0 : Vec F S512x4096 .bf16) (x1 : Vec F S4096x1024 .bf16) : Vec F S2x1x256x4x128 .f32 :=
  View.canon [⟨rA5, k0_pay7 (View.ld x0 rX) (View.ld x1 rW)⟩]

/-- What output 7 holds after a point that writes it. -/
def out8 (x0 : Vec F S512x4096 .bf16) (x1 : Vec F S4096x1024 .bf16) : Vec F S2x1x256x8x128 .f32 :=
  View.canon [⟨rB5, k0_pay9 (View.ld x0 rX) (View.ld x1 rW)⟩]

/-- What output 8 holds after a point that writes it. -/
def out9 (x0 : Vec F S512x4096 .bf16) (x1 : Vec F S4096x1024 .bf16) : Vec F S2x1x256x8x128 .f32 :=
  View.canon [⟨rB5, k0_pay11 (View.ld x0 rX) (View.ld x1 rW)⟩]

theorem cover_rKV (p : Vec F S512x512 .bf16) (y : S512x512.Idx) : ∃ pc ∈ ([⟨rKV, p⟩] : List (View.Piece (Elt F) S512x512 .bf16)), y ∈ pc.1.set :=
  View.cover_of_tiled [⟨rKV, p⟩] S512x512.size (by rfl) y

theorem cover_rB (p : Vec F S512x1024 .bf16) (y : S512x1024.Idx) : ∃ pc ∈ ([⟨rB, p⟩] : List (View.Piece (Elt F) S512x1024 .bf16)), y ∈ pc.1.set :=
  View.cover_of_tiled [⟨rB, p⟩] S512x1024.size (by rfl) y

theorem cover_rA5 (p : Vec F S2x1x256x4x128 .f32) (y : S2x1x256x4x128.Idx) : ∃ pc ∈ ([⟨rA5, p⟩] : List (View.Piece (Elt F) S2x1x256x4x128 .f32)), y ∈ pc.1.set :=
  View.cover_of_tiled [⟨rA5, p⟩] S2x1x256x4x128.size (by rfl) y

theorem cover_rB5 (p : Vec F S2x1x256x8x128 .f32) (y : S2x1x256x8x128.Idx) : ∃ pc ∈ ([⟨rB5, p⟩] : List (View.Piece (Elt F) S2x1x256x8x128 .f32)), y ∈ pc.1.set :=
  View.cover_of_tiled [⟨rB5, p⟩] S2x1x256x8x128.size (by rfl) y

/-! ## The body, at a point of each of the three kinds -/

/-- Contents that a point of one kind writes and the others keep. -/
abbrev pick {α : Type} (b : BitVec 1) (x y : α) : α := if b = 1#1 then x else y

set_option maxHeartbeats 1000000 in
/-- One run of the body: each output's buffer is written at the points of its kind and kept at the others. -/
theorem body_runs (c : Dev nD) (E : Set ℕ) (i : grid0.Coords) (arg2 : Memref sig .tc .vmem S512x4096 .bf16) (harg2 : arg2.IsWhole) (arg3 : Memref sig .tc .vmem S4096x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S2x1x256x4x128 .f32) (harg8 : arg8.IsWhole) (arg9 : Memref sig .tc .vmem S2x1x256x4x128 .f32) (harg9 : arg9.IsWhole) (arg10 : Memref sig .tc .vmem S2x1x256x8x128 .f32) (harg10 : arg10.IsWhole) (arg11 : Memref sig .tc .vmem S2x1x256x8x128 .f32) (harg11 : arg11.IsWhole)
    (hk : (k0_cond1 i = 1#1 ∧ ¬ k0_cond2 i = 1#1 ∧ ¬ k0_cond3 i = 1#1) ∨ (¬ k0_cond1 i = 1#1 ∧ k0_cond2 i = 1#1 ∧ ¬ k0_cond3 i = 1#1)
      ∨ (¬ k0_cond1 i = 1#1 ∧ ¬ k0_cond2 i = 1#1 ∧ k0_cond3 i = 1#1))
    (x0 : Vec F S512x4096 .bf16) (x1 : Vec F S4096x1024 .bf16) (y2 : Vec F S512x512 .bf16) (y3 : Vec F S512x512 .bf16) (y4 : Vec F S512x1024 .bf16) (y5 : Vec F S512x1024 .bf16) (y6 : Vec F S2x1x256x4x128 .f32) (y7 : Vec F S2x1x256x4x128 .f32) (y8 : Vec F S2x1x256x8x128 .f32) (y9 : Vec F S2x1x256x8x128 .f32) (K : PUnit → sProp 𝕄) :
    iprop(owns (c : Thread nD τ) arg2 fullShare x0 ∗ owns (c : Thread nD τ) arg3 fullShare x1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9
        ∗ (iprop(owns (c : Thread nD τ) arg2 fullShare x0 ∗ owns (c : Thread nD τ) arg3 fullShare x1 ∗ owns (c : Thread nD τ) arg4 fullShare (pick (k0_cond1 i) (out2 x0 x1) y2) ∗ owns (c : Thread nD τ) arg5 fullShare (pick (k0_cond1 i) (out3 x0 x1) y3) ∗ owns (c : Thread nD τ) arg6 fullShare (pick (k0_cond2 i) (out4 x0 x1) y4) ∗ owns (c : Thread nD τ) arg7 fullShare (pick (k0_cond3 i) (out5 x0 x1) y5) ∗ owns (c : Thread nD τ) arg8 fullShare (pick (k0_cond1 i) (out6 x0 x1) y6) ∗ owns (c : Thread nD τ) arg9 fullShare (pick (k0_cond1 i) (out7 x0 x1) y7) ∗ owns (c : Thread nD τ) arg10 fullShare (pick (k0_cond2 i) (out8 x0 x1) y8) ∗ owns (c : Thread nD τ) arg11 fullShare (pick (k0_cond3 i) (out9 x0 x1) y9)) -∗ K ⟨⟩))
      ⊢ wp frame (wpE (defs₀ (F := F)) Variants.none c none) E (cc0_kv_proj i arg2 harg2 arg3 harg3 arg4 harg4 arg5 harg5 arg6 harg6 arg7 harg7 arg8 harg8 arg9 harg9 arg10 harg10 arg11 harg11) K := by
  simp only [cc0_kv_proj_eq_skeleton]; unfold cc0_kv_proj_skel
  unfold owns
  rcases hk with ⟨h1, h2, h3⟩ | ⟨h1, h2, h3⟩ | ⟨h1, h2, h3⟩
  all_goals
    simp only [h1, h2, h3, pick, ↓reduceDIte, ↓reduceIte]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    subst hf0 hf1 hf2 hf3 hf4 hf5 hf6 hf7 hf8 hf9
    sl_exec
    sl_step
    iapply Hk
    isplitl [H0]
    · iexists _; isplitr
      swap; · iexact H0
      ipureintro
      first | with_reducible rfl | exact View.read_writes_eq_canon _ _ _ (cover_rKV _)
    isplitl [H1]
    · iexists _; isplitr
      swap; · iexact H1
      ipureintro
      first | with_reducible rfl | exact View.read_writes_eq_canon _ _ _ (cover_rKV _)
    isplitl [H2]
    · iexists _; isplitr
      swap; · iexact H2
      ipureintro
      first | with_reducible rfl | exact View.read_writes_eq_canon _ _ _ (cover_rKV _)
    isplitl [H3]
    · iexists _; isplitr
      swap; · iexact H3
      ipureintro
      first | with_reducible rfl | exact View.read_writes_eq_canon _ _ _ (cover_rKV _)
    isplitl [H4]
    · iexists _; isplitr
      swap; · iexact H4
      ipureintro
      first | with_reducible rfl | exact View.read_writes_eq_canon _ _ _ (cover_rB _)
    isplitl [H5]
    · iexists _; isplitr
      swap; · iexact H5
      ipureintro
      first | with_reducible rfl | exact View.read_writes_eq_canon _ _ _ (cover_rB _)
    isplitl [H6]
    · iexists _; isplitr
      swap; · iexact H6
      ipureintro
      first | with_reducible rfl | exact View.read_writes_eq_canon _ _ _ (cover_rA5 _)
    isplitl [H7]
    · iexists _; isplitr
      swap; · iexact H7
      ipureintro
      first | with_reducible rfl | exact View.read_writes_eq_canon _ _ _ (cover_rA5 _)
    isplitl [H8]
    · iexists _; isplitr
      swap; · iexact H8
      ipureintro
      first | with_reducible rfl | exact View.read_writes_eq_canon _ _ _ (cover_rB5 _)
    iexists _; isplitr
    swap; · iexact H9
    ipureintro
    first | with_reducible rfl | exact View.read_writes_eq_canon _ _ _ (cover_rB5 _)

/-! ## The proof data -/

variable (m : (ℓ : Loc nD τ sig) → Buf (Elt F) ℓ) (ρ : Dev nD → PrngReg)

/-- The last point not after `t` and not after `n`. -/
def upTo (n : ℕ) (hn : n < 80) (t : Fin cfg0.N) : Fin cfg0.N := ⟨min t.val n, Nat.lt_of_le_of_lt (Nat.min_le_right _ _) hn⟩

/-- What every buffer holds after each point: an input its block, an output what the last point of its kind wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 (upTo 15 (by decide) t)) (iblk m c 1 (upTo 15 (by decide) t))
    | ⟨3, _⟩ => out3 (iblk m c 0 (upTo 15 (by decide) t)) (iblk m c 1 (upTo 15 (by decide) t))
    | ⟨4, _⟩ => out4 (iblk m c 0 (upTo 47 (by decide) t)) (iblk m c 1 (upTo 47 (by decide) t))
    | ⟨5, _⟩ => out5 (iblk m c 0 t) (iblk m c 1 t)
    | ⟨6, _⟩ => out6 (iblk m c 0 (upTo 15 (by decide) t)) (iblk m c 1 (upTo 15 (by decide) t))
    | ⟨7, _⟩ => out7 (iblk m c 0 (upTo 15 (by decide) t)) (iblk m c 1 (upTo 15 (by decide) t))
    | ⟨8, _⟩ => out8 (iblk m c 0 (upTo 47 (by decide) t)) (iblk m c 1 (upTo 47 (by decide) t))
    | ⟨9, _⟩ => out9 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 (upTo 15 (by decide) t)) (iblk m c 1 (upTo 15 (by decide) t)) := by dsimp only [dats]
theorem after3 (c : Dev nD) (t : Fin cfg0.N) : (dats m 0 c).after 3 t = out3 (iblk m c 0 (upTo 15 (by decide) t)) (iblk m c 1 (upTo 15 (by decide) t)) := by dsimp only [dats]
theorem after4 (c : Dev nD) (t : Fin cfg0.N) : (dats m 0 c).after 4 t = out4 (iblk m c 0 (upTo 47 (by decide) t)) (iblk m c 1 (upTo 47 (by decide) t)) := by dsimp only [dats]
theorem after5 (c : Dev nD) (t : Fin cfg0.N) : (dats m 0 c).after 5 t = out5 (iblk m c 0 t) (iblk m c 1 t) := by dsimp only [dats]
theorem after6 (c : Dev nD) (t : Fin cfg0.N) : (dats m 0 c).after 6 t = out6 (iblk m c 0 (upTo 15 (by decide) t)) (iblk m c 1 (upTo 15 (by decide) t)) := by dsimp only [dats]
theorem after7 (c : Dev nD) (t : Fin cfg0.N) : (dats m 0 c).after 7 t = out7 (iblk m c 0 (upTo 15 (by decide) t)) (iblk m c 1 (upTo 15 (by decide) t)) := by dsimp only [dats]
theorem after8 (c : Dev nD) (t : Fin cfg0.N) : (dats m 0 c).after 8 t = out8 (iblk m c 0 (upTo 47 (by decide) t)) (iblk m c 1 (upTo 47 (by decide) t)) := by dsimp only [dats]
theorem after9 (c : Dev nD) (t : Fin cfg0.N) : (dats m 0 c).after 9 t = out9 (iblk m c 0 t) (iblk m c 1 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- A window that is never fetched and that nothing writes after point `s` holds at the later points what point `s` left. -/
theorem holds_after {c : Dev nD} (dat : Dat τ (Elt F) Unit ℕ (UR sig nD τ) ℕ cfg0 c) (w : Fin cfg0.W) (s : Fin cfg0.N) (X)
    (hfetch : ∀ t, (cfg0.win w).fetch t = false) (hflush : ∀ t : Fin cfg0.N, s.val ≤ t.val → t.val < 79 → (cfg0.win w).flush t = false)
    (hlive : cfg0.idle w (cfg0.grid.coords s) = false) (hidle : ∀ t : Fin cfg0.N, s.val < t.val → cfg0.idle w (cfg0.grid.coords t) = true)
    (hkept : ∀ d, dat.kept w s d = X) (d) : ∀ (n : ℕ) (hn : n < cfg0.N), s.val < n → dat.before w ⟨n, hn⟩ d = X := by
  intro n
  induction n with
  | zero => intro _ h; exact absurd h (Nat.not_lt_zero _)
  | succ n ih =>
    intro hn hs
    have hN : n + 1 < 80 := hn
    have hfl : (cfg0.win w).flush ⟨n, Nat.lt_of_succ_lt hn⟩ = false := hflush _ (Nat.le_of_lt_succ hs) (by show n < 79; omega)
    refine (dat.before_of_pos w ⟨n + 1, hn⟩ (Nat.succ_ne_zero n) (hfetch _) d).trans ?_
    show (if (cfg0.win w).flush ⟨n, Nat.lt_of_succ_lt hn⟩ then d else dat.left w ⟨n, Nat.lt_of_succ_lt hn⟩ d) = X
    rw [hfl, if_neg Bool.false_ne_true]
    unfold Dat.left
    rcases Nat.lt_or_ge s.val n with h | h
    · rw [hidle ⟨n, Nat.lt_of_succ_lt hn⟩ h]
      exact ih _ h
    · have e : (⟨n, Nat.lt_of_succ_lt hn⟩ : Fin cfg0.N) = s := Fin.ext (Nat.le_antisymm h (Nat.le_of_lt_succ hs))
      rw [e, hlive]
      exact hkept d

/-- What the obligation asks of a window's buffer after a point. -/
theorem leaves_of {c : Dev nD} (dat : Dat τ (Elt F) Unit ℕ (UR sig nD τ) ℕ cfg0 c) (w : Fin cfg0.W) (t : Fin cfg0.N) (d X)
    (hl : cfg0.idle w (cfg0.grid.coords t) = false → X = dat.after w t) (hi : cfg0.idle w (cfg0.grid.coords t) = true → X = dat.before w t d)
    (hf : cfg0.idle w (cfg0.grid.coords t) = true → (cfg0.win w).flush t = true → dat.before w t d = dat.after w t) :
    (owns (c : Thread nD τ) ((cfg0.win w).stage (cfg0.slots t w)) fullShare X : sProp 𝕄) ⊢ dat.leavesExact w t := by
  unfold Dat.leavesExact
  cases h : cfg0.idle w (cfg0.grid.coords t)
  · rw [hl h]
  · rw [hi h]
    cases h' : (cfg0.win w).flush t
    · iintro H; iexists d; iexact H
    · rw [hf h h']

/-! ## When each output is written and written back -/

theorem fetch2 : ∀ t : Fin cfg0.N, (cfg0.win 2).fetch t = false := fun _ => rfl
theorem flush2 : ∀ t : Fin cfg0.N, (cfg0.win 2).flush t = true → (t.val < 15 ∨ t.val = 79) :=
  (by decide +kernel : ∀ t : Fin grid0.N, win0_2.flush t = true → (t.val < 15 ∨ t.val = 79))
theorem fetch3 : ∀ t : Fin cfg0.N, (cfg0.win 3).fetch t = false := fun _ => rfl
theorem flush3 : ∀ t : Fin cfg0.N, (cfg0.win 3).flush t = true → (t.val < 15 ∨ t.val = 79) :=
  (by decide +kernel : ∀ t : Fin grid0.N, win0_3.flush t = true → (t.val < 15 ∨ t.val = 79))
theorem fetch4 : ∀ t : Fin cfg0.N, (cfg0.win 4).fetch t = false := fun _ => rfl
theorem flush4 : ∀ t : Fin cfg0.N, (cfg0.win 4).flush t = true → 16 ≤ t.val ∧ (t.val < 47 ∨ t.val = 79) :=
  (by decide +kernel : ∀ t : Fin grid0.N, win0_4.flush t = true → 16 ≤ t.val ∧ (t.val < 47 ∨ t.val = 79))
theorem fetch5 : ∀ t : Fin cfg0.N, (cfg0.win 5).fetch t = false := fun _ => rfl
theorem flush5 : ∀ t : Fin cfg0.N, (cfg0.win 5).flush t = true → 48 ≤ t.val :=
  (by decide +kernel : ∀ t : Fin grid0.N, win0_5.flush t = true → 48 ≤ t.val)
theorem fetch6 : ∀ t : Fin cfg0.N, (cfg0.win 6).fetch t = false := fun _ => rfl
theorem flush6 : ∀ t : Fin cfg0.N, (cfg0.win 6).flush t = true → (t.val < 15 ∨ t.val = 79) :=
  (by decide +kernel : ∀ t : Fin grid0.N, win0_6.flush t = true → (t.val < 15 ∨ t.val = 79))
theorem fetch7 : ∀ t : Fin cfg0.N, (cfg0.win 7).fetch t = false := fun _ => rfl
theorem flush7 : ∀ t : Fin cfg0.N, (cfg0.win 7).flush t = true → (t.val < 15 ∨ t.val = 79) :=
  (by decide +kernel : ∀ t : Fin grid0.N, win0_7.flush t = true → (t.val < 15 ∨ t.val = 79))
theorem fetch8 : ∀ t : Fin cfg0.N, (cfg0.win 8).fetch t = false := fun _ => rfl
theorem flush8 : ∀ t : Fin cfg0.N, (cfg0.win 8).flush t = true → 16 ≤ t.val ∧ (t.val < 47 ∨ t.val = 79) :=
  (by decide +kernel : ∀ t : Fin grid0.N, win0_8.flush t = true → 16 ≤ t.val ∧ (t.val < 47 ∨ t.val = 79))
theorem fetch9 : ∀ t : Fin cfg0.N, (cfg0.win 9).fetch t = false := fun _ => rfl
theorem flush9 : ∀ t : Fin cfg0.N, (cfg0.win 9).flush t = true → 48 ≤ t.val :=
  (by decide +kernel : ∀ t : Fin grid0.N, win0_9.flush t = true → 48 ≤ t.val)

/-- A point is of the first kind below 16, of the second below 48, of the third from there on. -/
theorem kinds : ∀ t : Fin cfg0.N, (k0_cond1 (grid0.coords t) = 1#1 ↔ t.val < 16) ∧ (k0_cond2 (grid0.coords t) = 1#1 ↔ 16 ≤ t.val ∧ t.val < 48)
    ∧ (k0_cond3 (grid0.coords t) = 1#1 ↔ 48 ≤ t.val) :=
  (by decide +kernel : ∀ t : Fin grid0.N, (k0_cond1 (grid0.coords t) = 1#1 ↔ t.val < 16) ∧ (k0_cond2 (grid0.coords t) = 1#1 ↔ 16 ≤ t.val ∧ t.val < 48)
    ∧ (k0_cond3 (grid0.coords t) = 1#1 ↔ 48 ≤ t.val))

theorem one_kind (t : Fin cfg0.N) : let i := grid0.coords t
    (k0_cond1 i = 1#1 ∧ ¬ k0_cond2 i = 1#1 ∧ ¬ k0_cond3 i = 1#1) ∨ (¬ k0_cond1 i = 1#1 ∧ k0_cond2 i = 1#1 ∧ ¬ k0_cond3 i = 1#1)
      ∨ (¬ k0_cond1 i = 1#1 ∧ ¬ k0_cond2 i = 1#1 ∧ k0_cond3 i = 1#1) := by
  obtain ⟨h1, h2, h3⟩ := kinds t
  dsimp only
  rw [h1, h2, h3]; omega

theorem not_idle {b : BitVec 1} (h : (!(b == 1#1)) = false) : b = 1#1 := by simpa using h
theorem is_idle {b : BitVec 1} (h : (!(b == 1#1)) = true) : ¬ b = 1#1 := by simpa using h
theorem idle_of {b : BitVec 1} (h : ¬ b = 1#1) : (!(b == 1#1)) = true := by simpa using h
theorem live_of {b : BitVec 1} (h : b = 1#1) : (!(b == 1#1)) = false := by simpa using h

theorem upTo_eq (n : ℕ) (hn : n < 80) (t : Fin cfg0.N) (h : t.val ≤ n) : upTo n hn t = t := Fin.ext (Nat.min_eq_left h)
theorem upTo_last (n : ℕ) (hn : n < 80) (t : Fin cfg0.N) (h : n ≤ t.val) : upTo n hn t = ⟨n, hn⟩ := Fin.ext (Nat.min_eq_right h)

/-- What the body finds in window `w` at point `t`, if `d` is in a buffer that nothing has filled. -/
abbrev found (c : Dev nD) (w : Fin cfg0.W) (t : Fin cfg0.N) (d) := (dats m 0 c).before w t d

theorem leaves2 (c : Dev nD) (t : Fin cfg0.N) (d) :
    (owns (c : Thread nD τ) (st0_2 t) fullShare (pick (k0_cond1 (grid0.coords t)) (out2 (iblk m c 0 t) (iblk m c 1 t)) ((dats m 0 c).before 2 t d)) : sProp 𝕄)
      ⊢ (dats m 0 c).leavesExact 2 t := by
  refine leaves_of (dats m 0 c) 2 t d _ (fun h => ?_) (fun h => if_neg (is_idle h)) fun h hf => ?_
  · rw [after2, upTo_eq 15 (by decide) t (by have := (kinds t).1.mp (not_idle h); omega)]; exact if_pos (not_idle h)
  · have h1 : ¬ t.val < 16 := fun h' => is_idle h ((kinds t).1.mpr h')
    have h2 := flush2 t hf
    have hs : 15 < t.val := by omega
    rw [after2, upTo_last 15 (by decide) t (Nat.le_of_lt hs)]
    refine holds_after (dats m 0 c) 2 ⟨15, by decide⟩ _ fetch2 (fun t' h3 h4 => ?_) ?_ (fun t' h3 => ?_) (fun d => ?_) d t.val t.isLt hs
    · refine Bool.eq_false_iff.mpr fun h5 => ?_
      have h6 := flush2 t' h5
      have h3' : 15 ≤ t'.val := h3
      omega
    · exact live_of ((kinds ⟨15, by decide⟩).1.mpr (by decide))
    · have h3' : 15 < t'.val := h3
      exact idle_of fun h' => absurd ((kinds t').1.mp h') (by omega)
    · show (dats m 0 c).after 2 ⟨15, by decide⟩ = _
      rw [after2, upTo_eq 15 (by decide) ⟨15, by decide⟩ (Nat.le_refl _)]

theorem leaves3 (c : Dev nD) (t : Fin cfg0.N) (d) :
    (owns (c : Thread nD τ) (st0_3 t) fullShare (pick (k0_cond1 (grid0.coords t)) (out3 (iblk m c 0 t) (iblk m c 1 t)) ((dats m 0 c).before 3 t d)) : sProp 𝕄)
      ⊢ (dats m 0 c).leavesExact 3 t := by
  refine leaves_of (dats m 0 c) 3 t d _ (fun h => ?_) (fun h => if_neg (is_idle h)) fun h hf => ?_
  · rw [after3, upTo_eq 15 (by decide) t (by have := (kinds t).1.mp (not_idle h); omega)]; exact if_pos (not_idle h)
  · have h1 : ¬ t.val < 16 := fun h' => is_idle h ((kinds t).1.mpr h')
    have h2 := flush3 t hf
    have hs : 15 < t.val := by omega
    rw [after3, upTo_last 15 (by decide) t (Nat.le_of_lt hs)]
    refine holds_after (dats m 0 c) 3 ⟨15, by decide⟩ _ fetch3 (fun t' h3 h4 => ?_) ?_ (fun t' h3 => ?_) (fun d => ?_) d t.val t.isLt hs
    · refine Bool.eq_false_iff.mpr fun h5 => ?_
      have h6 := flush3 t' h5
      have h3' : 15 ≤ t'.val := h3
      omega
    · exact live_of ((kinds ⟨15, by decide⟩).1.mpr (by decide))
    · have h3' : 15 < t'.val := h3
      exact idle_of fun h' => absurd ((kinds t').1.mp h') (by omega)
    · show (dats m 0 c).after 3 ⟨15, by decide⟩ = _
      rw [after3, upTo_eq 15 (by decide) ⟨15, by decide⟩ (Nat.le_refl _)]

theorem leaves4 (c : Dev nD) (t : Fin cfg0.N) (d) :
    (owns (c : Thread nD τ) (st0_4 t) fullShare (pick (k0_cond2 (grid0.coords t)) (out4 (iblk m c 0 t) (iblk m c 1 t)) ((dats m 0 c).before 4 t d)) : sProp 𝕄)
      ⊢ (dats m 0 c).leavesExact 4 t := by
  refine leaves_of (dats m 0 c) 4 t d _ (fun h => ?_) (fun h => if_neg (is_idle h)) fun h hf => ?_
  · rw [after4, upTo_eq 47 (by decide) t (by have := (kinds t).2.1.mp (not_idle h); omega)]; exact if_pos (not_idle h)
  · have h1 : ¬ (16 ≤ t.val ∧ t.val < 48) := fun h' => is_idle h ((kinds t).2.1.mpr h')
    have h2 := flush4 t hf
    have hs : 47 < t.val := by omega
    rw [after4, upTo_last 47 (by decide) t (Nat.le_of_lt hs)]
    refine holds_after (dats m 0 c) 4 ⟨47, by decide⟩ _ fetch4 (fun t' h3 h4 => ?_) ?_ (fun t' h3 => ?_) (fun d => ?_) d t.val t.isLt hs
    · refine Bool.eq_false_iff.mpr fun h5 => ?_
      have h6 := flush4 t' h5
      have h3' : 47 ≤ t'.val := h3
      omega
    · exact live_of ((kinds ⟨47, by decide⟩).2.1.mpr (by decide))
    · have h3' : 47 < t'.val := h3
      exact idle_of fun h' => absurd ((kinds t').2.1.mp h') (by omega)
    · show (dats m 0 c).after 4 ⟨47, by decide⟩ = _
      rw [after4, upTo_eq 47 (by decide) ⟨47, by decide⟩ (Nat.le_refl _)]

theorem leaves5 (c : Dev nD) (t : Fin cfg0.N) (d) :
    (owns (c : Thread nD τ) (st0_5 t) fullShare (pick (k0_cond3 (grid0.coords t)) (out5 (iblk m c 0 t) (iblk m c 1 t)) ((dats m 0 c).before 5 t d)) : sProp 𝕄)
      ⊢ (dats m 0 c).leavesExact 5 t := by
  refine leaves_of (dats m 0 c) 5 t d _ (fun h => ?_) (fun h => if_neg (is_idle h)) fun h hf => ?_
  · rw [after5]; exact if_pos (not_idle h)
  · exact absurd ((kinds t).2.2.mpr (flush5 t hf)) (is_idle h)

theorem leaves6 (c : Dev nD) (t : Fin cfg0.N) (d) :
    (owns (c : Thread nD τ) (st0_6 t) fullShare (pick (k0_cond1 (grid0.coords t)) (out6 (iblk m c 0 t) (iblk m c 1 t)) ((dats m 0 c).before 6 t d)) : sProp 𝕄)
      ⊢ (dats m 0 c).leavesExact 6 t := by
  refine leaves_of (dats m 0 c) 6 t d _ (fun h => ?_) (fun h => if_neg (is_idle h)) fun h hf => ?_
  · rw [after6, upTo_eq 15 (by decide) t (by have := (kinds t).1.mp (not_idle h); omega)]; exact if_pos (not_idle h)
  · have h1 : ¬ t.val < 16 := fun h' => is_idle h ((kinds t).1.mpr h')
    have h2 := flush6 t hf
    have hs : 15 < t.val := by omega
    rw [after6, upTo_last 15 (by decide) t (Nat.le_of_lt hs)]
    refine holds_after (dats m 0 c) 6 ⟨15, by decide⟩ _ fetch6 (fun t' h3 h4 => ?_) ?_ (fun t' h3 => ?_) (fun d => ?_) d t.val t.isLt hs
    · refine Bool.eq_false_iff.mpr fun h5 => ?_
      have h6 := flush6 t' h5
      have h3' : 15 ≤ t'.val := h3
      omega
    · exact live_of ((kinds ⟨15, by decide⟩).1.mpr (by decide))
    · have h3' : 15 < t'.val := h3
      exact idle_of fun h' => absurd ((kinds t').1.mp h') (by omega)
    · show (dats m 0 c).after 6 ⟨15, by decide⟩ = _
      rw [after6, upTo_eq 15 (by decide) ⟨15, by decide⟩ (Nat.le_refl _)]

theorem leaves7 (c : Dev nD) (t : Fin cfg0.N) (d) :
    (owns (c : Thread nD τ) (st0_7 t) fullShare (pick (k0_cond1 (grid0.coords t)) (out7 (iblk m c 0 t) (iblk m c 1 t)) ((dats m 0 c).before 7 t d)) : sProp 𝕄)
      ⊢ (dats m 0 c).leavesExact 7 t := by
  refine leaves_of (dats m 0 c) 7 t d _ (fun h => ?_) (fun h => if_neg (is_idle h)) fun h hf => ?_
  · rw [after7, upTo_eq 15 (by decide) t (by have := (kinds t).1.mp (not_idle h); omega)]; exact if_pos (not_idle h)
  · have h1 : ¬ t.val < 16 := fun h' => is_idle h ((kinds t).1.mpr h')
    have h2 := flush7 t hf
    have hs : 15 < t.val := by omega
    rw [after7, upTo_last 15 (by decide) t (Nat.le_of_lt hs)]
    refine holds_after (dats m 0 c) 7 ⟨15, by decide⟩ _ fetch7 (fun t' h3 h4 => ?_) ?_ (fun t' h3 => ?_) (fun d => ?_) d t.val t.isLt hs
    · refine Bool.eq_false_iff.mpr fun h5 => ?_
      have h6 := flush7 t' h5
      have h3' : 15 ≤ t'.val := h3
      omega
    · exact live_of ((kinds ⟨15, by decide⟩).1.mpr (by decide))
    · have h3' : 15 < t'.val := h3
      exact idle_of fun h' => absurd ((kinds t').1.mp h') (by omega)
    · show (dats m 0 c).after 7 ⟨15, by decide⟩ = _
      rw [after7, upTo_eq 15 (by decide) ⟨15, by decide⟩ (Nat.le_refl _)]

theorem leaves8 (c : Dev nD) (t : Fin cfg0.N) (d) :
    (owns (c : Thread nD τ) (st0_8 t) fullShare (pick (k0_cond2 (grid0.coords t)) (out8 (iblk m c 0 t) (iblk m c 1 t)) ((dats m 0 c).before 8 t d)) : sProp 𝕄)
      ⊢ (dats m 0 c).leavesExact 8 t := by
  refine leaves_of (dats m 0 c) 8 t d _ (fun h => ?_) (fun h => if_neg (is_idle h)) fun h hf => ?_
  · rw [after8, upTo_eq 47 (by decide) t (by have := (kinds t).2.1.mp (not_idle h); omega)]; exact if_pos (not_idle h)
  · have h1 : ¬ (16 ≤ t.val ∧ t.val < 48) := fun h' => is_idle h ((kinds t).2.1.mpr h')
    have h2 := flush8 t hf
    have hs : 47 < t.val := by omega
    rw [after8, upTo_last 47 (by decide) t (Nat.le_of_lt hs)]
    refine holds_after (dats m 0 c) 8 ⟨47, by decide⟩ _ fetch8 (fun t' h3 h4 => ?_) ?_ (fun t' h3 => ?_) (fun d => ?_) d t.val t.isLt hs
    · refine Bool.eq_false_iff.mpr fun h5 => ?_
      have h6 := flush8 t' h5
      have h3' : 47 ≤ t'.val := h3
      omega
    · exact live_of ((kinds ⟨47, by decide⟩).2.1.mpr (by decide))
    · have h3' : 47 < t'.val := h3
      exact idle_of fun h' => absurd ((kinds t').2.1.mp h') (by omega)
    · show (dats m 0 c).after 8 ⟨47, by decide⟩ = _
      rw [after8, upTo_eq 47 (by decide) ⟨47, by decide⟩ (Nat.le_refl _)]

theorem leaves9 (c : Dev nD) (t : Fin cfg0.N) (d) :
    (owns (c : Thread nD τ) (st0_9 t) fullShare (pick (k0_cond3 (grid0.coords t)) (out9 (iblk m c 0 t) (iblk m c 1 t)) ((dats m 0 c).before 9 t d)) : sProp 𝕄)
      ⊢ (dats m 0 c).leavesExact 9 t := by
  refine leaves_of (dats m 0 c) 9 t d _ (fun h => ?_) (fun h => if_neg (is_idle h)) fun h hf => ?_
  · rw [after9]; exact if_pos (not_idle h)
  · exact absurd ((kinds t).2.2.mpr (flush9 t hf)) (is_idle h)

/-! ## The body obligation -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl, after0, after1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs c Set.univ (grid0.coords t) _ _ _ _ _ _ _ _ _ _ _ _ _ _ _ _ _ _ _ _ (one_kind t) (iblk m c 0 t) (iblk m c 1 t) ((dats m 0 c).before 2 t d2) ((dats m 0 c).before 3 t d3) ((dats m 0 c).before 4 t d4) ((dats m 0 c).before 5 t d5) ((dats m 0 c).before 6 t d6) ((dats m 0 c).before 7 t d7) ((dats m 0 c).before 8 t d8) ((dats m 0 c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iapply (leaves2 m c t d2); iexact H2
  isplitl [H3]; · iapply (leaves3 m c t d3); iexact H3
  isplitl [H4]; · iapply (leaves4 m c t d4); iexact H4
  isplitl [H5]; · iapply (leaves5 m c t d5); iexact H5
  isplitl [H6]; · iapply (leaves6 m c t d6); iexact H6
  isplitl [H7]; · iapply (leaves7 m c t d7); iexact H7
  isplitl [H8]; · iapply (leaves8 m c t d8); iexact H8
  iapply (leaves9 m c t d9); iexact H9

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

/-! ## The run -/

set_option backward.isDefEq.respectTransparency.types false in
set_option maxHeartbeats 800000 in
/-- Every execution ends with the arrays at what the proof data say and every semaphore at zero. -/
theorem runs : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The program ends, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (runs m ρ))) ((θ_run defs _ _).mono (fun _ h => h.2) (runs m ρ))

end Cert.KvIdeal.Keys

end
-- ==== Proof.KvSame.lean ====
/-
  The keys and values of the prompts: the program and the one read in exact arithmetic are one program, so that a run's facts,
  proved once for every arithmetic, hold of both.
-/
module

public import proofs.«01_k».proof.Defs
public import proofs.«01_k».proof.Proof.Gen.Kv.Frame
public import proofs.«01_k».proof.Proof.KvIdealFrame

@[expose] public section

set_option maxRecDepth 16384

noncomputable section

namespace KeysSame

open Idealize.ShloMosaic Idealize.SL.Sem Cert

theorem kernels : Kv.defs₀ (F := Bits) = KvIdeal.defs₀ (F := Bits) := by
  unfold Kv.defs₀ KvIdeal.defs₀
  refine congrArg Defs.onTc ?_
  funext f x
  match f with
  | 0 => rfl

theorem bodies : Kv.defs (F := Bits) = KvIdeal.defs (F := Bits) := congrArg (Pipeline.defs Kv.pcfgs) kernels

/-- The program ends, leaves its arguments as they were and every semaphore at zero. -/
theorem frame : quiescent_Kv := fun m ρ _ =>
  (show ∀ d, d = KvIdeal.defs (F := Bits) → (θ_run d (onTc (τ := KvIdeal.τ) (KvIdeal.main (F := Bits))) ⟨m, fun _ => 0, ρ⟩ (fun r => (∀ c : Dev KvIdeal.nD,
      r.2.mem ((c.tc : Thread KvIdeal.nD KvIdeal.τ).loc KvIdeal.main_arg0) = m ((c.tc : Thread KvIdeal.nD KvIdeal.τ).loc KvIdeal.main_arg0)
      ∧ r.2.mem ((c.tc : Thread KvIdeal.nD KvIdeal.τ).loc KvIdeal.main_arg1) = m ((c.tc : Thread KvIdeal.nD KvIdeal.τ).loc KvIdeal.main_arg1))
      ∧ r.2.sem = fun _ => 0)) from fun d hd => by subst hd; exact KvIdeal.Keys.frame m ρ) (Kv.defs (F := Bits)) bodies

end KeysSame

end
-- ==== Proof.KeysValues.lean ====
/-
  The keys and values of the prompts, in exact arithmetic: what the tiled kernel leaves in its eight results, element by element.
-/
module

public import proofs.«01_k».proof.Defs
public import proofs.«01_k».proof.Proof.Tiles
public import proofs.«01_k».proof.Proof.KvIdealFrame
public import Idealize.ShloMosaic.Lib.Pipeline.ValueKit.Geometry
public import Idealize.ShloMosaic.Lib.Claim

@[expose] public section

set_option maxRecDepth 16384

noncomputable section

namespace KeysValues

open Idealize.ShloMosaic Idealize.ShloMosaic.ValueIdx Idealize.ShloMosaic.TcCoe Idealize.SL.Sem Idealize.ShloMosaic.Pipeline
open Cert Attention
open Cert.KvIdeal Cert.KvIdeal.Gen Cert.KvIdeal.Keys

/-- A row of the activations against a column of the weights, the two given by number. -/
def entry (x : FVec Ideal S8192x4096 .bf16) (w : FVec Ideal S4096x13312 .bf16) (r : Fin 8192) (n : Fin 13312) : EReal :=
  ∑ k : Fin 4096, x (ix2 r k) * w (ix2 k n)

/-- The same of one block of rows and one block of columns. -/
def blockEntry (x : Vec Ideal S512x4096 .bf16) (w : Vec Ideal S4096x1024 .bf16) (r : Fin 512) (n : Fin 1024) : EReal :=
  ∑ k : Fin 4096, (show EReal from x (ix2 r k)) * (show EReal from w (ix2 k n))

/-- Columns `o + ·` of the projection. -/
def flat {N : ℕ} (o : ℕ) (h : o + N ≤ 13312) (x : FVec Ideal S8192x4096 .bf16) (w : FVec Ideal S4096x13312 .bf16) (i : (⟨2, ![8192, N]⟩ : Shape).Idx) : EReal :=
  entry x w (i 0) ⟨o + (i 1).val, by have h1 : (i 1).val < N := (i 1).isLt; omega⟩

/-- The same columns, the rows in 32 groups of 256 and the columns in `H` heads of 128. -/
def headed {H : ℕ} (o : ℕ) (h : o + H * 128 ≤ 13312) (x : FVec Ideal S8192x4096 .bf16) (w : FVec Ideal S4096x13312 .bf16)
    (i : (⟨5, ![32, 1, 256, H, 128]⟩ : Shape).Idx) : EReal :=
  entry x w ⟨256 * (i 0).val + (i 2).val, by have h0 : (i 0).val < 32 := (i 0).isLt; have h2 : (i 2).val < 256 := (i 2).isLt; omega⟩
    ⟨o + (128 * (i 3).val + (i 4).val), by have h3 : (i 3).val < H := (i 3).isLt; have h4 : (i 4).val < 128 := (i 4).isLt; omega⟩

/-! ## The blocks -/

theorem corner_zero5 : (![0, 0, 0, 0, 0] : Fin 5 → Nat) = fun _ => 0 := funext fun a => by fin_cases a <;> rfl

theorem ld_x (x : Vec Ideal S512x4096 .bf16) : View.ld x rX = x := View.ld_unit_zero corner_zero _ x
theorem ld_w (w : Vec Ideal S4096x1024 .bf16) : View.ld w rW = w := View.ld_unit_zero corner_zero _ w

theorem product_block (x : Vec Ideal S512x4096 .bf16) (w : Vec Ideal S4096x1024 .bf16) (r : Fin 512) (n : Fin 1024) :
    k0_pay1 x w (ix2 r n) = blockEntry x w r n :=
  product_apply (M := 512) (K := 4096) (N := 1024) (φ₁ := .bf16) (φ₂ := .bf16) none x w (ix2 r n)

/-- The left and the right half of a block of columns. -/
theorem half_apply (o : ℕ) (ho : o ≤ 512) (p : S512x1024.Idx → EReal) (h : S512x1024.Slices ![0, o] S512x512) (y : S512x512.Idx) :
    extractStridedSlice S512x512 ![0, o] p h y
      = p (ix2 (y 0) ⟨o + (y 1).val, by have h1 : (y 1).val < 512 := (y 1).isLt; omega⟩) :=
  extractStridedSlice_apply ![0, o] p h y _ fun a => match a with
    | ⟨0, _⟩ => by show (y 0).val = 0 + (y 0).val; omega
    | ⟨1, _⟩ => rfl

/-- A block of 512 rows seen as 2 groups of 256, its columns as `H` heads of 128. -/
theorem heads_apply {H : ℕ} (p : (⟨2, ![512, H * 128]⟩ : Shape).Idx → EReal)
    (h : (⟨2, ![512, H * 128]⟩ : Shape).ShapeCasts ⟨4, ![2, 256, H, 128]⟩) (h' : (⟨4, ![2, 256, H, 128]⟩ : Shape).ShapeCasts ⟨5, ![2, 1, 256, H, 128]⟩)
    (y : (⟨5, ![2, 1, 256, H, 128]⟩ : Shape).Idx) (r : Fin 512) (n : Fin (H * 128)) (hr : r.val = 256 * (y 0).val + (y 2).val)
    (hn : n.val = 128 * (y 3).val + (y 4).val) :
    shapeCast (α := EReal) ⟨5, ![2, 1, 256, H, 128]⟩ (shapeCast (α := EReal) ⟨4, ![2, 256, H, 128]⟩ p h) h' y = p (ix2 r n) := by
  have h1 : (y 1).val < 1 := (y 1).isLt
  refine (shapeCast_apply (α := EReal) (shapeCast (α := EReal) ⟨4, ![2, 256, H, 128]⟩ p h) h' y (ix4 (y 0) (y 2) (y 3) (y 4)) ?_).trans
    (shapeCast_apply (α := EReal) p h (ix4 (y 0) (y 2) (y 3) (y 4)) (ix2 r n) ?_)
  · rewrite [Shape.rowMajor_val_four, Shape.rowMajor_val_five]
    show (((y 0).val * 256 + (y 2).val) * H + (y 3).val) * 128 + (y 4).val
      = ((((y 0).val * 1 + (y 1).val) * 256 + (y 2).val) * H + (y 3).val) * 128 + (y 4).val
    rw [show (y 1).val = 0 by omega, Nat.mul_one, Nat.add_zero]
  · rewrite [Shape.rowMajor_val_two, Shape.rowMajor_val_four]
    show r.val * (H * 128) + n.val = (((y 0).val * 256 + (y 2).val) * H + (y 3).val) * 128 + (y 4).val
    rw [hr, hn]; ring

theorem left_apply (x : Vec Ideal S512x4096 .bf16) (w : Vec Ideal S4096x1024 .bf16) (y : S512x512.Idx) :
    k0_pay2 x w y = blockEntry x w (y 0) ⟨0 + (y 1).val, by have h1 : (y 1).val < 512 := (y 1).isLt; omega⟩ :=
  (half_apply 0 (by omega) (k0_pay1 x w) slices_S512x1024_o0_0_S512x512 y).trans (product_block x w _ _)

theorem right_apply (x : Vec Ideal S512x4096 .bf16) (w : Vec Ideal S4096x1024 .bf16) (y : S512x512.Idx) :
    k0_pay5 x w y = blockEntry x w (y 0) ⟨512 + (y 1).val, by have h1 : (y 1).val < 512 := (y 1).isLt; omega⟩ :=
  (half_apply 512 (by omega) (k0_pay1 x w) slices_S512x1024_o0_512_S512x512 y).trans (product_block x w _ _)

theorem out2_apply (x : Vec Ideal S512x4096 .bf16) (w : Vec Ideal S4096x1024 .bf16) (y : S512x512.Idx) :
    out2 x w y = blockEntry x w (y 0) ⟨0 + (y 1).val, by have h1 : (y 1).val < 512 := (y 1).isLt; omega⟩ := by
  refine (congrFun (View.canon_unit_zero (Val := Elt Ideal) (e := .bf16) (S := S512x512) corner_zero _ (k0_pay3 (View.ld x rX) (View.ld w rW))) y).trans ?_
  rw [ld_x, ld_w]
  exact left_apply x w y

theorem out3_apply (x : Vec Ideal S512x4096 .bf16) (w : Vec Ideal S4096x1024 .bf16) (y : S512x512.Idx) :
    out3 x w y = blockEntry x w (y 0) ⟨512 + (y 1).val, by have h1 : (y 1).val < 512 := (y 1).isLt; omega⟩ := by
  refine (congrFun (View.canon_unit_zero (Val := Elt Ideal) (e := .bf16) (S := S512x512) corner_zero _ (k0_pay6 (View.ld x rX) (View.ld w rW))) y).trans ?_
  rw [ld_x, ld_w]
  exact right_apply x w y

theorem out4_apply (x : Vec Ideal S512x4096 .bf16) (w : Vec Ideal S4096x1024 .bf16) (y : S512x1024.Idx) :
    out4 x w y = blockEntry x w (y 0) (y 1) := by
  refine (congrFun (View.canon_unit_zero (Val := Elt Ideal) (e := .bf16) (S := S512x1024) corner_zero _ (k0_pay8 (View.ld x rX) (View.ld w rW))) y).trans ?_
  rw [ld_x, ld_w]
  exact product_apply (M := 512) (K := 4096) (N := 1024) (φ₁ := .bf16) (φ₂ := .bf16) none x w y

theorem out5_apply (x : Vec Ideal S512x4096 .bf16) (w : Vec Ideal S4096x1024 .bf16) (y : S512x1024.Idx) :
    out5 x w y = blockEntry x w (y 0) (y 1) := out4_apply x w y

/-- The row of a block, from the group and the row in it. -/
abbrev row2 (a : Fin 2) (b : Fin 256) : Fin 512 := ⟨256 * a.val + b.val, by omega⟩

theorem out6_apply (x : Vec Ideal S512x4096 .bf16) (w : Vec Ideal S4096x1024 .bf16) (y : S2x1x256x4x128.Idx) :
    out6 x w y = blockEntry x w (row2 (y 0) (y 2)) ⟨0 + (128 * (y 3).val + (y 4).val), by have h3 : (y 3).val < 4 := (y 3).isLt; have h4 : (y 4).val < 128 := (y 4).isLt; omega⟩ := by
  refine (congrFun (View.canon_unit_zero (Val := Elt Ideal) (e := .f32) (S := S2x1x256x4x128) corner_zero5 _ (k0_pay4 (View.ld x rX) (View.ld w rW))) y).trans ?_
  rw [ld_x, ld_w]
  refine (heads_apply (H := 4) (k0_pay2 x w) shapeCasts_S512x512_S2x256x4x128 shapeCasts_S2x256x4x128_S2x1x256x4x128 y (row2 (y 0) (y 2)) ⟨128 * (y 3).val + (y 4).val, ?_⟩ rfl rfl).trans ?_
  · have h3 : (y 3).val < 4 := (y 3).isLt; have h4 : (y 4).val < 128 := (y 4).isLt; omega
  · exact left_apply x w _

theorem out7_apply (x : Vec Ideal S512x4096 .bf16) (w : Vec Ideal S4096x1024 .bf16) (y : S2x1x256x4x128.Idx) :
    out7 x w y = blockEntry x w (row2 (y 0) (y 2)) ⟨512 + (128 * (y 3).val + (y 4).val), by have h3 : (y 3).val < 4 := (y 3).isLt; have h4 : (y 4).val < 128 := (y 4).isLt; omega⟩ := by
  refine (congrFun (View.canon_unit_zero (Val := Elt Ideal) (e := .f32) (S := S2x1x256x4x128) corner_zero5 _ (k0_pay7 (View.ld x rX) (View.ld w rW))) y).trans ?_
  rw [ld_x, ld_w]
  refine (heads_apply (H := 4) (k0_pay5 x w) shapeCasts_S512x512_S2x256x4x128 shapeCasts_S2x256x4x128_S2x1x256x4x128 y (row2 (y 0) (y 2)) ⟨128 * (y 3).val + (y 4).val, ?_⟩ rfl rfl).trans ?_
  · have h3 : (y 3).val < 4 := (y 3).isLt; have h4 : (y 4).val < 128 := (y 4).isLt; omega
  · exact right_apply x w _

theorem out8_apply (x : Vec Ideal S512x4096 .bf16) (w : Vec Ideal S4096x1024 .bf16) (y : S2x1x256x8x128.Idx) :
    out8 x w y = blockEntry x w (row2 (y 0) (y 2)) ⟨128 * (y 3).val + (y 4).val, by have h3 : (y 3).val < 8 := (y 3).isLt; have h4 : (y 4).val < 128 := (y 4).isLt; omega⟩ := by
  refine (congrFun (View.canon_unit_zero (Val := Elt Ideal) (e := .f32) (S := S2x1x256x8x128) corner_zero5 _ (k0_pay9 (View.ld x rX) (View.ld w rW))) y).trans ?_
  rw [ld_x, ld_w]
  refine (heads_apply (H := 8) (k0_pay1 x w) shapeCasts_S512x1024_S2x256x8x128 shapeCasts_S2x256x8x128_S2x1x256x8x128 y (row2 (y 0) (y 2)) ⟨128 * (y 3).val + (y 4).val, ?_⟩ rfl rfl).trans ?_
  · have h3 : (y 3).val < 8 := (y 3).isLt; have h4 : (y 4).val < 128 := (y 4).isLt; omega
  · exact product_block x w _ _

theorem out9_apply (x : Vec Ideal S512x4096 .bf16) (w : Vec Ideal S4096x1024 .bf16) (y : S2x1x256x8x128.Idx) :
    out9 x w y = blockEntry x w (row2 (y 0) (y 2)) ⟨128 * (y 3).val + (y 4).val, by have h3 : (y 3).val < 8 := (y 3).isLt; have h4 : (y 4).val < 128 := (y 4).isLt; omega⟩ :=
  out8_apply x w y

/-! ## Where the blocks lie -/

theorem points_in : ∀ t : Fin grid0.N, win0_0.index t 0 = t.val % 16 ∧ win0_0.index t 1 = 0 ∧ win0_1.index t 0 = 0
    ∧ win0_1.index t 1 = (if t.val < 16 then 2 else t.val / 16 + 4) := by decide +kernel

theorem points_a : ∀ t : Fin grid0.N, win0_2.index t 0 = min t.val 15 ∧ win0_2.index t 1 = 0 ∧ win0_3.index t 0 = min t.val 15 ∧ win0_3.index t 1 = 0 := by
  decide +kernel

theorem points_a5 : ∀ t : Fin grid0.N, (win0_6.index t 0 = min t.val 15 ∧ ∀ a, a ≠ 0 → win0_6.index t a = 0)
    ∧ (win0_7.index t 0 = min t.val 15 ∧ ∀ a, a ≠ 0 → win0_7.index t a = 0) := by decide +kernel

theorem points_b : ∀ t : Fin grid0.N, (16 ≤ t.val → win0_4.index t 0 = min t.val 47 % 16 ∧ win0_4.index t 1 = min t.val 47 / 16 - 1)
    ∧ (48 ≤ t.val → win0_5.index t 0 = t.val % 16 ∧ win0_5.index t 1 = t.val / 16 - 3) := by decide +kernel

theorem points_b5 : ∀ t : Fin grid0.N, (16 ≤ t.val → win0_8.index t 0 = min t.val 47 % 16 ∧ win0_8.index t 3 = min t.val 47 / 16 - 1)
    ∧ (48 ≤ t.val → win0_9.index t 0 = t.val % 16 ∧ win0_9.index t 3 = t.val / 16 - 3)
    ∧ (∀ a, a ≠ 0 → a ≠ 3 → win0_8.index t a = 0 ∧ win0_9.index t a = 0) := by decide +kernel

variable (m : (ℓ : Loc nD τ sig) → Buf (Elt Ideal) ℓ) (c : Dev nD)

/-- A block's element is the whole's, at the row and the column the block's place makes of it. -/
theorem entry_block (t : Fin grid0.N) (r : Fin 512) (n : Fin 1024) (R : Fin 8192) (C : Fin 13312)
    (hR : t.val % 16 * 512 + r.val = R.val) (hC : (if t.val < 16 then 2 else t.val / 16 + 4) * 1024 + n.val = C.val) :
    blockEntry (iblk m c 0 t) (iblk m c 1 t) r n = entry (m ((c : Thread nD τ).loc main_arg0)) (m ((c : Thread nD τ).loc main_arg1)) R C := by
  obtain ⟨p00, p01, p10, p11⟩ := points_in t
  unfold blockEntry entry
  refine Finset.sum_congr rfl fun k _ => congrArg₂ (· * ·) ?_ ?_
  · refine (congrArg (V m c (Pipeline.arrRef spec0 0)) (mem_block win0_0 t (ix2 r k) (ix2 R k) rfl fun a => ?_)).trans (congrFun (V_main_arg0 m c) _)
    fin_cases a
    · show win0_0.index t 0 * 512 + r.val = R.val; omega
    · show win0_0.index t 1 * 4096 + k.val = k.val; omega
  · refine (congrArg (V m c (Pipeline.arrRef spec0 1)) (mem_block win0_1 t (ix2 k n) (ix2 k C) rfl fun a => ?_)).trans (congrFun (V_main_arg1 m c) _)
    fin_cases a
    · show win0_1.index t 0 * 4096 + k.val = k.val; omega
    · show win0_1.index t 1 * 1024 + n.val = C.val; rw [p11]; exact hC

end KeysValues

end
-- ==== Proof.KeysArrays.lean ====
/-
  The keys and values of the prompts, in exact arithmetic: the kernel's eight results are the arrays their blocks make up, and the
  reference writes the same.
-/
module

public import proofs.«01_k».proof.Proof.KeysValues
public import proofs.«01_k».proof.Proof.Gen.KvRefIdeal.Run
public import proofs.«01_k».proof.Proof.Gen.KvRefIdeal.Read

@[expose] public section

set_option maxRecDepth 16384

noncomputable section

namespace KeysValues

open Idealize.ShloMosaic Idealize.ShloMosaic.ValueIdx Idealize.ShloMosaic.TcCoe Idealize.SL.Sem Idealize.ShloMosaic.Pipeline
open Cert Attention

section Kernel

open Cert.KvIdeal Cert.KvIdeal.Gen Cert.KvIdeal.Keys

variable (m : (ℓ : Loc nD τ sig) → Buf (Elt Ideal) ℓ) (c : Dev nD)

theorem flat_block {N : ℕ} (o : ℕ) (h : o + N ≤ 13312) (s : Fin grid0.N) (r : Fin 512) (n : Fin 1024) (i : (⟨2, ![8192, N]⟩ : Shape).Idx)
    (hR : s.val % 16 * 512 + r.val = (i 0).val) (hC : (if s.val < 16 then 2 else s.val / 16 + 4) * 1024 + n.val = o + (i 1).val) :
    blockEntry (iblk m c 0 s) (iblk m c 1 s) r n = flat o h (m ((c : Thread nD τ).loc main_arg0)) (m ((c : Thread nD τ).loc main_arg1)) i :=
  entry_block m c s r n _ _ hR hC

theorem headed_block {H : ℕ} (o : ℕ) (h : o + H * 128 ≤ 13312) (s : Fin grid0.N) (r : Fin 512) (n : Fin 1024) (i : (⟨5, ![32, 1, 256, H, 128]⟩ : Shape).Idx)
    (hR : s.val % 16 * 512 + r.val = 256 * (i 0).val + (i 2).val)
    (hC : (if s.val < 16 then 2 else s.val / 16 + 4) * 1024 + n.val = o + (128 * (i 3).val + (i 4).val)) :
    blockEntry (iblk m c 0 s) (iblk m c 1 s) r n = headed o h (m ((c : Thread nD τ).loc main_arg0)) (m ((c : Thread nD τ).loc main_arg1)) i :=
  entry_block m c s r n _ _ hR hC

theorem ka_eq : (dats m 0 c).arrAt 2 cfg0.N = flat (N := 512) 2048 (by omega) (m ((c : Thread nD τ).loc main_arg0)) (m ((c : Thread nD τ).loc main_arg1)) := by
  refine (dats m 0 c).arrAt_eq_of_cover 2 _ (fun t hf => ?_) (Window.Covers.cover (w := win0_2) (by decide +kernel) (Memref.isWhole_whole _))
  show (cfg0.win 2).cut (grid0.coords t) ((dats m 0 c).after 2 t) = _
  rw [after2]
  funext y
  have e0 : ((win0_2.rect t).emb y 0).val = win0_2.index t 0 * 512 + (y 0).val := win0_2.rect_emb_val t y 0 rfl
  have e1 : ((win0_2.rect t).emb y 1).val = win0_2.index t 1 * 512 + (y 1).val := win0_2.rect_emb_val t y 1 rfl
  obtain ⟨p0, p1, -, -⟩ := points_a t
  refine (out2_apply _ _ y).trans (flat_block m c 2048 (by omega) _ _ _ ((win0_2.rect t).emb y) ?_ ?_)
  · rw [e0, p0]; show min t.val 15 % 16 * 512 + (y 0).val = _; omega
  · rw [e1, p1]; show (if min t.val 15 < 16 then 2 else min t.val 15 / 16 + 4) * 1024 + (0 + (y 1).val) = _; rw [if_pos (by omega)]

theorem va_eq : (dats m 0 c).arrAt 3 cfg0.N = flat (N := 512) 2560 (by omega) (m ((c : Thread nD τ).loc main_arg0)) (m ((c : Thread nD τ).loc main_arg1)) := by
  refine (dats m 0 c).arrAt_eq_of_cover 3 _ (fun t hf => ?_) (Window.Covers.cover (w := win0_3) (by decide +kernel) (Memref.isWhole_whole _))
  show (cfg0.win 3).cut (grid0.coords t) ((dats m 0 c).after 3 t) = _
  rw [after3]
  funext y
  have e0 : ((win0_3.rect t).emb y 0).val = win0_3.index t 0 * 512 + (y 0).val := win0_3.rect_emb_val t y 0 rfl
  have e1 : ((win0_3.rect t).emb y 1).val = win0_3.index t 1 * 512 + (y 1).val := win0_3.rect_emb_val t y 1 rfl
  obtain ⟨-, -, p0, p1⟩ := points_a t
  refine (out3_apply _ _ y).trans (flat_block m c 2560 (by omega) _ _ _ ((win0_3.rect t).emb y) ?_ ?_)
  · rw [e0, p0]; show min t.val 15 % 16 * 512 + (y 0).val = _; omega
  · rw [e1, p1]; show (if min t.val 15 < 16 then 2 else min t.val 15 / 16 + 4) * 1024 + (512 + (y 1).val) = _; rw [if_pos (by omega)]; omega

theorem kb_eq : (dats m 0 c).arrAt 4 cfg0.N = flat (N := 2048) 5120 (by omega) (m ((c : Thread nD τ).loc main_arg0)) (m ((c : Thread nD τ).loc main_arg1)) := by
  refine (dats m 0 c).arrAt_eq_of_cover 4 _ (fun t hf => ?_) (Window.Covers.cover (w := win0_4) (by decide +kernel) (Memref.isWhole_whole _))
  show (cfg0.win 4).cut (grid0.coords t) ((dats m 0 c).after 4 t) = _
  rw [after4]
  funext y
  have e0 : ((win0_4.rect t).emb y 0).val = win0_4.index t 0 * 512 + (y 0).val := win0_4.rect_emb_val t y 0 rfl
  have e1 : ((win0_4.rect t).emb y 1).val = win0_4.index t 1 * 1024 + (y 1).val := win0_4.rect_emb_val t y 1 rfl
  have ht := (flush4 t hf).1
  obtain ⟨p0, p1⟩ := (points_b t).1 ht
  refine (out4_apply _ _ y).trans (flat_block m c 5120 (by omega) _ _ _ ((win0_4.rect t).emb y) ?_ ?_)
  · rw [e0, p0]; show min t.val 47 % 16 * 512 + (y 0).val = _; omega
  · rw [e1, p1]; show (if min t.val 47 < 16 then 2 else min t.val 47 / 16 + 4) * 1024 + (y 1).val = _; rw [if_neg (by omega)]; omega

theorem vb_eq : (dats m 0 c).arrAt 5 cfg0.N = flat (N := 2048) 7168 (by omega) (m ((c : Thread nD τ).loc main_arg0)) (m ((c : Thread nD τ).loc main_arg1)) := by
  refine (dats m 0 c).arrAt_eq_of_cover 5 _ (fun t hf => ?_) (Window.Covers.cover (w := win0_5) (by decide +kernel) (Memref.isWhole_whole _))
  show (cfg0.win 5).cut (grid0.coords t) ((dats m 0 c).after 5 t) = _
  rw [after5]
  funext y
  have e0 : ((win0_5.rect t).emb y 0).val = win0_5.index t 0 * 512 + (y 0).val := win0_5.rect_emb_val t y 0 rfl
  have e1 : ((win0_5.rect t).emb y 1).val = win0_5.index t 1 * 1024 + (y 1).val := win0_5.rect_emb_val t y 1 rfl
  have ht := flush5 t hf
  obtain ⟨p0, p1⟩ := (points_b t).2 ht
  refine (out5_apply _ _ y).trans (flat_block m c 7168 (by omega) _ _ _ ((win0_5.rect t).emb y) ?_ ?_)
  · rw [e0, p0]
  · rw [e1, p1]; show (if t.val < 16 then 2 else t.val / 16 + 4) * 1024 + (y 1).val = _; rw [if_neg (by omega)]; omega

theorem ka_heads_eq : (dats m 0 c).arrAt 6 cfg0.N = headed (H := 4) 2048 (by omega) (m ((c : Thread nD τ).loc main_arg0)) (m ((c : Thread nD τ).loc main_arg1)) := by
  refine (dats m 0 c).arrAt_eq_of_cover 6 _ (fun t hf => ?_) (Window.Covers.cover (w := win0_6) (by decide +kernel) (Memref.isWhole_whole _))
  show (cfg0.win 6).cut (grid0.coords t) ((dats m 0 c).after 6 t) = _
  rw [after6]
  funext y
  have e0 : ((win0_6.rect t).emb y 0).val = win0_6.index t 0 * 2 + (y 0).val := win0_6.rect_emb_val t y 0 rfl
  have e2 : ((win0_6.rect t).emb y 2).val = win0_6.index t 2 * 256 + (y 2).val := win0_6.rect_emb_val t y 2 rfl
  have e3 : ((win0_6.rect t).emb y 3).val = win0_6.index t 3 * 4 + (y 3).val := win0_6.rect_emb_val t y 3 rfl
  have e4 : ((win0_6.rect t).emb y 4).val = win0_6.index t 4 * 128 + (y 4).val := win0_6.rect_emb_val t y 4 rfl
  obtain ⟨⟨p0, p⟩, -⟩ := points_a5 t
  refine (out6_apply _ _ y).trans (headed_block m c 2048 (by omega) _ _ _ ((win0_6.rect t).emb y) ?_ ?_)
  · rw [e0, e2, p0, p 2 (by decide)]; show min t.val 15 % 16 * 512 + (256 * (y 0).val + (y 2).val) = _; omega
  · rw [e3, e4, p 3 (by decide), p 4 (by decide)]; show (if min t.val 15 < 16 then 2 else min t.val 15 / 16 + 4) * 1024 + (0 + (128 * (y 3).val + (y 4).val)) = _; rw [if_pos (by omega)]; omega

theorem va_heads_eq : (dats m 0 c).arrAt 7 cfg0.N = headed (H := 4) 2560 (by omega) (m ((c : Thread nD τ).loc main_arg0)) (m ((c : Thread nD τ).loc main_arg1)) := by
  refine (dats m 0 c).arrAt_eq_of_cover 7 _ (fun t hf => ?_) (Window.Covers.cover (w := win0_7) (by decide +kernel) (Memref.isWhole_whole _))
  show (cfg0.win 7).cut (grid0.coords t) ((dats m 0 c).after 7 t) = _
  rw [after7]
  funext y
  have e0 : ((win0_7.rect t).emb y 0).val = win0_7.index t 0 * 2 + (y 0).val := win0_7.rect_emb_val t y 0 rfl
  have e2 : ((win0_7.rect t).emb y 2).val = win0_7.index t 2 * 256 + (y 2).val := win0_7.rect_emb_val t y 2 rfl
  have e3 : ((win0_7.rect t).emb y 3).val = win0_7.index t 3 * 4 + (y 3).val := win0_7.rect_emb_val t y 3 rfl
  have e4 : ((win0_7.rect t).emb y 4).val = win0_7.index t 4 * 128 + (y 4).val := win0_7.rect_emb_val t y 4 rfl
  obtain ⟨-, ⟨p0, p⟩⟩ := points_a5 t
  refine (out7_apply _ _ y).trans (headed_block m c 2560 (by omega) _ _ _ ((win0_7.rect t).emb y) ?_ ?_)
  · rw [e0, e2, p0, p 2 (by decide)]; show min t.val 15 % 16 * 512 + (256 * (y 0).val + (y 2).val) = _; omega
  · rw [e3, e4, p 3 (by decide), p 4 (by decide)]; show (if min t.val 15 < 16 then 2 else min t.val 15 / 16 + 4) * 1024 + (512 + (128 * (y 3).val + (y 4).val)) = _; rw [if_pos (by omega)]; omega

theorem kb_heads_eq : (dats m 0 c).arrAt 8 cfg0.N = headed (H := 16) 5120 (by omega) (m ((c : Thread nD τ).loc main_arg0)) (m ((c : Thread nD τ).loc main_arg1)) := by
  refine (dats m 0 c).arrAt_eq_of_cover 8 _ (fun t hf => ?_) (Window.Covers.cover (w := win0_8) (by decide +kernel) (Memref.isWhole_whole _))
  show (cfg0.win 8).cut (grid0.coords t) ((dats m 0 c).after 8 t) = _
  rw [after8]
  funext y
  have e0 : ((win0_8.rect t).emb y 0).val = win0_8.index t 0 * 2 + (y 0).val := win0_8.rect_emb_val t y 0 rfl
  have e2 : ((win0_8.rect t).emb y 2).val = win0_8.index t 2 * 256 + (y 2).val := win0_8.rect_emb_val t y 2 rfl
  have e3 : ((win0_8.rect t).emb y 3).val = win0_8.index t 3 * 8 + (y 3).val := win0_8.rect_emb_val t y 3 rfl
  have e4 : ((win0_8.rect t).emb y 4).val = win0_8.index t 4 * 128 + (y 4).val := win0_8.rect_emb_val t y 4 rfl
  have ht := (flush8 t hf).1
  obtain ⟨p0, p3⟩ := (points_b5 t).1 ht
  have p2 := ((points_b5 t).2.2 2 (by decide) (by decide)).1
  have p4 := ((points_b5 t).2.2 4 (by decide) (by decide)).1
  refine (out8_apply _ _ y).trans (headed_block m c 5120 (by omega) _ _ _ ((win0_8.rect t).emb y) ?_ ?_)
  · rw [e0, e2, p0, p2]; show min t.val 47 % 16 * 512 + (256 * (y 0).val + (y 2).val) = _; omega
  · rw [e3, e4, p3, p4]; show (if min t.val 47 < 16 then 2 else min t.val 47 / 16 + 4) * 1024 + (128 * (y 3).val + (y 4).val) = _; rw [if_neg (by omega)]; omega

theorem vb_heads_eq : (dats m 0 c).arrAt 9 cfg0.N = headed (H := 16) 7168 (by omega) (m ((c : Thread nD τ).loc main_arg0)) (m ((c : Thread nD τ).loc main_arg1)) := by
  refine (dats m 0 c).arrAt_eq_of_cover 9 _ (fun t hf => ?_) (Window.Covers.cover (w := win0_9) (by decide +kernel) (Memref.isWhole_whole _))
  show (cfg0.win 9).cut (grid0.coords t) ((dats m 0 c).after 9 t) = _
  rw [after9]
  funext y
  have e0 : ((win0_9.rect t).emb y 0).val = win0_9.index t 0 * 2 + (y 0).val := win0_9.rect_emb_val t y 0 rfl
  have e2 : ((win0_9.rect t).emb y 2).val = win0_9.index t 2 * 256 + (y 2).val := win0_9.rect_emb_val t y 2 rfl
  have e3 : ((win0_9.rect t).emb y 3).val = win0_9.index t 3 * 8 + (y 3).val := win0_9.rect_emb_val t y 3 rfl
  have e4 : ((win0_9.rect t).emb y 4).val = win0_9.index t 4 * 128 + (y 4).val := win0_9.rect_emb_val t y 4 rfl
  have ht := flush9 t hf
  obtain ⟨p0, p3⟩ := (points_b5 t).2.1 ht
  have p2 := ((points_b5 t).2.2 2 (by decide) (by decide)).2
  have p4 := ((points_b5 t).2.2 4 (by decide) (by decide)).2
  refine (out9_apply _ _ y).trans (headed_block m c 7168 (by omega) _ _ _ ((win0_9.rect t).emb y) ?_ ?_)
  · rw [e0, e2, p0, p2]; show t.val % 16 * 512 + (256 * (y 0).val + (y 2).val) = _; omega
  · rw [e3, e4, p3, p4]; show (if t.val < 16 then 2 else t.val / 16 + 4) * 1024 + (128 * (y 3).val + (y 4).val) = _; rw [if_neg (by omega)]; omega

end Kernel

section Reference

open Cert.KvRefIdeal Cert.KvRefIdeal.Gen Cert.KvRefIdeal.Read

variable (x : FVec Ideal S8192x4096 .bf16) (w : FVec Ideal S4096x13312 .bf16)

theorem columns (r : Fin 8192) (n : Fin 13312) (i : S8192x13312.Idx) (h0 : (i 0).val = r.val) (h1 : (i 1).val = n.val) :
    val_main_v2 (F := Ideal) x w i = entry x w r n := by
  refine (val_main_v2_apply x w i).trans (Finset.sum_congr rfl fun k _ => congrArg₂ (· * ·) (congrArg x ?_) (congrArg w ?_))
  · exact funext fun a => by fin_cases a; exacts [Fin.ext h0, rfl]
  · exact funext fun a => by fin_cases a; exacts [rfl, Fin.ext h1]

theorem ka_reference : val_main_v7 (F := Ideal) x w = flat (N := 512) 2048 (by omega) x w :=
  funext fun i => (val_main_v3_apply (F := Ideal) x w i).trans (columns x w _ _ _ rfl rfl)

theorem va_reference : val_main_v8 (F := Ideal) x w = flat (N := 512) 2560 (by omega) x w :=
  funext fun i => (val_main_v4_apply (F := Ideal) x w i).trans (columns x w _ _ _ rfl rfl)

theorem kb_reference : val_main_v9 (F := Ideal) x w = flat (N := 2048) 5120 (by omega) x w :=
  funext fun i => (val_main_v5_apply (F := Ideal) x w i).trans (columns x w _ _ _ rfl rfl)

theorem vb_reference : val_main_v10 (F := Ideal) x w = flat (N := 2048) 7168 (by omega) x w :=
  funext fun i => (val_main_v6_apply (F := Ideal) x w i).trans (columns x w _ _ _ rfl rfl)

/-- The row and the column a position of one array has in the other. -/
theorem place4 {a b c d e : ℕ} (h1 : b < 1) (h2 : c < 256) (h3 : d < 4) (h4 : e < 128) :
    ((((a * 1 + b) * 256 + c) * 4 + d) * 128 + e) / 512 = 256 * a + c ∧ ((((a * 1 + b) * 256 + c) * 4 + d) * 128 + e) % 512 = 128 * d + e := by omega

theorem place16 {a b c d e : ℕ} (h1 : b < 1) (h2 : c < 256) (h3 : d < 16) (h4 : e < 128) :
    ((((a * 1 + b) * 256 + c) * 16 + d) * 128 + e) / 2048 = 256 * a + c ∧ ((((a * 1 + b) * 256 + c) * 16 + d) * 128 + e) % 2048 = 128 * d + e := by omega

theorem ka_heads_reference : val_main_v11 (F := Ideal) x w = headed (H := 4) 2048 (by omega) x w :=
  funext fun i => (val_main_v11_apply (F := Ideal) x w i).trans ((val_main_v3_apply (F := Ideal) x w _).trans
    (columns x w _ _ _ (place4 (i 1).isLt (i 2).isLt (i 3).isLt (i 4).isLt).1 (congrArg (2048 + ·) (place4 (i 1).isLt (i 2).isLt (i 3).isLt (i 4).isLt).2)))

theorem va_heads_reference : val_main_v12 (F := Ideal) x w = headed (H := 4) 2560 (by omega) x w :=
  funext fun i => (val_main_v12_apply (F := Ideal) x w i).trans ((val_main_v4_apply (F := Ideal) x w _).trans
    (columns x w _ _ _ (place4 (i 1).isLt (i 2).isLt (i 3).isLt (i 4).isLt).1 (congrArg (2560 + ·) (place4 (i 1).isLt (i 2).isLt (i 3).isLt (i 4).isLt).2)))

theorem kb_heads_reference : val_main_v13 (F := Ideal) x w = headed (H := 16) 5120 (by omega) x w :=
  funext fun i => (val_main_v13_apply (F := Ideal) x w i).trans ((val_main_v5_apply (F := Ideal) x w _).trans
    (columns x w _ _ _ (place16 (i 1).isLt (i 2).isLt (i 3).isLt (i 4).isLt).1 (congrArg (5120 + ·) (place16 (i 1).isLt (i 2).isLt (i 3).isLt (i 4).isLt).2)))

theorem vb_heads_reference : val_main_v14 (F := Ideal) x w = headed (H := 16) 7168 (by omega) x w :=
  funext fun i => (val_main_v14_apply (F := Ideal) x w i).trans ((val_main_v6_apply (F := Ideal) x w _).trans
    (columns x w _ _ _ (place16 (i 1).isLt (i 2).isLt (i 3).isLt (i 4).isLt).1 (congrArg (7168 + ·) (place16 (i 1).isLt (i 2).isLt (i 3).isLt (i 4).isLt).2)))

end Reference

/-- Every run of the kernel ends with the eight arrays named above in its results, and its arguments as they were. -/
theorem kernel_run (m : (ℓ : Loc KvIdeal.nD KvIdeal.τ KvIdeal.sig) → Buf (Elt Ideal) ℓ) (ρ : Dev KvIdeal.nD → PrngReg) :
    θ_run (KvIdeal.defs (F := Ideal)) (onTc (τ := KvIdeal.τ) (KvIdeal.main (F := Ideal))) ⟨m, fun _ => 0, ρ⟩ (fun r => ∀ c : Dev KvIdeal.nD,
      r.2.mem ((c.tc : Thread KvIdeal.nD KvIdeal.τ).loc KvIdeal.main_v0_0) = flat (N := 512) 2048 (by omega) (m ((c.tc : Thread KvIdeal.nD KvIdeal.τ).loc KvIdeal.main_arg0)) (m ((c.tc : Thread KvIdeal.nD KvIdeal.τ).loc KvIdeal.main_arg1))
      ∧ r.2.mem ((c.tc : Thread KvIdeal.nD KvIdeal.τ).loc KvIdeal.main_v0_1) = flat (N := 512) 2560 (by omega) (m ((c.tc : Thread KvIdeal.nD KvIdeal.τ).loc KvIdeal.main_arg0)) (m ((c.tc : Thread KvIdeal.nD KvIdeal.τ).loc KvIdeal.main_arg1))
      ∧ r.2.mem ((c.tc : Thread KvIdeal.nD KvIdeal.τ).loc KvIdeal.main_v0_2) = flat (N := 2048) 5120 (by omega) (m ((c.tc : Thread KvIdeal.nD KvIdeal.τ).loc KvIdeal.main_arg0)) (m ((c.tc : Thread KvIdeal.nD KvIdeal.τ).loc KvIdeal.main_arg1))
      ∧ r.2.mem ((c.tc : Thread KvIdeal.nD KvIdeal.τ).loc KvIdeal.main_v0_3) = flat (N := 2048) 7168 (by omega) (m ((c.tc : Thread KvIdeal.nD KvIdeal.τ).loc KvIdeal.main_arg0)) (m ((c.tc : Thread KvIdeal.nD KvIdeal.τ).loc KvIdeal.main_arg1))
      ∧ r.2.mem ((c.tc : Thread KvIdeal.nD KvIdeal.τ).loc KvIdeal.main_v0_4) = headed (H := 4) 2048 (by omega) (m ((c.tc : Thread KvIdeal.nD KvIdeal.τ).loc KvIdeal.main_arg0)) (m ((c.tc : Thread KvIdeal.nD KvIdeal.τ).loc KvIdeal.main_arg1))
      ∧ r.2.mem ((c.tc : Thread KvIdeal.nD KvIdeal.τ).loc KvIdeal.main_v0_5) = headed (H := 4) 2560 (by omega) (m ((c.tc : Thread KvIdeal.nD KvIdeal.τ).loc KvIdeal.main_arg0)) (m ((c.tc : Thread KvIdeal.nD KvIdeal.τ).loc KvIdeal.main_arg1))
      ∧ r.2.mem ((c.tc : Thread KvIdeal.nD KvIdeal.τ).loc KvIdeal.main_v0_6) = headed (H := 16) 5120 (by omega) (m ((c.tc : Thread KvIdeal.nD KvIdeal.τ).loc KvIdeal.main_arg0)) (m ((c.tc : Thread KvIdeal.nD KvIdeal.τ).loc KvIdeal.main_arg1))
      ∧ r.2.mem ((c.tc : Thread KvIdeal.nD KvIdeal.τ).loc KvIdeal.main_v0_7) = headed (H := 16) 7168 (by omega) (m ((c.tc : Thread KvIdeal.nD KvIdeal.τ).loc KvIdeal.main_arg0)) (m ((c.tc : Thread KvIdeal.nD KvIdeal.τ).loc KvIdeal.main_arg1))
      ∧ r.2.mem ((c.tc : Thread KvIdeal.nD KvIdeal.τ).loc KvIdeal.main_arg0) = m ((c.tc : Thread KvIdeal.nD KvIdeal.τ).loc KvIdeal.main_arg0)
      ∧ r.2.mem ((c.tc : Thread KvIdeal.nD KvIdeal.τ).loc KvIdeal.main_arg1) = m ((c.tc : Thread KvIdeal.nD KvIdeal.τ).loc KvIdeal.main_arg1)) :=
  θ_run_mono (θ_run_and (KvIdeal.Keys.runs m ρ) (KvIdeal.Keys.frame m ρ)) fun _ h c =>
    ⟨((h.1.1 c).1 2).trans (ka_eq m c),
      ((h.1.1 c).1 3).trans (va_eq m c),
      ((h.1.1 c).1 4).trans (kb_eq m c),
      ((h.1.1 c).1 5).trans (vb_eq m c),
      ((h.1.1 c).1 6).trans (ka_heads_eq m c),
      ((h.1.1 c).1 7).trans (va_heads_eq m c),
      ((h.1.1 c).1 8).trans (kb_heads_eq m c),
      ((h.1.1 c).1 9).trans (vb_heads_eq m c),
      (h.2.1 c).1, (h.2.1 c).2⟩

/-- The kernel and its reference end with equal results. -/
theorem equation : algebraic_KvIdeal_KvRefIdeal := by
  intro m ρ m' ρ' _ hagree
  refine ⟨_, _, _, _, _, _, _, _, kernel_run m ρ, θ_run_mono (KvRefIdeal.Value.run m' ρ') fun r h c => ?_⟩
  obtain ⟨a0, a1⟩ := hagree c
  obtain ⟨h0, h1, h2, h3, h4, h5, h6, h7, h8⟩ := h c
  rw [a0, a1] at h0 h1 h2 h3 h4 h5 h6 h7
  exact ⟨h0.trans ((KvRefIdeal.Read.val_main_v7_eq _ _).trans (ka_reference _ _)),
    h1.trans ((KvRefIdeal.Read.val_main_v8_eq _ _).trans (va_reference _ _)),
    h2.trans ((KvRefIdeal.Read.val_main_v9_eq _ _).trans (kb_reference _ _)),
    h3.trans ((KvRefIdeal.Read.val_main_v10_eq _ _).trans (vb_reference _ _)),
    h4.trans ((KvRefIdeal.Read.val_main_v11_eq _ _).trans (ka_heads_reference _ _)),
    h5.trans ((KvRefIdeal.Read.val_main_v12_eq _ _).trans (va_heads_reference _ _)),
    h6.trans ((KvRefIdeal.Read.val_main_v13_eq _ _).trans (kb_heads_reference _ _)),
    h7.trans ((KvRefIdeal.Read.val_main_v14_eq _ _).trans (vb_heads_reference _ _)), h8⟩

end KeysValues

end
-- ==== Proof.NormIdealFrame.lean ====
/-
  The pooled call's output projection with the last norm: the pipelined call runs. The four points of a row block fill the columns of
  one output block from the left; the last of them then divides the whole rows in place before they are written back.
-/
module

public import proofs.«01_k».proof.Proof.Gen.NormIdeal.Frame
public import proofs.«01_k».proof.Proof.Gen.NormIdeal.Skeleton
public import Idealize.ShloMosaic.Lib.Claim
public import Idealize.ShloMosaic.Lib.VecWindow
public import Idealize.ShloMosaic.Lib.Pipeline.ArrRel

@[expose] public section

set_option maxRecDepth 16384

noncomputable section

namespace Cert.NormIdeal.Last

open Cert.NormIdeal Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## What a point leaves in the output's block -/

abbrev rX : Rect S512x1024 := Rect.unit (s := S512x1024) ![0, 0] S512x1024.size inb_S512x1024_S512x1024_0_0
abbrev rG : Rect S1x1x1024 := Rect.unit (s := S1x1x1024) ![0, 0, 0] S1x1x1024.size inb_S1x1x1024_S1x1x1024_0_0_0
abbrev rY : Rect S512x2048 := Rect.unit (s := S512x2048) ![0, 0] S512x2048.size inb_S512x2048_S512x2048_0_0
abbrev rT : Rect S4096x1024 := Rect.unit (s := S4096x1024) ![0, 0] S2048x1024.size inb_S4096x1024_S2048x1024_0_0
abbrev rB : Rect S4096x1024 := Rect.unit (s := S4096x1024) ![2048, 0] S2048x1024.size inb_S4096x1024_S2048x1024_2048_0
abbrev r0 : Rect S512x4096 := Rect.unit (s := S512x4096) ![0, 0] ![512, 1024] inb_S512x4096_S512x1024_0_0
abbrev r1 : Rect S512x4096 := Rect.unit (s := S512x4096) ![0, 1024] ![512, 1024] inb_S512x4096_S512x1024_0_1024
abbrev r2 : Rect S512x4096 := Rect.unit (s := S512x4096) ![0, 2048] ![512, 1024] inb_S512x4096_S512x1024_0_2048
abbrev r3 : Rect S512x4096 := Rect.unit (s := S512x4096) ![0, 3072] ![512, 1024] inb_S512x4096_S512x1024_0_3072

/-- The tile that a point adds to the rows: residual plus gated product. -/
def tile (x0 x1 : Vec F S512x2048 .bf16) (x2 : Vec F S4096x1024 .bf16) (x3 : Vec F S512x1024 .f32) (x4 : Vec F S1x1x1024 .f32) : Vec F S512x1024 .f32 :=
  k0_pay3 (View.ld x3 rX) (View.ld x4 rG) (View.ld x0 rY) (View.ld x2 rT) (View.ld x1 rY) (View.ld x2 rB)

abbrev c0 : Rect S1x4096 := Rect.unit (s := S1x4096) ![0, 0] S1x1024.size inb_S1x4096_S1x1024_0_0
abbrev c1 : Rect S1x4096 := Rect.unit (s := S1x4096) ![0, 1024] S1x1024.size inb_S1x4096_S1x1024_0_1024
abbrev c2 : Rect S1x4096 := Rect.unit (s := S1x4096) ![0, 2048] S1x1024.size inb_S1x4096_S1x1024_0_2048
abbrev c3 : Rect S1x4096 := Rect.unit (s := S1x4096) ![0, 3072] S1x1024.size inb_S1x4096_S1x1024_0_3072

/-- The rows with a tile put over the columns from `n`. -/
abbrev put (n : ℕ) (y : Vec F S512x4096 .f32) (p : Vec F S512x1024 .f32) : Vec F S512x4096 .f32 :=
  VecWindow.put (s := S512x4096) y ![0, n] S512x1024.size p

/-- The rows after the last point of a row block: every tile divided by the root of the row's mean square and scaled by the gain. -/
def finished (y : Vec F S512x4096 .f32) (p : Vec F S512x1024 .f32) (g : Vec F S1x4096 .f32) : Vec F S512x4096 .f32 :=
  let r := k0_pay1 (View.ld y r0) (View.ld y r1) (View.ld y r2) p
  put 3072 (put 2048 (put 1024 (put 0 (put 3072 y p)
    (k0_pay2 (View.ld y r0) (View.ld y r1) (View.ld y r2) p (View.ld y r0) (View.ld g c0)))
    (k0_pay4 r (View.ld y r1) (View.ld g c1))) (k0_pay5 r (View.ld y r2) (View.ld g c2))) (k0_pay6 r p (View.ld g c3))

section Reads

variable {sig' : RefSig} {κ : Kind} {sp : Space} {s : Shape} {e : EltTy} {Val : EltTy → Type} [∀ e, Nonempty (Val e)]

/-- A load of the columns just stored reads what was stored. -/
theorem readCov_same (v : View sig' κ sp s e) {off size : Fin s.rank → ℕ} (inb inb' : ∀ a, off a + size a ≤ s.size a)
    (w : (Rect.unit off size inb).shape.Idx → Val e) (L : List (View.Piece Val s e)) :
    v.readCov (⟨Rect.unit off size inb, w⟩ :: L) (Rect.unit off size inb').toLoadRect = w := by
  refine (View.readAt_unit v (v.writes Val _ (⟨Rect.unit off size inb, w⟩ :: L)) inb' rfl inb).trans ?_
  rw [View.read_writes_cons_put v _ inb w L rfl]
  exact VecWindow.window_put_same _ _ _ inb w

variable (v : View sig' κ sp S512x4096 e) {n n' : ℕ} (inb : ∀ a, ![0, n] a + S512x1024.size a ≤ S512x4096.size a)
  (inb' : ∀ a, ![0, n'] a + S512x1024.size a ≤ S512x4096.size a) (w : (Rect.unit (s := S512x4096) ![0, n] S512x1024.size inb).shape.Idx → Val e)
  (L : List (View.Piece Val S512x4096 e))

/-- A load of other columns than those just stored reads what was there before. -/
theorem readCov_skip (h : n' + 1024 ≤ n ∨ n + 1024 ≤ n') :
    v.readCov (⟨Rect.unit (s := S512x4096) ![0, n] S512x1024.size inb, w⟩ :: L) (Rect.unit (s := S512x4096) ![0, n'] S512x1024.size inb').toLoadRect
      = v.readCov L (Rect.unit (s := S512x4096) ![0, n'] S512x1024.size inb').toLoadRect := by
  refine (View.readAt_unit v (v.writes Val _ (⟨Rect.unit (s := S512x4096) ![0, n] S512x1024.size inb, w⟩ :: L)) inb' rfl inb').trans ?_
  rw [View.read_writes_cons_put v _ inb w L rfl]
  exact VecWindow.window_put_of_disjoint _ _ _ _ _ inb' _ 1 h

/-- The rows after one store of a tile. -/
theorem read_put (f : v.ty.Contents Val) :
    v.read Val (v.writes Val f [⟨Rect.unit (s := S512x4096) ![0, n] S512x1024.size inb, w⟩]) = VecWindow.put (s := S512x4096) (v.read Val f) ![0, n] S512x1024.size w :=
  View.read_writes_cons_put v f inb w [] rfl

/-- The last tile's columns, just stored, hold it, -/
theorem loaded_first (p : r3.shape.Idx → Val e) : v.readCov [⟨r3, p⟩] r3.toLoadRect = p := readCov_same v _ _ p []

/-- and hold it still after the other columns are stored. -/
theorem loaded_last (q0 : r0.shape.Idx → Val e) (q1 : r1.shape.Idx → Val e) (q2 : r2.shape.Idx → Val e) (p : r3.shape.Idx → Val e) :
    v.readCov [⟨r2, q2⟩, ⟨r1, q1⟩, ⟨r0, q0⟩, ⟨r3, p⟩] r3.toLoadRect = p :=
  (readCov_skip v _ inb_S512x4096_S512x1024_0_3072 q2 _ (.inr (by decide))).trans ((readCov_skip v _ inb_S512x4096_S512x1024_0_3072 q1 _ (.inr (by decide))).trans
    ((readCov_skip v _ inb_S512x4096_S512x1024_0_3072 q0 _ (.inr (by decide))).trans (loaded_first v p)))

/-- The rows after the stores of a last point. -/
theorem read_last (f : v.ty.Contents Val) (q0 : r0.shape.Idx → Val e) (q1 : r1.shape.Idx → Val e) (q2 : r2.shape.Idx → Val e) (q3 p : r3.shape.Idx → Val e) :
    v.read Val (v.writes Val f [⟨r3, q3⟩, ⟨r2, q2⟩, ⟨r1, q1⟩, ⟨r0, q0⟩, ⟨r3, p⟩])
      = VecWindow.put (s := S512x4096) (VecWindow.put (s := S512x4096) (VecWindow.put (s := S512x4096) (VecWindow.put (s := S512x4096)
          (VecWindow.put (s := S512x4096) (v.read Val f) ![0, 3072] S512x1024.size p) ![0, 0] S512x1024.size q0) ![0, 1024] S512x1024.size q1)
          ![0, 2048] S512x1024.size q2) ![0, 3072] S512x1024.size q3 := by
  rw [View.read_writes_cons_put v f _ q3 _ rfl, View.read_writes_cons_put v f _ q2 _ rfl, View.read_writes_cons_put v f _ q1 _ rfl,
    View.read_writes_cons_put v f _ q0 _ rfl, View.read_writes_cons_put v f _ p _ rfl, View.writes_nil]

end Reads

/-- What a point leaves: its tile in its columns and, at a row block's last point, the finished rows. -/
def stepped (i : grid0.Coords) (y : Vec F S512x4096 .f32) (p : Vec F S512x1024 .f32) (g : Vec F S1x4096 .f32) : Vec F S512x4096 .f32 :=
  if k0_cond1 i = 1#1 then put 0 y p else if k0_cond2 i = 1#1 then put 1024 y p else if k0_cond3 i = 1#1 then put 2048 y p else finished y p g

/-! ## The body, at a point of each of the four kinds -/

set_option maxHeartbeats 600000 in
/-- One run of the body, at a point of any of the four kinds. -/
theorem body_runs (c : Dev nD) (E : Set ℕ) (i : grid0.Coords) (arg2 : Memref sig .tc .vmem S512x2048 .bf16) (harg2 : arg2.IsWhole) (arg3 : Memref sig .tc .vmem S512x2048 .bf16) (harg3 : arg3.IsWhole) (arg4 : Memref sig .tc .vmem S4096x1024 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S1x4096 .f32) (harg7 : arg7.IsWhole) (arg8 : Memref sig .tc .vmem S512x4096 .f32) (harg8 : arg8.IsWhole)
    (hk : (k0_cond1 i = 1#1 ∧ ¬ k0_cond2 i = 1#1 ∧ ¬ k0_cond3 i = 1#1 ∧ ¬ k0_cond4 i = 1#1 ∧ ¬ k0_cond5 i = 1#1)
      ∨ (¬ k0_cond1 i = 1#1 ∧ k0_cond2 i = 1#1 ∧ ¬ k0_cond3 i = 1#1 ∧ ¬ k0_cond4 i = 1#1 ∧ ¬ k0_cond5 i = 1#1)
      ∨ (¬ k0_cond1 i = 1#1 ∧ ¬ k0_cond2 i = 1#1 ∧ k0_cond3 i = 1#1 ∧ ¬ k0_cond4 i = 1#1 ∧ ¬ k0_cond5 i = 1#1)
      ∨ (¬ k0_cond1 i = 1#1 ∧ ¬ k0_cond2 i = 1#1 ∧ ¬ k0_cond3 i = 1#1 ∧ k0_cond4 i = 1#1 ∧ k0_cond5 i = 1#1))
    (x0 x1 : Vec F S512x2048 .bf16) (x2 : Vec F S4096x1024 .bf16) (x3 : Vec F S512x1024 .f32) (x4 : Vec F S1x1x1024 .f32) (x5 : Vec F S1x4096 .f32) (y : Vec F S512x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (stepped i y (tile x0 x1 x2 x3 x4) x5)) -∗ K ⟨⟩))
      ⊢ wp frame (wpE (defs₀ (F := F)) Variants.none c none) E (cc0_proj_residual_norm i arg2 harg2 arg3 harg3 arg4 harg4 arg5 harg5 arg6 harg6 arg7 harg7 arg8 harg8) K := by
  simp only [cc0_proj_residual_norm_eq_skeleton]; unfold cc0_proj_residual_norm_skel
  simp only [k0_part2_eq_skeleton]; unfold k0_part2_skel
  simp only [k0_part1_eq_skeleton]; unfold k0_part1_skel
  unfold owns
  rcases hk with ⟨h1, h2, h3, h4, h5⟩ | ⟨h1, h2, h3, h4, h5⟩ | ⟨h1, h2, h3, h4, h5⟩ | ⟨h1, h2, h3, h4, h5⟩
  all_goals
    simp only [h1, h2, h3, h4, h5, stepped, ↓reduceDIte, ↓reduceIte]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    subst hf0 hf1 hf2 hf3 hf4 hf5 hf6
    sl_exec
    sl_step
    iapply Hk
    isplitl [H0]
    · iexists _; isplitr
      swap; · iexact H0
      ipureintro
      with_reducible rfl
    isplitl [H1]
    · iexists _; isplitr
      swap; · iexact H1
      ipureintro
      with_reducible rfl
    isplitl [H2]
    · iexists _; isplitr
      swap; · iexact H2
      ipureintro
      with_reducible rfl
    isplitl [H3]
    · iexists _; isplitr
      swap; · iexact H3
      ipureintro
      with_reducible rfl
    isplitl [H4]
    · iexists _; isplitr
      swap; · iexact H4
      ipureintro
      with_reducible rfl
    isplitl [H5]
    · iexists _; isplitr
      swap; · iexact H5
      ipureintro
      with_reducible rfl
    iexists _; isplitr
    swap; · iexact H6
    ipureintro
    clear h1 h2 h3 h4 h5
  · refine (read_put _ _ _ _).trans ?_
    simp only [View.readAt_eq_ld]
    unfold tile
    with_reducible rfl
  · refine (read_put _ _ _ _).trans ?_
    simp only [View.readAt_eq_ld]
    unfold tile
    with_reducible rfl
  · refine (read_put _ _ _ _).trans ?_
    simp only [View.readAt_eq_ld]
    unfold tile
    with_reducible rfl
  · delta body_runs.sl.H6_4 body_runs.sl.v83
    delta body_runs.sl.v45
    delta body_runs.sl.H6_1
    delta body_runs.sl.v28 body_runs.sl.v33 body_runs.sl.v39
    simp only [loaded_first, loaded_last, View.readAt_eq_ld]
    refine (read_last _ _ _ _ _ _ _).trans ?_
    unfold finished tile
    with_reducible rfl

/-! ## The proof data -/

variable (m : (ℓ : Loc nD τ sig) → Buf (Elt F) ℓ) (ρ : Dev nD → PrngReg)

/-- What every input's buffer holds after each point: its block. The output's is constrained below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
  Φ _ := Pipeline.ΦA spec0 c
  q := Pipeline.shareOf spec0
  owed _ := 0

/-- The tile of a point, from the blocks it reads. -/
def tileAt (c : Dev nD) (t : Fin cfg0.N) : Vec F S512x1024 .f32 :=
  tile (iblk m c 0 t) (iblk m c 1 t) (iblk m c 2 t) (iblk m c 3 t) (iblk m c 4 t)

/-- The output's block after a point is what was found there with the point's step taken. -/
def rdats (c : Dev nD) : RDat τ (Elt F) Unit ℕ (UR sig nD τ) ℕ cfg0 c :=
  (dats m 0 c).toR.override fun w => match w with
    | ⟨6, _⟩ => some fun t Y X => X = stepped (grid0.coords t) Y (tileAt m c t) (iblk m c 5 t)
    | ⟨0, _⟩ => none
    | ⟨1, _⟩ => none
    | ⟨2, _⟩ => none
    | ⟨3, _⟩ => none
    | ⟨4, _⟩ => none
    | ⟨5, _⟩ => none

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]

theorem found0 (c : Dev nD) (t : Fin cfg0.N) (X) (h : (rdats m c).Finds 0 t X) : X = iblk m c 0 t := by
  obtain ⟨d, hd⟩ := (dats m 0 c).toR_finds 0 t X (((dats m 0 c).toR.override_finds rfl t X).mp h)
  exact hd.trans (before0_0_of m (dats m 0 c) (A_eq m c 0) (after0 m c) t d)
theorem left0 (c : Dev nD) (t : Fin cfg0.N) (Y) : (rdats m c).after 0 t Y (iblk m c 0 t) :=
  (Dat.Leaves.live_iff (dat := dats m 0 c) (w := 0) (.inl rfl)).mpr (after0 m c t).symm
theorem found1 (c : Dev nD) (t : Fin cfg0.N) (X) (h : (rdats m c).Finds 1 t X) : X = iblk m c 1 t := by
  obtain ⟨d, hd⟩ := (dats m 0 c).toR_finds 1 t X (((dats m 0 c).toR.override_finds rfl t X).mp h)
  exact hd.trans (before0_1_of m (dats m 0 c) (A_eq m c 1) (after1 m c) t d)
theorem left1 (c : Dev nD) (t : Fin cfg0.N) (Y) : (rdats m c).after 1 t Y (iblk m c 1 t) :=
  (Dat.Leaves.live_iff (dat := dats m 0 c) (w := 1) (.inl rfl)).mpr (after1 m c t).symm
theorem found2 (c : Dev nD) (t : Fin cfg0.N) (X) (h : (rdats m c).Finds 2 t X) : X = iblk m c 2 t := by
  obtain ⟨d, hd⟩ := (dats m 0 c).toR_finds 2 t X (((dats m 0 c).toR.override_finds rfl t X).mp h)
  exact hd.trans (before0_2_of m (dats m 0 c) (A_eq m c 2) (after2 m c) t d)
theorem left2 (c : Dev nD) (t : Fin cfg0.N) (Y) : (rdats m c).after 2 t Y (iblk m c 2 t) :=
  (Dat.Leaves.live_iff (dat := dats m 0 c) (w := 2) (.inl rfl)).mpr (after2 m c t).symm
theorem found3 (c : Dev nD) (t : Fin cfg0.N) (X) (h : (rdats m c).Finds 3 t X) : X = iblk m c 3 t := by
  obtain ⟨d, hd⟩ := (dats m 0 c).toR_finds 3 t X (((dats m 0 c).toR.override_finds rfl t X).mp h)
  exact hd.trans (before0_3_of m (dats m 0 c) (A_eq m c 3) (after3 m c) t d)
theorem left3 (c : Dev nD) (t : Fin cfg0.N) (Y) : (rdats m c).after 3 t Y (iblk m c 3 t) :=
  (Dat.Leaves.live_iff (dat := dats m 0 c) (w := 3) (.inl rfl)).mpr (after3 m c t).symm
theorem found4 (c : Dev nD) (t : Fin cfg0.N) (X) (h : (rdats m c).Finds 4 t X) : X = iblk m c 4 t := by
  obtain ⟨d, hd⟩ := (dats m 0 c).toR_finds 4 t X (((dats m 0 c).toR.override_finds rfl t X).mp h)
  exact hd.trans (before0_4_of m (dats m 0 c) (A_eq m c 4) (after4 m c) t d)
theorem left4 (c : Dev nD) (t : Fin cfg0.N) (Y) : (rdats m c).after 4 t Y (iblk m c 4 t) :=
  (Dat.Leaves.live_iff (dat := dats m 0 c) (w := 4) (.inl rfl)).mpr (after4 m c t).symm
theorem found5 (c : Dev nD) (t : Fin cfg0.N) (X) (h : (rdats m c).Finds 5 t X) : X = iblk m c 5 t := by
  obtain ⟨d, hd⟩ := (dats m 0 c).toR_finds 5 t X (((dats m 0 c).toR.override_finds rfl t X).mp h)
  exact hd.trans (before0_5_of m (dats m 0 c) (A_eq m c 5) (after5 m c) t d)
theorem left5 (c : Dev nD) (t : Fin cfg0.N) (Y) : (rdats m c).after 5 t Y (iblk m c 5 t) :=
  (Dat.Leaves.live_iff (dat := dats m 0 c) (w := 5) (.inl rfl)).mpr (after5 m c t).symm
theorem left6 (c : Dev nD) (t : Fin cfg0.N) (Y) : (rdats m c).after 6 t Y (stepped (grid0.coords t) Y (tileAt m c t) (iblk m c 5 t)) := rfl

/-- A point is of one of four kinds, by its place in its row block. -/
theorem kinds : ∀ t : Fin cfg0.N, (k0_cond1 (grid0.coords t) = 1#1 ↔ t.val % 4 = 0) ∧ (k0_cond2 (grid0.coords t) = 1#1 ↔ t.val % 4 = 1)
    ∧ (k0_cond3 (grid0.coords t) = 1#1 ↔ t.val % 4 = 2) ∧ (k0_cond4 (grid0.coords t) = 1#1 ↔ t.val % 4 = 3)
    ∧ (k0_cond5 (grid0.coords t) = 1#1 ↔ t.val % 4 = 3) :=
  (by decide +kernel : ∀ t : Fin grid0.N, (k0_cond1 (grid0.coords t) = 1#1 ↔ t.val % 4 = 0) ∧ (k0_cond2 (grid0.coords t) = 1#1 ↔ t.val % 4 = 1)
    ∧ (k0_cond3 (grid0.coords t) = 1#1 ↔ t.val % 4 = 2) ∧ (k0_cond4 (grid0.coords t) = 1#1 ↔ t.val % 4 = 3)
    ∧ (k0_cond5 (grid0.coords t) = 1#1 ↔ t.val % 4 = 3))

theorem one_kind (t : Fin cfg0.N) : let i := grid0.coords t
    (k0_cond1 i = 1#1 ∧ ¬ k0_cond2 i = 1#1 ∧ ¬ k0_cond3 i = 1#1 ∧ ¬ k0_cond4 i = 1#1 ∧ ¬ k0_cond5 i = 1#1)
      ∨ (¬ k0_cond1 i = 1#1 ∧ k0_cond2 i = 1#1 ∧ ¬ k0_cond3 i = 1#1 ∧ ¬ k0_cond4 i = 1#1 ∧ ¬ k0_cond5 i = 1#1)
      ∨ (¬ k0_cond1 i = 1#1 ∧ ¬ k0_cond2 i = 1#1 ∧ k0_cond3 i = 1#1 ∧ ¬ k0_cond4 i = 1#1 ∧ ¬ k0_cond5 i = 1#1)
      ∨ (¬ k0_cond1 i = 1#1 ∧ ¬ k0_cond2 i = 1#1 ∧ ¬ k0_cond3 i = 1#1 ∧ k0_cond4 i = 1#1 ∧ k0_cond5 i = 1#1) := by
  obtain ⟨h1, h2, h3, h4, h5⟩ := kinds t
  dsimp only
  rw [h1, h2, h3, h4, h5]; omega

/-! ## The body obligation -/

/-- What the body is given at point `t`, -/
def bodyPre (c : Dev nD) (t : Fin cfg0.N) (y : Vec F S512x4096 .f32) : sProp 𝕄 :=
  iprop((rdats m c).Φ t.castSucc ∗ (rdats m c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare y)

/-- and what it gives back. -/
def bodyPost (c : Dev nD) (t : Fin cfg0.N) (y : Vec F S512x4096 .f32) : sProp 𝕄 :=
  iprop((rdats m c).Φ t.succ ∗ (rdats m c).owesAt () t.succ
    ∗ (∃ X, ⌜(rdats m c).after 0 t (iblk m c 0 t) X⌝ ∗ owns (c : Thread nD τ) (st0_0 t) fullShare X)
    ∗ (∃ X, ⌜(rdats m c).after 1 t (iblk m c 1 t) X⌝ ∗ owns (c : Thread nD τ) (st0_1 t) fullShare X)
    ∗ (∃ X, ⌜(rdats m c).after 2 t (iblk m c 2 t) X⌝ ∗ owns (c : Thread nD τ) (st0_2 t) fullShare X)
    ∗ (∃ X, ⌜(rdats m c).after 3 t (iblk m c 3 t) X⌝ ∗ owns (c : Thread nD τ) (st0_3 t) fullShare X)
    ∗ (∃ X, ⌜(rdats m c).after 4 t (iblk m c 4 t) X⌝ ∗ owns (c : Thread nD τ) (st0_4 t) fullShare X)
    ∗ (∃ X, ⌜(rdats m c).after 5 t (iblk m c 5 t) X⌝ ∗ owns (c : Thread nD τ) (st0_5 t) fullShare X)
    ∗ (∃ X, ⌜(rdats m c).after 6 t y X⌝ ∗ owns (c : Thread nD τ) (st0_6 t) fullShare X))

theorem body_at (c : Dev nD) (t : Fin cfg0.N) (y : Vec F S512x4096 .f32) :
    bodyPre m c t y ⊢ wp frame (wpE (defs₀ (F := F)) Variants.none c none) Set.univ (bodyAt0 t) (fun _ => bodyPost m c t y) := by
  unfold bodyPre bodyPost bodyAt0
  rw [show (rdats m c).Φ t.succ = (rdats m c).Φ t.castSucc from rfl,
    show (rdats m c).owesAt () t.succ = (rdats m c).owesAt () t.castSucc from rfl]
  iintro ⟨HΦ, Ho, H0, H1, H2, H3, H4, H5, H6⟩
  iapply (body_runs c Set.univ (grid0.coords t) _ _ _ _ _ _ _ _ _ _ _ _ _ _ (one_kind t) (iblk m c 0 t) (iblk m c 1 t) (iblk m c 2 t) (iblk m c 3 t) (iblk m c 4 t) (iblk m c 5 t) y _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]
  · iexists _; isplitr
    swap; · iexact H0
    ipureintro; exact left0 m c t _
  isplitl [H1]
  · iexists _; isplitr
    swap; · iexact H1
    ipureintro; exact left1 m c t _
  isplitl [H2]
  · iexists _; isplitr
    swap; · iexact H2
    ipureintro; exact left2 m c t _
  isplitl [H3]
  · iexists _; isplitr
    swap; · iexact H3
    ipureintro; exact left3 m c t _
  isplitl [H4]
  · iexists _; isplitr
    swap; · iexact H4
    ipureintro; exact left4 m c t _
  isplitl [H5]
  · iexists _; isplitr
    swap; · iexact H5
    ipureintro; exact left5 m c t _
  iexists _; isplitr
  swap; · iexact H6
  ipureintro; exact left6 m c t _

theorem row_eq (t : Fin cfg0.N) : defs₀ (F := F) .tc cfg0.body (cfg0.bodyArgs t (cfg0.slots t)) = bodyAt0 t := by
  unfold defs₀; rw [Defs.onTc_tc]

theorem obligation (c : Dev nD) : (rdats (F := F) m c).BodyObligation (defs₀ (F := F)) Variants.none () Set.univ := fun t Y hY => by
  have e0 := found0 m c t _ (hY 0)
  have e1 := found1 m c t _ (hY 1)
  have e2 := found2 m c t _ (hY 2)
  have e3 := found3 m c t _ (hY 3)
  have e4 := found4 m c t _ (hY 4)
  have e5 := found5 m c t _ (hY 5)
  rw [bigSep_W0, bigSep_W0, row_eq, e0, e1, e2, e3, e4, e5]
  exact triple_restated (body_at m c t (Y 6)) rfl .rfl fun _ => .rfl

/-! ## The run -/

set_option backward.isDefEq.respectTransparency.types false in
set_option maxHeartbeats 800000 in
/-- Every execution ends with the arrays as the proof data allow and every semaphore at zero. -/
theorem runs : θ_run defs (onTc (τ := τ) (main (F := F))) (s₀ m ρ) (fun r => (RDat.FramePost cfg0 (rdats m) (V m)) r ∧ r.2.sem = fun _ => 0) :=
  Pipeline.RDat.θ_run_frame_track_shared (Q' := _) cfgs (0 : Fin 1) launch₀0 defs₀ Variants.none (rdats m) m ρ main
    (hbody := obligation m) (hq := fun _ _ _ => rfl) (howed := fun _ _ => rfl) (V := V m) (hmain := hmain m Variants.none)
    (hA := A_eq m) (hin := fun _ => .rfl) (hout := fun _ => .rfl)

/-- The program ends, leaves its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.arr_in c 1 rfl).trans (V_main_arg0 m c), (h.1.arr_in c 2 rfl).trans (V_main_arg1 m c),
    (h.1.arr_in c 3 rfl).trans (V_main_arg2 m c), (h.1.arr_in c 4 rfl).trans (V_main_arg3 m c),
    ((h.1 c).2 main_arg4 (Pipeline.mem_restRefs_of main_arg4 (by decide) (by decide))).trans (V_main_arg4 m c)⟩, h.2⟩) (runs m ρ)

end Cert.NormIdeal.Last

end
-- ==== Proof.NormSame.lean ====
/-
  The pooling layer's output projection with the last norm: the program and the one read in exact arithmetic are one program, so that a run's facts,
  proved once for every arithmetic, hold of both.
-/
module

public import proofs.«01_k».proof.Defs
public import proofs.«01_k».proof.Proof.Gen.Norm.Frame
public import proofs.«01_k».proof.Proof.NormIdealFrame

@[expose] public section

set_option maxRecDepth 16384

noncomputable section

namespace LastSame

open Idealize.ShloMosaic Idealize.SL.Sem Cert

theorem kernels : Norm.defs₀ (F := Bits) = NormIdeal.defs₀ (F := Bits) := by
  unfold Norm.defs₀ NormIdeal.defs₀
  refine congrArg Defs.onTc ?_
  funext f x
  match f with
  | 0 => rfl

theorem bodies : Norm.defs (F := Bits) = NormIdeal.defs (F := Bits) := congrArg (Pipeline.defs Norm.pcfgs) kernels

/-- The program ends, leaves its arguments as they were and every semaphore at zero. -/
theorem frame : quiescent_Norm := fun m ρ _ =>
  (show ∀ d, d = NormIdeal.defs (F := Bits) → (θ_run d (onTc (τ := NormIdeal.τ) (NormIdeal.main (F := Bits))) ⟨m, fun _ => 0, ρ⟩ (fun r => (∀ c : Dev NormIdeal.nD,
      r.2.mem ((c.tc : Thread NormIdeal.nD NormIdeal.τ).loc NormIdeal.main_arg0) = m ((c.tc : Thread NormIdeal.nD NormIdeal.τ).loc NormIdeal.main_arg0)
      ∧ r.2.mem ((c.tc : Thread NormIdeal.nD NormIdeal.τ).loc NormIdeal.main_arg1) = m ((c.tc : Thread NormIdeal.nD NormIdeal.τ).loc NormIdeal.main_arg1)
      ∧ r.2.mem ((c.tc : Thread NormIdeal.nD NormIdeal.τ).loc NormIdeal.main_arg2) = m ((c.tc : Thread NormIdeal.nD NormIdeal.τ).loc NormIdeal.main_arg2)
      ∧ r.2.mem ((c.tc : Thread NormIdeal.nD NormIdeal.τ).loc NormIdeal.main_arg3) = m ((c.tc : Thread NormIdeal.nD NormIdeal.τ).loc NormIdeal.main_arg3)
      ∧ r.2.mem ((c.tc : Thread NormIdeal.nD NormIdeal.τ).loc NormIdeal.main_arg4) = m ((c.tc : Thread NormIdeal.nD NormIdeal.τ).loc NormIdeal.main_arg4))
      ∧ r.2.sem = fun _ => 0)) from fun d hd => by subst hd; exact NormIdeal.Last.frame m ρ) (Norm.defs (F := Bits)) bodies

end LastSame

end
-- ==== Proof.LastRows.lean ====
/-
  The pooling layer's output projection onto the gated residual stream, and the last norm, in exact arithmetic: the elements the
  kernel's arithmetic makes out of its blocks, and the elements of the reference.
-/
module

public import proofs.«01_k».proof.Defs
public import proofs.«01_k».proof.Proof.Tiles
public import proofs.«01_k».proof.Proof.Residual
public import proofs.«01_k».proof.Proof.NormIdealFrame
public import proofs.«01_k».proof.Proof.Gen.NormRefIdeal.Run
public import proofs.«01_k».proof.Proof.Gen.NormRefIdeal.Read
public import Idealize.ShloMosaic.Lib.Claim

@[expose] public section

set_option maxRecDepth 16384

noncomputable section

namespace LastNorm

open Idealize.ShloMosaic Idealize.ShloMosaic.ValueIdx Idealize.ShloMosaic.TcCoe Idealize.SL.Sem Idealize.ShloMosaic.Pipeline
open Cert Attention

/-- The residual stream's element after the layer: the old element and, through the gate of the row's own sequence, a row of the
    pooled heads against a column of the weights. -/
def stream (y : FVec Ideal ⟨2, ![8192, 4096]⟩ .bf16) (w : FVec Ideal ⟨2, ![4096, 4096]⟩ .bf16) (x : FVec Ideal ⟨2, ![8192, 4096]⟩ .f32)
    (md : FVec Ideal ⟨3, ![16, 1, 12288]⟩ .f32) (r : Fin 8192) (n : Fin 4096) : EReal :=
  x (ix2 r n) + md (ix3 ⟨r.val / 1024, by omega⟩ 0 ⟨8192 + n.val, by omega⟩) * ∑ k : Fin 4096, y (ix2 r k) * w (ix2 k n)

/-- The reciprocal root of a row's sum of squares `s` over the row's length, with the norm's constant added. -/
def root (s : EReal) : EReal := Ideal.rsqrt (Ideal.div s (Ideal.ofBits .f32 0x45800000#32) + Ideal.ofBits .f32 0x358637BD#32)

/-- The normed stream. -/
def normed (y : FVec Ideal ⟨2, ![8192, 4096]⟩ .bf16) (w : FVec Ideal ⟨2, ![4096, 4096]⟩ .bf16) (x : FVec Ideal ⟨2, ![8192, 4096]⟩ .f32)
    (md : FVec Ideal ⟨3, ![16, 1, 12288]⟩ .f32) (g : FVec Ideal ⟨1, ![4096]⟩ .f32) (r : Fin 8192) (n : Fin 4096) : EReal :=
  stream y w x md r n * root (∑ k : Fin 4096, stream y w x md r k * stream y w x md r k) * g (ix1 n)

section Kernel

open Cert.NormIdeal Cert.NormIdeal.Gen Cert.NormIdeal.Last

theorem tile_block (x0 x1 : Vec Ideal S512x2048 .bf16) (x2 : Vec Ideal S4096x1024 .bf16) (x3 : Vec Ideal S512x1024 .f32) (x4 : Vec Ideal S1x1x1024 .f32)
    (r : Fin 512) (n : Fin 1024) : Last.tile x0 x1 x2 x3 x4 (ix2 r n) = Residual.blockTile x0 x1 x2 x3 x4 r n :=
  (Residual.stream_payload _ _ _ _ _ _ r n).trans (Residual.loads x0 x1 x2 x3 x4 r n)

section Payloads

theorem same_block (v : FVec Ideal S512x1024 .f32) (h) (j : S512x1024.Idx) : shapeCast (α := EReal) S512x1024 v h j = v j :=
  shapeCast_apply (α := EReal) v h j j rfl

/-- A quarter of a row's sum of squares. -/
def quarter (v : FVec Ideal S512x1024 .f32) (r : Fin 512) : EReal := ∑ n : Fin 1024, (show EReal from v (ix2 r n)) * (show EReal from v (ix2 r n))

theorem quarter_apply (v : FVec Ideal S512x1024 .f32) (h') (r : Fin 512) :
    shapeCast (α := EReal) S512x1 (multiReduction (F := Ideal) .add [1] S512 (mulf (F := Ideal) (φ := .f32) v v) 0x00000000#32 reduces_S512x1024_S512 (.inl rfl) rfl) h' (ix2 r 0) = quarter v r := by
  refine (shapeCast_apply (α := EReal) _ h' (ix2 r 0) (ix1 r) (by
    rewrite [Shape.rowMajor_val_one, Shape.rowMajor_val_two]; show r.val = r.val * 1 + 0; omega)).trans ?_
  refine (Ideal.multiReduction_add_single (mulf (F := Ideal) (φ := .f32) v v) 0x00000000#32 reduces_S512x1024_S512 _ _ (ix1 r)).trans ?_
  refine Finset.sum_congr rfl fun n _ => ?_
  refine congrArg (fun j => (show EReal from v j) * (show EReal from v j)) ?_
  funext a; fin_cases a <;> exact Fin.ext rfl

variable (p0 p1 p2 p3 : Vec Ideal S512x1024 .f32)

theorem root_payload (r : Fin 512) : k0_pay1 p0 p1 p2 p3 (ix2 r 0) = root (((quarter p0 r + quarter p1 r) + quarter p2 r) + quarter p3 r) := by
  have e : ∀ (v : FVec Ideal S512x1024 .f32) h, shapeCast (α := EReal) S512x1024 v h = v := fun v h => funext (same_block v h)
  unfold k0_pay1
  simp only [e]
  exact congrArg (fun s => Ideal.rsqrt (Ideal.div s (Ideal.ofBits .f32 0x45800000#32) + Ideal.ofBits .f32 0x358637BD#32))
    (congrArg₂ (· + ·) (congrArg₂ (· + ·) (congrArg₂ (· + ·) (quarter_apply p0 _ r) (quarter_apply p1 _ r)) (quarter_apply p2 _ r)) (quarter_apply p3 _ r))

theorem scaled_payload (f : FVec Ideal S512x1 .f32) (v : Vec Ideal S512x1024 .f32) (g : Vec Ideal S1x1024 .f32) (r : Fin 512) (n : Fin 1024) :
    k0_pay4 f v g (ix2 r n) = (show EReal from v (ix2 r n)) * (show EReal from f (ix2 r 0)) * (show EReal from g (ix2 0 n)) := by
  refine congrArg₂ (· * ·) (congrArg₂ (· * ·) (same_block v _ _) ?_) ((Residual.spread_columns _ _ r n).trans (shapeCast_apply (α := EReal) g _ (ix2 0 n) (ix2 0 n) rfl))
  exact broadcastTo_apply (α := EReal) f _ (ix2 r n) (ix2 r 0) (fun a => by fin_cases a <;> rfl)

end Payloads

/-- A row's sum over its columns in four quarters. -/
theorem quarters (f : Fin 4096 → EReal) : ∑ k : Fin 4096, f k
    = ((∑ n : Fin 1024, f ⟨n.val, by omega⟩ + ∑ n : Fin 1024, f ⟨1024 + n.val, by omega⟩) + ∑ n : Fin 1024, f ⟨2048 + n.val, by omega⟩)
      + ∑ n : Fin 1024, f ⟨3072 + n.val, by omega⟩ :=
  (Fin.sum_univ_add (a := 1024 + 1024 + 1024) (b := 1024) f).trans (congrArg₂ (· + ·) ((Fin.sum_univ_add (a := 1024 + 1024) (b := 1024) _).trans
    (congrArg₂ (· + ·) (Fin.sum_univ_add (a := 1024) (b := 1024) _) rfl)) rfl)

theorem points : ∀ t : Fin grid0.N, win0_0.index t 0 = t.val / 4 ∧ win0_0.index t 1 = 0 ∧ win0_1.index t 0 = t.val / 4 ∧ win0_1.index t 1 = 1
    ∧ win0_2.index t 0 = 0 ∧ win0_2.index t 1 = t.val % 4 ∧ win0_3.index t 0 = t.val / 4 ∧ win0_3.index t 1 = t.val % 4
    ∧ win0_4.index t 0 = t.val / 8 ∧ win0_4.index t 1 = 0 ∧ win0_4.index t 2 = 8 + t.val % 4 := by decide +kernel

theorem points' : ∀ t : Fin grid0.N, win0_5.index t 0 = 0 ∧ win0_5.index t 1 = 0 ∧ win0_6.index t 0 = t.val / 4 ∧ win0_6.index t 1 = 0 := by decide +kernel

variable (m : (ℓ : Loc nD τ sig) → Buf (Elt Ideal) ℓ) (c : Dev nD)

/-- The kernel's stream, of the arguments it was given. -/
abbrev given (R : Fin 8192) (N : Fin 4096) : EReal :=
  stream (m ((c : Thread nD τ).loc main_arg0)) (m ((c : Thread nD τ).loc main_arg1)) (m ((c : Thread nD τ).loc main_arg2)) (m ((c : Thread nD τ).loc main_arg3)) R N

theorem tile_eq (t : Fin 64) (r : Fin 512) (n : Fin 1024) (R : Fin 8192) (N : Fin 4096) (hR : R.val = 512 * (t.val / 4) + r.val)
    (hN : N.val = 1024 * (t.val % 4) + n.val) : tileAt m c t (ix2 r n) = given m c R N := by
  refine (tile_block _ _ _ _ _ r n).trans ?_
  obtain ⟨p00, p01, p10, p11, p20, p21, p30, p31, p40, p41, p42⟩ := points t
  have hw : ∀ k : Fin 4096, iblk m c 2 t (ix2 k n) = m ((c : Thread nD τ).loc main_arg1) (ix2 k N) := fun k => by
    refine (congrArg (V m c (Pipeline.arrRef spec0 2)) (mem_block win0_2 t (ix2 k n) (ix2 k N) rfl fun a => ?_)).trans (congrFun (V_main_arg1 m c) _)
    fin_cases a
    · show win0_2.index t 0 * 4096 + k.val = k.val; omega
    · show win0_2.index t 1 * 1024 + n.val = N.val; omega
  refine congrArg₂ (· + ·) ?_ (congrArg₂ (· * ·) ?_ ?_)
  · refine (congrArg (V m c (Pipeline.arrRef spec0 3)) (mem_block win0_3 t (ix2 r n) (ix2 R N) rfl fun a => ?_)).trans (congrFun (V_main_arg2 m c) _)
    fin_cases a
    · show win0_3.index t 0 * 512 + r.val = R.val; omega
    · show win0_3.index t 1 * 1024 + n.val = N.val; omega
  · refine (congrArg (V m c (Pipeline.arrRef spec0 4)) (mem_block win0_4 t (ix3 0 0 n) (ix3 ⟨R.val / 1024, by omega⟩ 0 ⟨8192 + N.val, by omega⟩) rfl fun a => ?_)).trans (congrFun (V_main_arg3 m c) _)
    fin_cases a
    · show win0_4.index t 0 * 1 + 0 = R.val / 1024; omega
    · show win0_4.index t 1 * 1 + 0 = 0; omega
    · show win0_4.index t 2 * 1024 + n.val = 8192 + N.val; omega
  · refine Eq.trans ?_ (Fin.sum_univ_add (a := 2048) (b := 2048) fun k : Fin (2048 + 2048) => (show EReal from m ((c : Thread nD τ).loc main_arg0) (ix2 R k)) * (show EReal from m ((c : Thread nD τ).loc main_arg1) (ix2 k N))).symm
    refine congrArg₂ (· + ·) (Finset.sum_congr rfl fun k _ => congrArg₂ (· * ·) ?_ (hw _)) (Finset.sum_congr rfl fun k _ => congrArg₂ (· * ·) ?_ (hw _))
    · refine (congrArg (V m c (Pipeline.arrRef spec0 0)) (mem_block win0_0 t (ix2 r k) (ix2 R (Fin.castAdd 2048 k)) rfl fun a => ?_)).trans (congrFun (V_main_arg0 m c) _)
      fin_cases a
      · show win0_0.index t 0 * 512 + r.val = R.val; omega
      · show win0_0.index t 1 * 2048 + k.val = k.val; omega
    · refine (congrArg (V m c (Pipeline.arrRef spec0 1)) (mem_block win0_1 t (ix2 r k) (ix2 R (Fin.natAdd 2048 k)) rfl fun a => ?_)).trans (congrFun (V_main_arg0 m c) _)
      fin_cases a
      · show win0_1.index t 0 * 512 + r.val = R.val; omega
      · show win0_1.index t 1 * 2048 + k.val = 2048 + k.val; omega

theorem V_gain : V m c main_v0 = shapeCast (α := EReal) S1x4096 (m ((c : Thread nD τ).loc main_arg4)) shapeCasts_S4096_S1x4096 := by
  rfl

theorem gain_eq (t : Fin 64) (N : Fin 4096) : iblk m c 5 t (ix2 0 N) = m ((c : Thread nD τ).loc main_arg4) (ix1 N) := by
  obtain ⟨p50, p51, -⟩ := points' t
  refine (congrArg (V m c (Pipeline.arrRef spec0 5)) (mem_block win0_5 t (ix2 0 N) (ix2 0 N) rfl fun a => ?_)).trans ((congrFun (V_gain m c) _).trans ?_)
  · fin_cases a
    · show win0_5.index t 0 * 1 + 0 = 0; omega
    · show win0_5.index t 1 * 4096 + N.val = N.val; omega
  · exact shapeCast_apply (α := EReal) _ shapeCasts_S4096_S1x4096 (ix2 0 N) (ix1 N) (by
      rewrite [Shape.rowMajor_val_one, Shape.rowMajor_val_two]; show N.val = 0 * 4096 + N.val; omega)

end Kernel

section Reference

open Cert.NormRefIdeal Cert.NormRefIdeal.Gen Cert.NormRefIdeal.Read

variable (y : FVec Ideal S8192x4096 .bf16) (w : FVec Ideal S4096x4096 .bf16) (x : FVec Ideal S8192x4096 .f32) (md : FVec Ideal S16x1x12288 .f32)
  (g : FVec Ideal S4096 .f32)

theorem stream_reference (j : S8x1024x4096.Idx) (R : Fin 8192) (N : Fin 4096) (hR : R.val = 1024 * (j 0).val + (j 1).val) (hN : N.val = (j 2).val) :
    val_main_v8 (F := Ideal) y w x md j = stream y w x md R N := by
  have h0 : (j 0).val < 8 := (j 0).isLt
  have h1 : (j 1).val < 1024 := (j 1).isLt
  have h2 : (j 2).val < 4096 := (j 2).isLt
  refine congrArg₂ (· + ·) ((val_main_v5_apply (F := Ideal) x j).trans (congrArg x (funext fun a => ?_))) (congrArg₂ (· * ·) ?_ ?_)
  · fin_cases a
    · exact Fin.ext (by show (((j 0).val * 1024 + (j 1).val) * 4096 + (j 2).val) / 4096 = R.val; omega)
    · exact Fin.ext (by show (((j 0).val * 1024 + (j 1).val) * 4096 + (j 2).val) % 4096 = N.val; omega)
  · refine (val_main_v6_apply (F := Ideal) md j).trans ((val_main_v4_apply (F := Ideal) md _).trans (congrArg md (funext fun a => ?_)))
    fin_cases a
    · exact Fin.ext (by show (j 0).val = R.val / 1024; omega)
    · rfl
    · exact Fin.ext (by show 8192 + (j 2).val = 8192 + N.val; omega)
  · refine (val_main_v3_apply (F := Ideal) y w j).trans ((val_main_v2_apply y w _).trans (Finset.sum_congr rfl fun k _ => congrArg₂ (· * ·) (congrArg y (funext fun a => ?_)) (congrArg w (funext fun a => ?_))))
    · fin_cases a
      · exact Fin.ext (by show (((j 0).val * 1024 + (j 1).val) * 4096 + (j 2).val) / 4096 = R.val; omega)
      · rfl
    · fin_cases a
      · rfl
      · exact Fin.ext (by show (((j 0).val * 1024 + (j 1).val) * 4096 + (j 2).val) % 4096 = N.val; omega)

theorem squares_reference (j : S8x1024.Idx) (R : Fin 8192) (hR : R.val = 1024 * (j 0).val + (j 1).val) :
    val_main_v10 (F := Ideal) y w x md j = ∑ k : Fin 4096, stream y w x md R k * stream y w x md R k := by
  refine (val_main_v10_apply y w x md j).trans ?_
  have hz : val_main_cst (F := Ideal) (Shape.Idx.first h_S_) = 0 := by
    show Ideal.ofBits .f32 0x00000000#32 = 0
    simp [Ideal.ofBits, Ideal.ieee]
  rw [hz, zero_add]
  refine Finset.sum_congr rfl fun k _ => ?_
  have e := stream_reference y w x md (idx_main_v10 j k) R k hR rfl
  exact congrArg₂ (· * ·) e e

theorem normed_reference (i : S8192x4096.Idx) : val_main_v22 (F := Ideal) y w x md g i = normed y w x md g (i 0) (i 1) := by
  have h0 : (i 0).val < 8192 := (i 0).isLt
  have h1 : (i 1).val < 4096 := (i 1).isLt
  refine (val_main_v22_apply (F := Ideal) y w x md g i).trans ?_
  have b0 : (idx_main_v22 i 0).val = (i 0).val / 1024 := by show ((i 0).val * 4096 + (i 1).val) / 4194304 = (i 0).val / 1024; omega
  have b1 : (idx_main_v22 i 1).val = (i 0).val % 1024 := by show ((i 0).val * 4096 + (i 1).val) / 4096 % 1024 = (i 0).val % 1024; omega
  have b2 : (idx_main_v22 i 2).val = (i 1).val := by show ((i 0).val * 4096 + (i 1).val) % 4096 = (i 1).val; omega
  refine congrArg₂ (· * ·) (congrArg₂ (· * ·) (stream_reference y w x md _ (i 0) (i 1) (by omega) b2.symm) ?_) ?_
  · refine (val_main_v17_apply (F := Ideal) y w x md _).trans ?_
    refine congrArg root ((val_main_v11_apply (F := Ideal) y w x md _).trans (squares_reference y w x md _ (i 0) ?_))
    show (i 0).val = 1024 * (idx_main_v22 i 0).val + (idx_main_v22 i 1).val
    omega
  · refine (val_main_v20_apply (F := Ideal) g _).trans ((val_main_v19_apply (F := Ideal) g _).trans (congrArg g (funext fun a => ?_)))
    fin_cases a
    exact Fin.ext b2

end Reference

end LastNorm

end
-- ==== Proof.LastNorm.lean ====
/-
  The pooling layer's output projection with the last norm, in exact arithmetic: the four points of a row of blocks leave the normed
  rows in the output's block, the blocks make up the array, and the reference writes the same.
-/
module

public import proofs.«01_k».proof.Proof.LastRows
public import Idealize.ShloMosaic.Lib.Pipeline.ArrRel

@[expose] public section

set_option maxRecDepth 16384

noncomputable section

namespace LastNorm

open Idealize.ShloMosaic Idealize.ShloMosaic.ValueIdx Idealize.ShloMosaic.TcCoe Idealize.SL.Sem Idealize.ShloMosaic.Pipeline
open Cert Attention

section Kernel

open Cert.NormIdeal Cert.NormIdeal.Gen Cert.NormIdeal.Last

section Blocks

variable (y : Vec Ideal S512x4096 .f32) (q : Vec Ideal S512x1024 .f32) (o : ℕ) (r : Fin 512)

theorem put_in (n : Fin 1024) (N : Fin 4096) (h : N.val = o + n.val) : Last.put (F := Ideal) o y q (ix2 r N) = q (ix2 r n) := by
  have hn := n.isLt
  have hr := r.isLt
  refine (dif_pos (fun a => ?_)).trans (congrArg q (funext fun a => ?_))
  · fin_cases a
    · show 0 ≤ r.val ∧ r.val < 0 + 512; omega
    · show o ≤ N.val ∧ N.val < o + 1024; omega
  · fin_cases a
    · exact Fin.ext (by show r.val - 0 = r.val; omega)
    · exact Fin.ext (by show N.val - o = n.val; omega)

theorem put_out (N : Fin 4096) (h : N.val < o ∨ o + 1024 ≤ N.val) : Last.put (F := Ideal) o y q (ix2 r N) = y (ix2 r N) := by
  refine dif_neg fun hh => ?_
  have h1 : o ≤ N.val ∧ N.val < o + 1024 := hh 1
  omega

/-- The columns of a block from `o` on are a tile's. -/
def Holds (o : ℕ) (y : Vec Ideal S512x4096 .f32) (q : Vec Ideal S512x1024 .f32) : Prop :=
  ∀ (r : Fin 512) (n : Fin 1024) (N : Fin 4096), N.val = o + n.val → y (ix2 r N) = q (ix2 r n)

theorem holds_put : Holds o (Last.put (F := Ideal) o y q) q := fun r n N h => put_in y q o r n N h

theorem holds_other {o' : ℕ} {q' : Vec Ideal S512x1024 .f32} (h : o' + 1024 ≤ o) (hy : Holds o' y q') : Holds o' (Last.put (F := Ideal) o y q) q' :=
  fun r n N e => (put_out y q o r N (Or.inl (by have := n.isLt; omega))).trans (hy r n N e)

theorem loaded (inb : ∀ a, (![0, o] : Fin 2 → ℕ) a + (![512, 1024] : Fin 2 → ℕ) a ≤ S512x4096.size a) (h : Holds o y q) :
    View.ld y (Rect.unit (s := S512x4096) ![0, o] ![512, 1024] inb) = q := by
  funext j
  have hj1 : (j 1).val < 1024 := (j 1).isLt
  have ho : o + 1024 ≤ 4096 := inb 1
  refine Eq.trans (congrArg y ?_) ((h (j 0) (j 1) ⟨o + (j 1).val, by omega⟩ rfl).trans (congrArg q ?_))
  · funext a; fin_cases a
    · exact Fin.ext (by show 0 + 1 * (j 0).val = (j 0).val; omega)
    · exact Fin.ext (by show o + 1 * (j 1).val = o + (j 1).val; omega)
  · funext a; fin_cases a <;> rfl

theorem loaded_gain (g : Vec Ideal S1x4096 .f32) (inb : ∀ a, (![0, o] : Fin 2 → ℕ) a + S1x1024.size a ≤ S1x4096.size a) (n : Fin 1024) (N : Fin 4096) (h : N.val = o + n.val) :
    View.ld g (Rect.unit (s := S1x4096) ![0, o] S1x1024.size inb) (ix2 0 n) = g (ix2 0 N) := by
  refine congrArg g (funext fun a => ?_)
  fin_cases a
  · rfl
  · exact Fin.ext (by show o + 1 * n.val = N.val; omega)

variable (p0 p1 p2 p3 : Vec Ideal S512x1024 .f32) (g : Vec Ideal S1x4096 .f32)

/-- The columns of the finished block: every tile's elements by the reciprocal root of the row and the gain. -/
def Normed (o : ℕ) (y : Vec Ideal S512x4096 .f32) (q : Vec Ideal S512x1024 .f32) : Prop :=
  ∀ (r : Fin 512) (n : Fin 1024) (N : Fin 4096), N.val = o + n.val → y (ix2 r N)
    = (show EReal from q (ix2 r n)) * root (((quarter p0 r + quarter p1 r) + quarter p2 r) + quarter p3 r) * (show EReal from g (ix2 0 N))

theorem normed_put (inb : ∀ a, (![0, o] : Fin 2 → ℕ) a + S1x1024.size a ≤ S1x4096.size a) :
    Normed p0 p1 p2 p3 g o (Last.put (F := Ideal) o y (k0_pay4 (k0_pay1 p0 p1 p2 p3) q (View.ld g (Rect.unit (s := S1x4096) ![0, o] S1x1024.size inb)))) q := fun r n N h => by
  refine (put_in y _ o r n N h).trans ((scaled_payload _ q _ r n).trans ?_)
  exact congrArg₂ (· * ·) (congrArg (_ * ·) (root_payload p0 p1 p2 p3 r)) (loaded_gain o g inb n N h)

theorem normed_other {o' : ℕ} {q' w : Vec Ideal S512x1024 .f32} (h : o' + 1024 ≤ o) (hy : Normed p0 p1 p2 p3 g o' y q') :
    Normed p0 p1 p2 p3 g o' (Last.put (F := Ideal) o y w) q' :=
  fun r n N e => (put_out y w o r N (Or.inl (by have := n.isLt; omega))).trans (hy r n N e)

theorem finished_columns (h0 : Holds 0 y p0) (h1 : Holds 1024 y p1) (h2 : Holds 2048 y p2) :
    Normed p0 p1 p2 p3 g 0 (finished y p3 g) p0 ∧ Normed p0 p1 p2 p3 g 1024 (finished y p3 g) p1
    ∧ Normed p0 p1 p2 p3 g 2048 (finished y p3 g) p2 ∧ Normed p0 p1 p2 p3 g 3072 (finished y p3 g) p3 := by
  unfold finished
  rw [loaded y p0 0 _ h0, loaded y p1 1024 _ h1, loaded y p2 2048 _ h2]
  refine ⟨normed_other _ _ _ _ _ _ _ (by omega) (normed_other _ _ _ _ _ _ _ (by omega) (normed_other _ _ _ _ _ _ _ (by omega) ?_)),
    normed_other _ _ _ _ _ _ _ (by omega) (normed_other _ _ _ _ _ _ _ (by omega) ?_), normed_other _ _ _ _ _ _ _ (by omega) ?_, ?_⟩
  · exact normed_put _ p0 0 p0 p1 p2 p3 g _
  · exact normed_put _ p1 1024 p0 p1 p2 p3 g _
  · exact normed_put _ p2 2048 p0 p1 p2 p3 g _
  · exact normed_put _ p3 3072 p0 p1 p2 p3 g _

end Blocks

variable (m : (ℓ : Loc nD τ sig) → Buf (Elt Ideal) ℓ) (c : Dev nD)

theorem found_before (t : Fin cfg0.N) (ht : t.val % 4 ≠ 0) (s : Fin cfg0.N) (hs : s.val = t.val - 1) (Y) (h : (rdats m c).Finds 6 t Y) : (rdats m c).Leaves 6 s Y := by
  have e : s = ⟨t.val - 1, by have := t.isLt; omega⟩ := Fin.ext hs
  rcases ((rdats m c).finds_of_pos (w := 6) (t := t) rfl (by omega) Y).mp h with hf | hl
  · have h3 := (flush0_6 _).mp hf
    have : (t.val - 1) % 4 = 3 := h3
    omega
  · rw [e]; exact hl

theorem first (t : Fin cfg0.N) (ht : t.val % 4 = 0) (X) (h : (rdats m c).Leaves 6 t X) : Holds 0 X (tileAt m c t) := by
  obtain ⟨Y, -, hX⟩ := h
  have hX' : X = stepped (grid0.coords t) Y (tileAt m c t) (iblk m c 5 t) := hX
  unfold stepped at hX'
  rw [if_pos ((kinds t).1.mpr ht)] at hX'
  rw [hX']
  exact holds_put _ _ _

theorem second (t s : Fin cfg0.N) (ht : t.val % 4 = 1) (hs : s.val = t.val - 1) (X) (h : (rdats m c).Leaves 6 t X) :
    Holds 0 X (tileAt m c s) ∧ Holds 1024 X (tileAt m c t) := by
  obtain ⟨Y, hY, hX⟩ := h
  have hX' : X = stepped (grid0.coords t) Y (tileAt m c t) (iblk m c 5 t) := hX
  have hf := first m c s (by omega) Y (found_before m c t (by omega) s hs Y hY)
  unfold stepped at hX'
  rw [if_neg (fun hh => by have := (kinds t).1.mp hh; omega), if_pos ((kinds t).2.1.mpr ht)] at hX'
  rw [hX']
  exact ⟨holds_other _ _ _ (by omega) hf, holds_put _ _ _⟩

theorem third (t s u : Fin cfg0.N) (ht : t.val % 4 = 2) (hs : s.val = t.val - 1) (hu : u.val = t.val - 2) (X) (h : (rdats m c).Leaves 6 t X) :
    Holds 0 X (tileAt m c u) ∧ Holds 1024 X (tileAt m c s) ∧ Holds 2048 X (tileAt m c t) := by
  obtain ⟨Y, hY, hX⟩ := h
  have hX' : X = stepped (grid0.coords t) Y (tileAt m c t) (iblk m c 5 t) := hX
  obtain ⟨hf, hg⟩ := second m c s u (by omega) (by omega) Y (found_before m c t (by omega) s hs Y hY)
  unfold stepped at hX'
  rw [if_neg (fun hh => by have := (kinds t).1.mp hh; omega), if_neg (fun hh => by have := (kinds t).2.1.mp hh; omega), if_pos ((kinds t).2.2.1.mpr ht)] at hX'
  rw [hX']
  exact ⟨holds_other _ _ _ (by omega) hf, holds_other _ _ _ (by omega) hg, holds_put _ _ _⟩

/-- What the last point of a row of blocks leaves. -/
theorem fourth (t s u v : Fin cfg0.N) (ht : t.val % 4 = 3) (hs : s.val = t.val - 1) (hu : u.val = t.val - 2) (hv : v.val = t.val - 3) (X)
    (h : (rdats m c).Leaves 6 t X) : let N := Normed (tileAt m c v) (tileAt m c u) (tileAt m c s) (tileAt m c t) (iblk m c 5 t)
    N 0 X (tileAt m c v) ∧ N 1024 X (tileAt m c u) ∧ N 2048 X (tileAt m c s) ∧ N 3072 X (tileAt m c t) := by
  obtain ⟨Y, hY, hX⟩ := h
  have hX' : X = stepped (grid0.coords t) Y (tileAt m c t) (iblk m c 5 t) := hX
  obtain ⟨h0, h1, h2⟩ := third m c s u v (by omega) (by omega) (by omega) Y (found_before m c t (by omega) s hs Y hY)
  unfold stepped at hX'
  rw [if_neg (fun hh => by have := (kinds t).1.mp hh; omega), if_neg (fun hh => by have := (kinds t).2.1.mp hh; omega), if_neg (fun hh => by have := (kinds t).2.2.1.mp hh; omega)] at hX'
  rw [hX']
  exact finished_columns _ _ _ _ _ _ h0 h1 h2

theorem quarter_eq (s : Fin 64) (r : Fin 512) (R : Fin 8192) (hR : R.val = 512 * (s.val / 4) + r.val) (o : ℕ) (ho : o = 1024 * (s.val % 4)) :
    quarter (tileAt m c s) r = ∑ n : Fin 1024, given m c R ⟨o + n.val, by omega⟩ * given m c R ⟨o + n.val, by omega⟩ :=
  Finset.sum_congr rfl fun n _ => by
    have e := tile_eq m c s r n R ⟨o + n.val, by omega⟩ hR (by show o + n.val = _; omega)
    exact congrArg₂ (· * ·) e e

/-- The kernel's result, of the arguments it was given. -/
abbrev result : FVec Ideal S8192x4096 .f32 := fun i =>
  normed (m ((c : Thread nD τ).loc main_arg0)) (m ((c : Thread nD τ).loc main_arg1)) (m ((c : Thread nD τ).loc main_arg2)) (m ((c : Thread nD τ).loc main_arg3))
    (m ((c : Thread nD τ).loc main_arg4)) (i 0) (i 1)

theorem block_eq (t : Fin cfg0.N) (ht : t.val % 4 = 3) (X) (h : (rdats m c).Leaves 6 t X) (r : Fin 512) (R : Fin 8192) (N : Fin 4096)
    (hR : R.val = 512 * (t.val / 4) + r.val) : X (ix2 r N) = result m c (ix2 R N) := by
  have hb : t.val < 64 := t.isLt
  have hN := N.isLt
  let s : Fin 64 := ⟨t.val - 1, by omega⟩
  let u : Fin 64 := ⟨t.val - 2, by omega⟩
  let v : Fin 64 := ⟨t.val - 3, by omega⟩
  have vs : s.val = t.val - 1 := rfl
  have vu : u.val = t.val - 2 := rfl
  have vv : v.val = t.val - 3 := rfl
  obtain ⟨k0, k1, k2, k3⟩ := fourth m c t s u v ht vs vu vv X h
  have hq : ((quarter (tileAt m c v) r + quarter (tileAt m c u) r) + quarter (tileAt m c s) r) + quarter (tileAt m c t) r
      = ∑ k : Fin 4096, given m c R k * given m c R k := by
    rw [quarters (fun k => given m c R k * given m c R k), quarter_eq m c v r R (by omega) 0 (by omega), quarter_eq m c u r R (by omega) 1024 (by omega),
      quarter_eq m c s r R (by omega) 2048 (by omega), quarter_eq m c t r R (by omega) 3072 (by omega)]
    simp only [Nat.zero_add]
  have key : ∀ (w : Fin 64) (o : ℕ) (n : Fin 1024), N.val = o + n.val → o = 1024 * (w.val % 4) → w.val / 4 = t.val / 4 →
      Normed (tileAt m c v) (tileAt m c u) (tileAt m c s) (tileAt m c t) (iblk m c 5 t) o X (tileAt m c w) → X (ix2 r N) = result m c (ix2 R N) :=
    fun w o n hn ho hw hk => (hk r n N hn).trans (congrArg₂ (· * ·) (congrArg₂ (· * ·) (tile_eq m c w r n R N (by omega) (by omega)) (congrArg root hq)) (gain_eq m c t N))
  rcases (by omega : N.val / 1024 = 0 ∨ N.val / 1024 = 1 ∨ N.val / 1024 = 2 ∨ N.val / 1024 = 3) with e | e | e | e
  · exact key v 0 ⟨N.val % 1024, by omega⟩ (by show N.val = 0 + N.val % 1024; omega) (by omega) (by omega) k0
  · exact key u 1024 ⟨N.val % 1024, by omega⟩ (by show N.val = 1024 + N.val % 1024; omega) (by omega) (by omega) k1
  · exact key s 2048 ⟨N.val % 1024, by omega⟩ (by show N.val = 2048 + N.val % 1024; omega) (by omega) (by omega) k2
  · exact key t 3072 ⟨N.val % 1024, by omega⟩ (by show N.val = 3072 + N.val % 1024; omega) (by omega) (by omega) k3

theorem array_eq (after : (w : Fin cfg0.W) → (t : Fin cfg0.N) → _) (ha : ∀ w u, (cfg0.win w).flush u = true → (rdats m c).Leaves w u (after w u)) :
    ((rdats m c).withAfter after).arrAt 6 cfg0.N = result m c := by
  refine ((rdats m c).withAfter after).arrAt_eq_of_cover 6 _ (fun t hf => ?_) (Window.Covers.cover (w := win0_6) (by decide +kernel) (Memref.isWhole_whole _))
  show (cfg0.win 6).cut (grid0.coords t) (after 6 t) = _
  funext y
  have e0 : ((win0_6.rect t).emb y 0).val = win0_6.index t 0 * 512 + (y 0).val := win0_6.rect_emb_val t y 0 rfl
  have e1 : ((win0_6.rect t).emb y 1).val = win0_6.index t 1 * 4096 + (y 1).val := win0_6.rect_emb_val t y 1 rfl
  obtain ⟨-, -, p0, p1⟩ := points' t
  have hR : ((win0_6.rect t).emb y 0).val = 512 * (t.val / 4) + (y 0).val := by rw [e0, p0]; omega
  have hN : ((win0_6.rect t).emb y 1).val = (y 1).val := by rw [e1, p1]; omega
  refine Eq.trans (congrArg (after 6 t) (?_ : _ = ix2 (y 0) ((win0_6.rect t).emb y 1)))
    ((block_eq m c t ((flush0_6 t).mp hf) (after 6 t) (ha 6 t hf) (y 0) ((win0_6.rect t).emb y 0) ((win0_6.rect t).emb y 1) hR).trans rfl)
  funext a; fin_cases a
  · rfl
  · exact Fin.ext hN.symm

end Kernel

/-- The kernel and its reference end with equal results. -/
theorem equation : algebraic_NormIdeal_NormRefIdeal := by
  intro m ρ m' ρ' _ hagree
  refine ⟨fun c => result m c, ?_, θ_run_mono (NormRefIdeal.Value.run m' ρ') fun r h c => ⟨(h c).1.trans ?_, (h c).2⟩⟩
  · refine θ_run_mono (NormIdeal.Last.runs m ρ) fun r h c => ⟨?_, (h.1.arr_in c 1 rfl).trans (NormIdeal.Gen.V_main_arg0 m c),
      (h.1.arr_in c 2 rfl).trans (NormIdeal.Gen.V_main_arg1 m c), (h.1.arr_in c 3 rfl).trans (NormIdeal.Gen.V_main_arg2 m c), (h.1.arr_in c 4 rfl).trans (NormIdeal.Gen.V_main_arg3 m c),
      ((h.1 c).2 NormIdeal.main_arg4 (Pipeline.mem_restRefs_of NormIdeal.main_arg4 (by decide) (by decide))).trans (NormIdeal.Gen.V_main_arg4 m c)⟩
    obtain ⟨after, ha, he⟩ := h.1.exists_exact c
    exact (he 6).trans (array_eq m c after ha)
  · obtain ⟨a0, a1, a2, a3, a4⟩ := hagree c
    refine (NormRefIdeal.Read.val_main_v22_eq _ _ _ _ _).trans ?_
    rw [a0, a1, a2, a3, a4]
    exact funext fun i => normed_reference _ _ _ _ _ i

end LastNorm

end
-- ==== Proof.lean ====
/-
  The claims together: each program runs, leaves its arguments and its semaphores as it found them; the ideal programs are the
  kernels over the extended reals; and kernel and reference end with equal results.
-/
module

public import proofs.«01_k».proof.Defs
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Qg
public import proofs.«01_k».proof.Proof.Gen.Qg.Skeleton
public import proofs.«01_k».proof.Proof.Gen.Qg.Launch
public import proofs.«01_k».proof.Proof.Gen.Qg.Points
public import proofs.«01_k».proof.Proof.Gen.Qg.Frame
public import proofs.«01_k».proof.Proof.Gen.QgIdeal
public import proofs.«01_k».proof.Proof.Gen.QgIdeal.Skeleton
public import proofs.«01_k».proof.Proof.Gen.QgIdeal.Launch
public import proofs.«01_k».proof.Proof.Gen.QgIdeal.Points
public import proofs.«01_k».proof.Proof.Gen.QgIdeal.Frame
public import proofs.«01_k».proof.Proof.Gen.QgRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Run
public import proofs.«01_k».proof.Proof.Gen.NormRefIdeal.Read
public import proofs.«01_k».proof.Proof.Gen.Pre_finite_logits
public import proofs.«01_k».proof.Proof.Gen.CtxIdeal.Value
public import proofs.«01_k».proof.Proof.Gen.CtxRefIdeal.Run
public import proofs.«01_k».proof.Proof.Gen.CtxRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.QgIdeal.Value
public import proofs.«01_k».proof.Proof.Gen.QgRefIdeal.Run
public import proofs.«01_k».proof.Proof.Gen.QgRefIdeal.Read
public import proofs.«01_k».proof.Proof.Gen.PostIdeal.Value
public import proofs.«01_k».proof.Proof.Gen.PostRefIdeal.Run
public import proofs.«01_k».proof.Proof.Gen.PostRefIdeal.Read
public import proofs.«01_k».proof.Proof.Gen.PrenormIdeal.Value
public import proofs.«01_k».proof.Proof.Gen.PrenormRefIdeal.Run
public import proofs.«01_k».proof.Proof.Gen.PrenormRefIdeal.Read
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormRefIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.KvRefIdeal.Run
public import proofs.«01_k».proof.Proof.Gen.KvRefIdeal.Read
public import proofs.«01_k».proof.Proof.Frames
public import proofs.«01_k».proof.Proof.CtxClaim
public import proofs.«01_k».proof.Proof.Projection
public import proofs.«01_k».proof.Proof.QueriesGates
public import proofs.«01_k».proof.Proof.Normalised
public import proofs.«01_k».proof.Proof.Residual
public import proofs.«01_k».proof.Proof.KvSame
public import proofs.«01_k».proof.Proof.KeysArrays
public import proofs.«01_k».proof.Proof.NormSame
public import proofs.«01_k».proof.Proof.LastNorm

@[expose] public section

noncomputable section

namespace Cert.Proof

/-- Everything that is claimed. -/
theorem claim : Cert.Claim :=
  ⟨Cert.Ctx.Gen.facts,
    Cert.CtxIdeal.Gen.facts,
    Cert.CtxRefIdeal.Gen.facts,
    Cert.Proj.Gen.facts,
    Cert.ProjIdeal.Gen.facts,
    Cert.ProjRefIdeal.Gen.facts,
    Cert.Qg.Gen.facts,
    Cert.QgIdeal.Gen.facts,
    Cert.QgRefIdeal.Gen.facts,
    Cert.Post.Gen.facts,
    Cert.PostIdeal.Gen.facts,
    Cert.PostRefIdeal.Gen.facts,
    Cert.Prenorm.Gen.facts,
    Cert.PrenormIdeal.Gen.facts,
    Cert.PrenormRefIdeal.Gen.facts,
    Cert.Kv.Gen.facts,
    Cert.KvIdeal.Gen.facts,
    Cert.KvRefIdeal.Gen.facts,
    Cert.Norm.Gen.facts,
    Cert.NormIdeal.Gen.facts,
    Cert.NormRefIdeal.Gen.facts,
    Cert.Pre_finite_logits.Gen.facts,
    fun m ρ _ => Cert.Ctx.Gen.frame m ρ,
    fun m ρ _ => Cert.CtxIdeal.Gen.frame m ρ,
    fun m ρ _ => Cert.CtxIdeal.Gen.frame m ρ,
    fun m ρ _ => Attention.Claim.reference_frame m ρ,
    fun m ρ _ => Attention.Claim.reference_frame m ρ,
    fun m ρ _ => Cert.Proj.Gen.frame m ρ,
    fun m ρ _ => Cert.ProjIdeal.Gen.frame m ρ,
    References.proj,
    fun m ρ _ => Cert.Qg.Gen.frame m ρ,
    fun m ρ _ => Cert.QgIdeal.Gen.frame m ρ,
    References.qg,
    fun m ρ _ => Cert.Post.Gen.frame m ρ,
    fun m ρ _ => Cert.PostIdeal.Gen.frame m ρ,
    References.post,
    fun m ρ _ => Cert.Prenorm.Gen.frame m ρ,
    fun m ρ _ => Cert.PrenormIdeal.Gen.frame m ρ,
    References.prenorm,
    KeysSame.frame,
    fun m ρ _ => Cert.KvIdeal.Keys.frame m ρ,
    References.kv,
    LastSame.frame,
    fun m ρ _ => Cert.NormIdeal.Last.frame m ρ,
    References.norm,
    Attention.Claim.preserved,
    Attention.Claim.equation,
    trivial,
    Projection.equation,
    trivial,
    QueriesGates.equation,
    trivial,
    Normalised.equation,
    trivial,
    Residual.equation,
    trivial,
    KeysValues.equation,
    trivial,
    LastNorm.equation⟩

end Cert.Proof

end
